-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnOdd (m : (ℓ : Loc Cert.FfnOdd.nD Cert.FfnOdd.τ Cert.FfnOdd.sig) → Buf (Elt Bits) ℓ) : Prop :=
  True

def Pre_FfnOddIdeal (m : (ℓ : Loc Cert.FfnOddIdeal.nD Cert.FfnOddIdeal.τ Cert.FfnOddIdeal.sig) → Buf (Elt Ideal) ℓ) : Prop :=
  True

def Pre_FfnOddRefIdeal (m : (ℓ : Loc Cert.FfnOddRefIdeal.nD Cert.FfnOddRefIdeal.τ Cert.FfnOddRefIdeal.sig) → Buf (Elt Ideal) ℓ) : Prop :=
  True

def Pre_FfnEven (m : (ℓ : Loc Cert.FfnEven.nD Cert.FfnEven.τ Cert.FfnEven.sig) → Buf (Elt Bits) ℓ) : Prop :=
  True

def Pre_FfnEvenIdeal (m : (ℓ : Loc Cert.FfnEvenIdeal.nD Cert.FfnEvenIdeal.τ Cert.FfnEvenIdeal.sig) → Buf (Elt Ideal) ℓ) : Prop :=
  True

def Pre_FfnEvenRefIdeal (m : (ℓ : Loc Cert.FfnEvenRefIdeal.nD Cert.FfnEvenRefIdeal.τ Cert.FfnEvenRefIdeal.sig) → Buf (Elt Ideal) ℓ) : Prop :=
  True

def Pre_ProjOdd (m : (ℓ : Loc Cert.ProjOdd.nD Cert.ProjOdd.τ Cert.ProjOdd.sig) → Buf (Elt Bits) ℓ) : Prop :=
  True

def Pre_ProjOddIdeal (m : (ℓ : Loc Cert.ProjOddIdeal.nD Cert.ProjOddIdeal.τ Cert.ProjOddIdeal.sig) → Buf (Elt Ideal) ℓ) : Prop :=
  True

def Pre_ProjOddRefIdeal (m : (ℓ : Loc Cert.ProjOddRefIdeal.nD Cert.ProjOddRefIdeal.τ Cert.ProjOddRefIdeal.sig) → Buf (Elt Ideal) ℓ) : Prop :=
  True

def Pre_ProjEven (m : (ℓ : Loc Cert.ProjEven.nD Cert.ProjEven.τ Cert.ProjEven.sig) → Buf (Elt Bits) ℓ) : Prop :=
  True

def Pre_ProjEvenIdeal (m : (ℓ : Loc Cert.ProjEvenIdeal.nD Cert.ProjEvenIdeal.τ Cert.ProjEvenIdeal.sig) → Buf (Elt Ideal) ℓ) : Prop :=
  True

def Pre_ProjEvenRefIdeal (m : (ℓ : Loc Cert.ProjEvenRefIdeal.nD Cert.ProjEvenRefIdeal.τ Cert.ProjEvenRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnOdd [hFfnOdd : Cert.FfnOdd.Facts] : Prop :=
  ∀ (m : (ℓ : Loc Cert.FfnOdd.nD Cert.FfnOdd.τ Cert.FfnOdd.sig) → Buf (Elt Bits) ℓ) (g : Dev Cert.FfnOdd.nD → PrngReg), Pre_FfnOdd m →
    θ_run (Cert.FfnOdd.defs (F := Bits)) (onTc (τ := Cert.FfnOdd.τ) (Cert.FfnOdd.main (F := Bits))) ⟨m, fun _ => 0, g⟩ (fun r => (∀ c : Dev Cert.FfnOdd.nD,
      r.2.mem ((c.tc : Thread Cert.FfnOdd.nD Cert.FfnOdd.τ).loc Cert.FfnOdd.main_arg0) = m ((c.tc : Thread Cert.FfnOdd.nD Cert.FfnOdd.τ).loc Cert.FfnOdd.main_arg0)
      ∧ r.2.mem ((c.tc : Thread Cert.FfnOdd.nD Cert.FfnOdd.τ).loc Cert.FfnOdd.main_arg1) = m ((c.tc : Thread Cert.FfnOdd.nD Cert.FfnOdd.τ).loc Cert.FfnOdd.main_arg1)
      ∧ r.2.mem ((c.tc : Thread Cert.FfnOdd.nD Cert.FfnOdd.τ).loc Cert.FfnOdd.main_arg2) = m ((c.tc : Thread Cert.FfnOdd.nD Cert.FfnOdd.τ).loc Cert.FfnOdd.main_arg2)
      ∧ r.2.mem ((c.tc : Thread Cert.FfnOdd.nD Cert.FfnOdd.τ).loc Cert.FfnOdd.main_arg3) = m ((c.tc : Thread Cert.FfnOdd.nD Cert.FfnOdd.τ).loc Cert.FfnOdd.main_arg3)
      ∧ r.2.mem ((c.tc : Thread Cert.FfnOdd.nD Cert.FfnOdd.τ).loc Cert.FfnOdd.main_arg4) = m ((c.tc : Thread Cert.FfnOdd.nD Cert.FfnOdd.τ).loc Cert.FfnOdd.main_arg4)
      ∧ r.2.mem ((c.tc : Thread Cert.FfnOdd.nD Cert.FfnOdd.τ).loc Cert.FfnOdd.main_arg5) = m ((c.tc : Thread Cert.FfnOdd.nD Cert.FfnOdd.τ).loc Cert.FfnOdd.main_arg5)
      ∧ r.2.mem ((c.tc : Thread Cert.FfnOdd.nD Cert.FfnOdd.τ).loc Cert.FfnOdd.main_arg6) = m ((c.tc : Thread Cert.FfnOdd.nD Cert.FfnOdd.τ).loc Cert.FfnOdd.main_arg6))
      ∧ r.2.sem = fun _ => 0)

def quiescent_FfnOddIdeal [hFfnOddIdeal : Cert.FfnOddIdeal.Facts] : Prop :=
  ∀ (m : (ℓ : Loc Cert.FfnOddIdeal.nD Cert.FfnOddIdeal.τ Cert.FfnOddIdeal.sig) → Buf (Elt Ideal) ℓ) (g : Dev Cert.FfnOddIdeal.nD → PrngReg), Pre_FfnOddIdeal m →
    θ_run (Cert.FfnOddIdeal.defs (F := Ideal)) (onTc (τ := Cert.FfnOddIdeal.τ) (Cert.FfnOddIdeal.main (F := Ideal))) ⟨m, fun _ => 0, g⟩ (fun r => (∀ c : Dev Cert.FfnOddIdeal.nD,
      r.2.mem ((c.tc : Thread Cert.FfnOddIdeal.nD Cert.FfnOddIdeal.τ).loc Cert.FfnOddIdeal.main_arg0) = m ((c.tc : Thread Cert.FfnOddIdeal.nD Cert.FfnOddIdeal.τ).loc Cert.FfnOddIdeal.main_arg0)
      ∧ r.2.mem ((c.tc : Thread Cert.FfnOddIdeal.nD Cert.FfnOddIdeal.τ).loc Cert.FfnOddIdeal.main_arg1) = m ((c.tc : Thread Cert.FfnOddIdeal.nD Cert.FfnOddIdeal.τ).loc Cert.FfnOddIdeal.main_arg1)
      ∧ r.2.mem ((c.tc : Thread Cert.FfnOddIdeal.nD Cert.FfnOddIdeal.τ).loc Cert.FfnOddIdeal.main_arg2) = m ((c.tc : Thread Cert.FfnOddIdeal.nD Cert.FfnOddIdeal.τ).loc Cert.FfnOddIdeal.main_arg2)
      ∧ r.2.mem ((c.tc : Thread Cert.FfnOddIdeal.nD Cert.FfnOddIdeal.τ).loc Cert.FfnOddIdeal.main_arg3) = m ((c.tc : Thread Cert.FfnOddIdeal.nD Cert.FfnOddIdeal.τ).loc Cert.FfnOddIdeal.main_arg3)
      ∧ r.2.mem ((c.tc : Thread Cert.FfnOddIdeal.nD Cert.FfnOddIdeal.τ).loc Cert.FfnOddIdeal.main_arg4) = m ((c.tc : Thread Cert.FfnOddIdeal.nD Cert.FfnOddIdeal.τ).loc Cert.FfnOddIdeal.main_arg4)
      ∧ r.2.mem ((c.tc : Thread Cert.FfnOddIdeal.nD Cert.FfnOddIdeal.τ).loc Cert.FfnOddIdeal.main_arg5) = m ((c.tc : Thread Cert.FfnOddIdeal.nD Cert.FfnOddIdeal.τ).loc Cert.FfnOddIdeal.main_arg5)
      ∧ r.2.mem ((c.tc : Thread Cert.FfnOddIdeal.nD Cert.FfnOddIdeal.τ).loc Cert.FfnOddIdeal.main_arg6) = m ((c.tc : Thread Cert.FfnOddIdeal.nD Cert.FfnOddIdeal.τ).loc Cert.FfnOddIdeal.main_arg6))
      ∧ r.2.sem = fun _ => 0)

def quiescent_FfnOddRefIdeal [hFfnOddRefIdeal : Cert.FfnOddRefIdeal.Facts] : Prop :=
  ∀ (m : (ℓ : Loc Cert.FfnOddRefIdeal.nD Cert.FfnOddRefIdeal.τ Cert.FfnOddRefIdeal.sig) → Buf (Elt Ideal) ℓ) (g : Dev Cert.FfnOddRefIdeal.nD → PrngReg), Pre_FfnOddRefIdeal m →
    θ_run (Cert.FfnOddRefIdeal.defs (F := Ideal)) (onTc (τ := Cert.FfnOddRefIdeal.τ) (Cert.FfnOddRefIdeal.main (F := Ideal))) ⟨m, fun _ => 0, g⟩ (fun r => (∀ c : Dev Cert.FfnOddRefIdeal.nD,
      r.2.mem ((c.tc : Thread Cert.FfnOddRefIdeal.nD Cert.FfnOddRefIdeal.τ).loc Cert.FfnOddRefIdeal.main_arg0) = m ((c.tc : Thread Cert.FfnOddRefIdeal.nD Cert.FfnOddRefIdeal.τ).loc Cert.FfnOddRefIdeal.main_arg0)
      ∧ r.2.mem ((c.tc : Thread Cert.FfnOddRefIdeal.nD Cert.FfnOddRefIdeal.τ).loc Cert.FfnOddRefIdeal.main_arg1) = m ((c.tc : Thread Cert.FfnOddRefIdeal.nD Cert.FfnOddRefIdeal.τ).loc Cert.FfnOddRefIdeal.main_arg1)
      ∧ r.2.mem ((c.tc : Thread Cert.FfnOddRefIdeal.nD Cert.FfnOddRefIdeal.τ).loc Cert.FfnOddRefIdeal.main_arg2) = m ((c.tc : Thread Cert.FfnOddRefIdeal.nD Cert.FfnOddRefIdeal.τ).loc Cert.FfnOddRefIdeal.main_arg2)
      ∧ r.2.mem ((c.tc : Thread Cert.FfnOddRefIdeal.nD Cert.FfnOddRefIdeal.τ).loc Cert.FfnOddRefIdeal.main_arg3) = m ((c.tc : Thread Cert.FfnOddRefIdeal.nD Cert.FfnOddRefIdeal.τ).loc Cert.FfnOddRefIdeal.main_arg3)
      ∧ r.2.mem ((c.tc : Thread Cert.FfnOddRefIdeal.nD Cert.FfnOddRefIdeal.τ).loc Cert.FfnOddRefIdeal.main_arg4) = m ((c.tc : Thread Cert.FfnOddRefIdeal.nD Cert.FfnOddRefIdeal.τ).loc Cert.FfnOddRefIdeal.main_arg4)
      ∧ r.2.mem ((c.tc : Thread Cert.FfnOddRefIdeal.nD Cert.FfnOddRefIdeal.τ).loc Cert.FfnOddRefIdeal.main_arg5) = m ((c.tc : Thread Cert.FfnOddRefIdeal.nD Cert.FfnOddRefIdeal.τ).loc Cert.FfnOddRefIdeal.main_arg5)
      ∧ r.2.mem ((c.tc : Thread Cert.FfnOddRefIdeal.nD Cert.FfnOddRefIdeal.τ).loc Cert.FfnOddRefIdeal.main_arg6) = m ((c.tc : Thread Cert.FfnOddRefIdeal.nD Cert.FfnOddRefIdeal.τ).loc Cert.FfnOddRefIdeal.main_arg6))
      ∧ r.2.sem = fun _ => 0)

def quiescent_FfnEven [hFfnEven : Cert.FfnEven.Facts] : Prop :=
  ∀ (m : (ℓ : Loc Cert.FfnEven.nD Cert.FfnEven.τ Cert.FfnEven.sig) → Buf (Elt Bits) ℓ) (g : Dev Cert.FfnEven.nD → PrngReg), Pre_FfnEven m →
    θ_run (Cert.FfnEven.defs (F := Bits)) (onTc (τ := Cert.FfnEven.τ) (Cert.FfnEven.main (F := Bits))) ⟨m, fun _ => 0, g⟩ (fun r => (∀ c : Dev Cert.FfnEven.nD,
      r.2.mem ((c.tc : Thread Cert.FfnEven.nD Cert.FfnEven.τ).loc Cert.FfnEven.main_arg0) = m ((c.tc : Thread Cert.FfnEven.nD Cert.FfnEven.τ).loc Cert.FfnEven.main_arg0)
      ∧ r.2.mem ((c.tc : Thread Cert.FfnEven.nD Cert.FfnEven.τ).loc Cert.FfnEven.main_arg1) = m ((c.tc : Thread Cert.FfnEven.nD Cert.FfnEven.τ).loc Cert.FfnEven.main_arg1)
      ∧ r.2.mem ((c.tc : Thread Cert.FfnEven.nD Cert.FfnEven.τ).loc Cert.FfnEven.main_arg2) = m ((c.tc : Thread Cert.FfnEven.nD Cert.FfnEven.τ).loc Cert.FfnEven.main_arg2)
      ∧ r.2.mem ((c.tc : Thread Cert.FfnEven.nD Cert.FfnEven.τ).loc Cert.FfnEven.main_arg3) = m ((c.tc : Thread Cert.FfnEven.nD Cert.FfnEven.τ).loc Cert.FfnEven.main_arg3)
      ∧ r.2.mem ((c.tc : Thread Cert.FfnEven.nD Cert.FfnEven.τ).loc Cert.FfnEven.main_arg4) = m ((c.tc : Thread Cert.FfnEven.nD Cert.FfnEven.τ).loc Cert.FfnEven.main_arg4)
      ∧ r.2.mem ((c.tc : Thread Cert.FfnEven.nD Cert.FfnEven.τ).loc Cert.FfnEven.main_arg5) = m ((c.tc : Thread Cert.FfnEven.nD Cert.FfnEven.τ).loc Cert.FfnEven.main_arg5)
      ∧ r.2.mem ((c.tc : Thread Cert.FfnEven.nD Cert.FfnEven.τ).loc Cert.FfnEven.main_arg6) = m ((c.tc : Thread Cert.FfnEven.nD Cert.FfnEven.τ).loc Cert.FfnEven.main_arg6)
      ∧ r.2.mem ((c.tc : Thread Cert.FfnEven.nD Cert.FfnEven.τ).loc Cert.FfnEven.main_arg7) = m ((c.tc : Thread Cert.FfnEven.nD Cert.FfnEven.τ).loc Cert.FfnEven.main_arg7))
      ∧ r.2.sem = fun _ => 0)

def quiescent_FfnEvenIdeal [hFfnEvenIdeal : Cert.FfnEvenIdeal.Facts] : Prop :=
  ∀ (m : (ℓ : Loc Cert.FfnEvenIdeal.nD Cert.FfnEvenIdeal.τ Cert.FfnEvenIdeal.sig) → Buf (Elt Ideal) ℓ) (g : Dev Cert.FfnEvenIdeal.nD → PrngReg), Pre_FfnEvenIdeal m →
    θ_run (Cert.FfnEvenIdeal.defs (F := Ideal)) (onTc (τ := Cert.FfnEvenIdeal.τ) (Cert.FfnEvenIdeal.main (F := Ideal))) ⟨m, fun _ => 0, g⟩ (fun r => (∀ c : Dev Cert.FfnEvenIdeal.nD,
      r.2.mem ((c.tc : Thread Cert.FfnEvenIdeal.nD Cert.FfnEvenIdeal.τ).loc Cert.FfnEvenIdeal.main_arg0) = m ((c.tc : Thread Cert.FfnEvenIdeal.nD Cert.FfnEvenIdeal.τ).loc Cert.FfnEvenIdeal.main_arg0)
      ∧ r.2.mem ((c.tc : Thread Cert.FfnEvenIdeal.nD Cert.FfnEvenIdeal.τ).loc Cert.FfnEvenIdeal.main_arg1) = m ((c.tc : Thread Cert.FfnEvenIdeal.nD Cert.FfnEvenIdeal.τ).loc Cert.FfnEvenIdeal.main_arg1)
      ∧ r.2.mem ((c.tc : Thread Cert.FfnEvenIdeal.nD Cert.FfnEvenIdeal.τ).loc Cert.FfnEvenIdeal.main_arg2) = m ((c.tc : Thread Cert.FfnEvenIdeal.nD Cert.FfnEvenIdeal.τ).loc Cert.FfnEvenIdeal.main_arg2)
      ∧ r.2.mem ((c.tc : Thread Cert.FfnEvenIdeal.nD Cert.FfnEvenIdeal.τ).loc Cert.FfnEvenIdeal.main_arg3) = m ((c.tc : Thread Cert.FfnEvenIdeal.nD Cert.FfnEvenIdeal.τ).loc Cert.FfnEvenIdeal.main_arg3)
      ∧ r.2.mem ((c.tc : Thread Cert.FfnEvenIdeal.nD Cert.FfnEvenIdeal.τ).loc Cert.FfnEvenIdeal.main_arg4) = m ((c.tc : Thread Cert.FfnEvenIdeal.nD Cert.FfnEvenIdeal.τ).loc Cert.FfnEvenIdeal.main_arg4)
      ∧ r.2.mem ((c.tc : Thread Cert.FfnEvenIdeal.nD Cert.FfnEvenIdeal.τ).loc Cert.FfnEvenIdeal.main_arg5) = m ((c.tc : Thread Cert.FfnEvenIdeal.nD Cert.FfnEvenIdeal.τ).loc Cert.FfnEvenIdeal.main_arg5)
      ∧ r.2.mem ((c.tc : Thread Cert.FfnEvenIdeal.nD Cert.FfnEvenIdeal.τ).loc Cert.FfnEvenIdeal.main_arg6) = m ((c.tc : Thread Cert.FfnEvenIdeal.nD Cert.FfnEvenIdeal.τ).loc Cert.FfnEvenIdeal.main_arg6)
      ∧ r.2.mem ((c.tc : Thread Cert.FfnEvenIdeal.nD Cert.FfnEvenIdeal.τ).loc Cert.FfnEvenIdeal.main_arg7) = m ((c.tc : Thread Cert.FfnEvenIdeal.nD Cert.FfnEvenIdeal.τ).loc Cert.FfnEvenIdeal.main_arg7))
      ∧ r.2.sem = fun _ => 0)

def quiescent_FfnEvenRefIdeal [hFfnEvenRefIdeal : Cert.FfnEvenRefIdeal.Facts] : Prop :=
  ∀ (m : (ℓ : Loc Cert.FfnEvenRefIdeal.nD Cert.FfnEvenRefIdeal.τ Cert.FfnEvenRefIdeal.sig) → Buf (Elt Ideal) ℓ) (g : Dev Cert.FfnEvenRefIdeal.nD → PrngReg), Pre_FfnEvenRefIdeal m →
    θ_run (Cert.FfnEvenRefIdeal.defs (F := Ideal)) (onTc (τ := Cert.FfnEvenRefIdeal.τ) (Cert.FfnEvenRefIdeal.main (F := Ideal))) ⟨m, fun _ => 0, g⟩ (fun r => (∀ c : Dev Cert.FfnEvenRefIdeal.nD,
      r.2.mem ((c.tc : Thread Cert.FfnEvenRefIdeal.nD Cert.FfnEvenRefIdeal.τ).loc Cert.FfnEvenRefIdeal.main_arg0) = m ((c.tc : Thread Cert.FfnEvenRefIdeal.nD Cert.FfnEvenRefIdeal.τ).loc Cert.FfnEvenRefIdeal.main_arg0)
      ∧ r.2.mem ((c.tc : Thread Cert.FfnEvenRefIdeal.nD Cert.FfnEvenRefIdeal.τ).loc Cert.FfnEvenRefIdeal.main_arg1) = m ((c.tc : Thread Cert.FfnEvenRefIdeal.nD Cert.FfnEvenRefIdeal.τ).loc Cert.FfnEvenRefIdeal.main_arg1)
      ∧ r.2.mem ((c.tc : Thread Cert.FfnEvenRefIdeal.nD Cert.FfnEvenRefIdeal.τ).loc Cert.FfnEvenRefIdeal.main_arg2) = m ((c.tc : Thread Cert.FfnEvenRefIdeal.nD Cert.FfnEvenRefIdeal.τ).loc Cert.FfnEvenRefIdeal.main_arg2)
      ∧ r.2.mem ((c.tc : Thread Cert.FfnEvenRefIdeal.nD Cert.FfnEvenRefIdeal.τ).loc Cert.FfnEvenRefIdeal.main_arg3) = m ((c.tc : Thread Cert.FfnEvenRefIdeal.nD Cert.FfnEvenRefIdeal.τ).loc Cert.FfnEvenRefIdeal.main_arg3)
      ∧ r.2.mem ((c.tc : Thread Cert.FfnEvenRefIdeal.nD Cert.FfnEvenRefIdeal.τ).loc Cert.FfnEvenRefIdeal.main_arg4) = m ((c.tc : Thread Cert.FfnEvenRefIdeal.nD Cert.FfnEvenRefIdeal.τ).loc Cert.FfnEvenRefIdeal.main_arg4)
      ∧ r.2.mem ((c.tc : Thread Cert.FfnEvenRefIdeal.nD Cert.FfnEvenRefIdeal.τ).loc Cert.FfnEvenRefIdeal.main_arg5) = m ((c.tc : Thread Cert.FfnEvenRefIdeal.nD Cert.FfnEvenRefIdeal.τ).loc Cert.FfnEvenRefIdeal.main_arg5)
      ∧ r.2.mem ((c.tc : Thread Cert.FfnEvenRefIdeal.nD Cert.FfnEvenRefIdeal.τ).loc Cert.FfnEvenRefIdeal.main_arg6) = m ((c.tc : Thread Cert.FfnEvenRefIdeal.nD Cert.FfnEvenRefIdeal.τ).loc Cert.FfnEvenRefIdeal.main_arg6)
      ∧ r.2.mem ((c.tc : Thread Cert.FfnEvenRefIdeal.nD Cert.FfnEvenRefIdeal.τ).loc Cert.FfnEvenRefIdeal.main_arg7) = m ((c.tc : Thread Cert.FfnEvenRefIdeal.nD Cert.FfnEvenRefIdeal.τ).loc Cert.FfnEvenRefIdeal.main_arg7))
      ∧ r.2.sem = fun _ => 0)

def quiescent_ProjOdd [hProjOdd : Cert.ProjOdd.Facts] : Prop :=
  ∀ (m : (ℓ : Loc Cert.ProjOdd.nD Cert.ProjOdd.τ Cert.ProjOdd.sig) → Buf (Elt Bits) ℓ) (g : Dev Cert.ProjOdd.nD → PrngReg), Pre_ProjOdd m →
    θ_run (Cert.ProjOdd.defs (F := Bits)) (onTc (τ := Cert.ProjOdd.τ) (Cert.ProjOdd.main (F := Bits))) ⟨m, fun _ => 0, g⟩ (fun r => (∀ c : Dev Cert.ProjOdd.nD,
      r.2.mem ((c.tc : Thread Cert.ProjOdd.nD Cert.ProjOdd.τ).loc Cert.ProjOdd.main_arg0) = m ((c.tc : Thread Cert.ProjOdd.nD Cert.ProjOdd.τ).loc Cert.ProjOdd.main_arg0)
      ∧ r.2.mem ((c.tc : Thread Cert.ProjOdd.nD Cert.ProjOdd.τ).loc Cert.ProjOdd.main_arg1) = m ((c.tc : Thread Cert.ProjOdd.nD Cert.ProjOdd.τ).loc Cert.ProjOdd.main_arg1)
      ∧ r.2.mem ((c.tc : Thread Cert.ProjOdd.nD Cert.ProjOdd.τ).loc Cert.ProjOdd.main_arg2) = m ((c.tc : Thread Cert.ProjOdd.nD Cert.ProjOdd.τ).loc Cert.ProjOdd.main_arg2))
      ∧ r.2.sem = fun _ => 0)

def quiescent_ProjOddIdeal [hProjOddIdeal : Cert.ProjOddIdeal.Facts] : Prop :=
  ∀ (m : (ℓ : Loc Cert.ProjOddIdeal.nD Cert.ProjOddIdeal.τ Cert.ProjOddIdeal.sig) → Buf (Elt Ideal) ℓ) (g : Dev Cert.ProjOddIdeal.nD → PrngReg), Pre_ProjOddIdeal m →
    θ_run (Cert.ProjOddIdeal.defs (F := Ideal)) (onTc (τ := Cert.ProjOddIdeal.τ) (Cert.ProjOddIdeal.main (F := Ideal))) ⟨m, fun _ => 0, g⟩ (fun r => (∀ c : Dev Cert.ProjOddIdeal.nD,
      r.2.mem ((c.tc : Thread Cert.ProjOddIdeal.nD Cert.ProjOddIdeal.τ).loc Cert.ProjOddIdeal.main_arg0) = m ((c.tc : Thread Cert.ProjOddIdeal.nD Cert.ProjOddIdeal.τ).loc Cert.ProjOddIdeal.main_arg0)
      ∧ r.2.mem ((c.tc : Thread Cert.ProjOddIdeal.nD Cert.ProjOddIdeal.τ).loc Cert.ProjOddIdeal.main_arg1) = m ((c.tc : Thread Cert.ProjOddIdeal.nD Cert.ProjOddIdeal.τ).loc Cert.ProjOddIdeal.main_arg1)
      ∧ r.2.mem ((c.tc : Thread Cert.ProjOddIdeal.nD Cert.ProjOddIdeal.τ).loc Cert.ProjOddIdeal.main_arg2) = m ((c.tc : Thread Cert.ProjOddIdeal.nD Cert.ProjOddIdeal.τ).loc Cert.ProjOddIdeal.main_arg2))
      ∧ r.2.sem = fun _ => 0)

def quiescent_ProjOddRefIdeal [hProjOddRefIdeal : Cert.ProjOddRefIdeal.Facts] : Prop :=
  ∀ (m : (ℓ : Loc Cert.ProjOddRefIdeal.nD Cert.ProjOddRefIdeal.τ Cert.ProjOddRefIdeal.sig) → Buf (Elt Ideal) ℓ) (g : Dev Cert.ProjOddRefIdeal.nD → PrngReg), Pre_ProjOddRefIdeal m →
    θ_run (Cert.ProjOddRefIdeal.defs (F := Ideal)) (onTc (τ := Cert.ProjOddRefIdeal.τ) (Cert.ProjOddRefIdeal.main (F := Ideal))) ⟨m, fun _ => 0, g⟩ (fun r => (∀ c : Dev Cert.ProjOddRefIdeal.nD,
      r.2.mem ((c.tc : Thread Cert.ProjOddRefIdeal.nD Cert.ProjOddRefIdeal.τ).loc Cert.ProjOddRefIdeal.main_arg0) = m ((c.tc : Thread Cert.ProjOddRefIdeal.nD Cert.ProjOddRefIdeal.τ).loc Cert.ProjOddRefIdeal.main_arg0)
      ∧ r.2.mem ((c.tc : Thread Cert.ProjOddRefIdeal.nD Cert.ProjOddRefIdeal.τ).loc Cert.ProjOddRefIdeal.main_arg1) = m ((c.tc : Thread Cert.ProjOddRefIdeal.nD Cert.ProjOddRefIdeal.τ).loc Cert.ProjOddRefIdeal.main_arg1)
      ∧ r.2.mem ((c.tc : Thread Cert.ProjOddRefIdeal.nD Cert.ProjOddRefIdeal.τ).loc Cert.ProjOddRefIdeal.main_arg2) = m ((c.tc : Thread Cert.ProjOddRefIdeal.nD Cert.ProjOddRefIdeal.τ).loc Cert.ProjOddRefIdeal.main_arg2))
      ∧ r.2.sem = fun _ => 0)

def quiescent_ProjEven [hProjEven : Cert.ProjEven.Facts] : Prop :=
  ∀ (m : (ℓ : Loc Cert.ProjEven.nD Cert.ProjEven.τ Cert.ProjEven.sig) → Buf (Elt Bits) ℓ) (g : Dev Cert.ProjEven.nD → PrngReg), Pre_ProjEven m →
    θ_run (Cert.ProjEven.defs (F := Bits)) (onTc (τ := Cert.ProjEven.τ) (Cert.ProjEven.main (F := Bits))) ⟨m, fun _ => 0, g⟩ (fun r => (∀ c : Dev Cert.ProjEven.nD,
      r.2.mem ((c.tc : Thread Cert.ProjEven.nD Cert.ProjEven.τ).loc Cert.ProjEven.main_arg0) = m ((c.tc : Thread Cert.ProjEven.nD Cert.ProjEven.τ).loc Cert.ProjEven.main_arg0)
      ∧ r.2.mem ((c.tc : Thread Cert.ProjEven.nD Cert.ProjEven.τ).loc Cert.ProjEven.main_arg1) = m ((c.tc : Thread Cert.ProjEven.nD Cert.ProjEven.τ).loc Cert.ProjEven.main_arg1)
      ∧ r.2.mem ((c.tc : Thread Cert.ProjEven.nD Cert.ProjEven.τ).loc Cert.ProjEven.main_arg2) = m ((c.tc : Thread Cert.ProjEven.nD Cert.ProjEven.τ).loc Cert.ProjEven.main_arg2))
      ∧ r.2.sem = fun _ => 0)

def quiescent_ProjEvenIdeal [hProjEvenIdeal : Cert.ProjEvenIdeal.Facts] : Prop :=
  ∀ (m : (ℓ : Loc Cert.ProjEvenIdeal.nD Cert.ProjEvenIdeal.τ Cert.ProjEvenIdeal.sig) → Buf (Elt Ideal) ℓ) (g : Dev Cert.ProjEvenIdeal.nD → PrngReg), Pre_ProjEvenIdeal m →
    θ_run (Cert.ProjEvenIdeal.defs (F := Ideal)) (onTc (τ := Cert.ProjEvenIdeal.τ) (Cert.ProjEvenIdeal.main (F := Ideal))) ⟨m, fun _ => 0, g⟩ (fun r => (∀ c : Dev Cert.ProjEvenIdeal.nD,
      r.2.mem ((c.tc : Thread Cert.ProjEvenIdeal.nD Cert.ProjEvenIdeal.τ).loc Cert.ProjEvenIdeal.main_arg0) = m ((c.tc : Thread Cert.ProjEvenIdeal.nD Cert.ProjEvenIdeal.τ).loc Cert.ProjEvenIdeal.main_arg0)
      ∧ r.2.mem ((c.tc : Thread Cert.ProjEvenIdeal.nD Cert.ProjEvenIdeal.τ).loc Cert.ProjEvenIdeal.main_arg1) = m ((c.tc : Thread Cert.ProjEvenIdeal.nD Cert.ProjEvenIdeal.τ).loc Cert.ProjEvenIdeal.main_arg1)
      ∧ r.2.mem ((c.tc : Thread Cert.ProjEvenIdeal.nD Cert.ProjEvenIdeal.τ).loc Cert.ProjEvenIdeal.main_arg2) = m ((c.tc : Thread Cert.ProjEvenIdeal.nD Cert.ProjEvenIdeal.τ).loc Cert.ProjEvenIdeal.main_arg2))
      ∧ r.2.sem = fun _ => 0)

def quiescent_ProjEvenRefIdeal [hProjEvenRefIdeal : Cert.ProjEvenRefIdeal.Facts] : Prop :=
  ∀ (m : (ℓ : Loc Cert.ProjEvenRefIdeal.nD Cert.ProjEvenRefIdeal.τ Cert.ProjEvenRefIdeal.sig) → Buf (Elt Ideal) ℓ) (g : Dev Cert.ProjEvenRefIdeal.nD → PrngReg), Pre_ProjEvenRefIdeal m →
    θ_run (Cert.ProjEvenRefIdeal.defs (F := Ideal)) (onTc (τ := Cert.ProjEvenRefIdeal.τ) (Cert.ProjEvenRefIdeal.main (F := Ideal))) ⟨m, fun _ => 0, g⟩ (fun r => (∀ c : Dev Cert.ProjEvenRefIdeal.nD,
      r.2.mem ((c.tc : Thread Cert.ProjEvenRefIdeal.nD Cert.ProjEvenRefIdeal.τ).loc Cert.ProjEvenRefIdeal.main_arg0) = m ((c.tc : Thread Cert.ProjEvenRefIdeal.nD Cert.ProjEvenRefIdeal.τ).loc Cert.ProjEvenRefIdeal.main_arg0)
      ∧ r.2.mem ((c.tc : Thread Cert.ProjEvenRefIdeal.nD Cert.ProjEvenRefIdeal.τ).loc Cert.ProjEvenRefIdeal.main_arg1) = m ((c.tc : Thread Cert.ProjEvenRefIdeal.nD Cert.ProjEvenRefIdeal.τ).loc Cert.ProjEvenRefIdeal.main_arg1)
      ∧ r.2.mem ((c.tc : Thread Cert.ProjEvenRefIdeal.nD Cert.ProjEvenRefIdeal.τ).loc Cert.ProjEvenRefIdeal.main_arg2) = m ((c.tc : Thread Cert.ProjEvenRefIdeal.nD Cert.ProjEvenRefIdeal.τ).loc Cert.ProjEvenRefIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v18)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v18) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v37) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_FfnOdd_FfnOddIdeal : Prop :=
  True

def algebraic_FfnOddIdeal_FfnOddRefIdeal [hFfnOddIdeal : Cert.FfnOddIdeal.Facts] [hFfnOddRefIdeal : Cert.FfnOddRefIdeal.Facts] : Prop :=
  ∀ (m : (ℓ : Loc Cert.FfnOddIdeal.nD Cert.FfnOddIdeal.τ Cert.FfnOddIdeal.sig) → Buf (Elt Ideal) ℓ) (g : Dev Cert.FfnOddIdeal.nD → PrngReg)
    (m' : (ℓ : Loc Cert.FfnOddRefIdeal.nD Cert.FfnOddRefIdeal.τ Cert.FfnOddRefIdeal.sig) → Buf (Elt Ideal) ℓ) (g' : Dev Cert.FfnOddRefIdeal.nD → PrngReg), Pre_FfnOddIdeal m →
    (∀ c : Dev Cert.FfnOddIdeal.nD,
      m' ((c.tc : Thread Cert.FfnOddRefIdeal.nD Cert.FfnOddRefIdeal.τ).loc Cert.FfnOddRefIdeal.main_arg0) = m ((c.tc : Thread Cert.FfnOddIdeal.nD Cert.FfnOddIdeal.τ).loc Cert.FfnOddIdeal.main_arg0)
      ∧ m' ((c.tc : Thread Cert.FfnOddRefIdeal.nD Cert.FfnOddRefIdeal.τ).loc Cert.FfnOddRefIdeal.main_arg1) = m ((c.tc : Thread Cert.FfnOddIdeal.nD Cert.FfnOddIdeal.τ).loc Cert.FfnOddIdeal.main_arg1)
      ∧ m' ((c.tc : Thread Cert.FfnOddRefIdeal.nD Cert.FfnOddRefIdeal.τ).loc Cert.FfnOddRefIdeal.main_arg2) = m ((c.tc : Thread Cert.FfnOddIdeal.nD Cert.FfnOddIdeal.τ).loc Cert.FfnOddIdeal.main_arg2)
      ∧ m' ((c.tc : Thread Cert.FfnOddRefIdeal.nD Cert.FfnOddRefIdeal.τ).loc Cert.FfnOddRefIdeal.main_arg3) = m ((c.tc : Thread Cert.FfnOddIdeal.nD Cert.FfnOddIdeal.τ).loc Cert.FfnOddIdeal.main_arg3)
      ∧ m' ((c.tc : Thread Cert.FfnOddRefIdeal.nD Cert.FfnOddRefIdeal.τ).loc Cert.FfnOddRefIdeal.main_arg4) = m ((c.tc : Thread Cert.FfnOddIdeal.nD Cert.FfnOddIdeal.τ).loc Cert.FfnOddIdeal.main_arg4)
      ∧ m' ((c.tc : Thread Cert.FfnOddRefIdeal.nD Cert.FfnOddRefIdeal.τ).loc Cert.FfnOddRefIdeal.main_arg5) = m ((c.tc : Thread Cert.FfnOddIdeal.nD Cert.FfnOddIdeal.τ).loc Cert.FfnOddIdeal.main_arg5)
      ∧ m' ((c.tc : Thread Cert.FfnOddRefIdeal.nD Cert.FfnOddRefIdeal.τ).loc Cert.FfnOddRefIdeal.main_arg6) = m ((c.tc : Thread Cert.FfnOddIdeal.nD Cert.FfnOddIdeal.τ).loc Cert.FfnOddIdeal.main_arg6)) →
    ∃ (v0 : (c : Dev Cert.FfnOddIdeal.nD) → Buf (Elt Ideal) ((c.tc : Thread Cert.FfnOddIdeal.nD Cert.FfnOddIdeal.τ).loc Cert.FfnOddIdeal.main_v19)),
      θ_run (Cert.FfnOddIdeal.defs (F := Ideal)) (onTc (τ := Cert.FfnOddIdeal.τ) (Cert.FfnOddIdeal.main (F := Ideal))) ⟨m, fun _ => 0, g⟩ (fun r => ∀ c : Dev Cert.FfnOddIdeal.nD,
          r.2.mem ((c.tc : Thread Cert.FfnOddIdeal.nD Cert.FfnOddIdeal.τ).loc Cert.FfnOddIdeal.main_v19) = v0 c
          ∧ r.2.mem ((c.tc : Thread Cert.FfnOddIdeal.nD Cert.FfnOddIdeal.τ).loc Cert.FfnOddIdeal.main_arg0) = m ((c.tc : Thread Cert.FfnOddIdeal.nD Cert.FfnOddIdeal.τ).loc Cert.FfnOddIdeal.main_arg0)
          ∧ r.2.mem ((c.tc : Thread Cert.FfnOddIdeal.nD Cert.FfnOddIdeal.τ).loc Cert.FfnOddIdeal.main_arg1) = m ((c.tc : Thread Cert.FfnOddIdeal.nD Cert.FfnOddIdeal.τ).loc Cert.FfnOddIdeal.main_arg1)
          ∧ r.2.mem ((c.tc : Thread Cert.FfnOddIdeal.nD Cert.FfnOddIdeal.τ).loc Cert.FfnOddIdeal.main_arg2) = m ((c.tc : Thread Cert.FfnOddIdeal.nD Cert.FfnOddIdeal.τ).loc Cert.FfnOddIdeal.main_arg2)
          ∧ r.2.mem ((c.tc : Thread Cert.FfnOddIdeal.nD Cert.FfnOddIdeal.τ).loc Cert.FfnOddIdeal.main_arg3) = m ((c.tc : Thread Cert.FfnOddIdeal.nD Cert.FfnOddIdeal.τ).loc Cert.FfnOddIdeal.main_arg3)
          ∧ r.2.mem ((c.tc : Thread Cert.FfnOddIdeal.nD Cert.FfnOddIdeal.τ).loc Cert.FfnOddIdeal.main_arg4) = m ((c.tc : Thread Cert.FfnOddIdeal.nD Cert.FfnOddIdeal.τ).loc Cert.FfnOddIdeal.main_arg4)
          ∧ r.2.mem ((c.tc : Thread Cert.FfnOddIdeal.nD Cert.FfnOddIdeal.τ).loc Cert.FfnOddIdeal.main_arg5) = m ((c.tc : Thread Cert.FfnOddIdeal.nD Cert.FfnOddIdeal.τ).loc Cert.FfnOddIdeal.main_arg5)
          ∧ r.2.mem ((c.tc : Thread Cert.FfnOddIdeal.nD Cert.FfnOddIdeal.τ).loc Cert.FfnOddIdeal.main_arg6) = m ((c.tc : Thread Cert.FfnOddIdeal.nD Cert.FfnOddIdeal.τ).loc Cert.FfnOddIdeal.main_arg6))
      ∧ θ_run (Cert.FfnOddRefIdeal.defs (F := Ideal)) (onTc (τ := Cert.FfnOddRefIdeal.τ) (Cert.FfnOddRefIdeal.main (F := Ideal))) ⟨m', fun _ => 0, g'⟩ (fun r => ∀ c : Dev Cert.FfnOddRefIdeal.nD,
          r.2.mem ((c.tc : Thread Cert.FfnOddRefIdeal.nD Cert.FfnOddRefIdeal.τ).loc Cert.FfnOddRefIdeal.main_v55) = v0 c
          ∧ r.2.mem ((c.tc : Thread Cert.FfnOddRefIdeal.nD Cert.FfnOddRefIdeal.τ).loc Cert.FfnOddRefIdeal.main_arg0) = m' ((c.tc : Thread Cert.FfnOddRefIdeal.nD Cert.FfnOddRefIdeal.τ).loc Cert.FfnOddRefIdeal.main_arg0)
          ∧ r.2.mem ((c.tc : Thread Cert.FfnOddRefIdeal.nD Cert.FfnOddRefIdeal.τ).loc Cert.FfnOddRefIdeal.main_arg1) = m' ((c.tc : Thread Cert.FfnOddRefIdeal.nD Cert.FfnOddRefIdeal.τ).loc Cert.FfnOddRefIdeal.main_arg1)
          ∧ r.2.mem ((c.tc : Thread Cert.FfnOddRefIdeal.nD Cert.FfnOddRefIdeal.τ).loc Cert.FfnOddRefIdeal.main_arg2) = m' ((c.tc : Thread Cert.FfnOddRefIdeal.nD Cert.FfnOddRefIdeal.τ).loc Cert.FfnOddRefIdeal.main_arg2)
          ∧ r.2.mem ((c.tc : Thread Cert.FfnOddRefIdeal.nD Cert.FfnOddRefIdeal.τ).loc Cert.FfnOddRefIdeal.main_arg3) = m' ((c.tc : Thread Cert.FfnOddRefIdeal.nD Cert.FfnOddRefIdeal.τ).loc Cert.FfnOddRefIdeal.main_arg3)
          ∧ r.2.mem ((c.tc : Thread Cert.FfnOddRefIdeal.nD Cert.FfnOddRefIdeal.τ).loc Cert.FfnOddRefIdeal.main_arg4) = m' ((c.tc : Thread Cert.FfnOddRefIdeal.nD Cert.FfnOddRefIdeal.τ).loc Cert.FfnOddRefIdeal.main_arg4)
          ∧ r.2.mem ((c.tc : Thread Cert.FfnOddRefIdeal.nD Cert.FfnOddRefIdeal.τ).loc Cert.FfnOddRefIdeal.main_arg5) = m' ((c.tc : Thread Cert.FfnOddRefIdeal.nD Cert.FfnOddRefIdeal.τ).loc Cert.FfnOddRefIdeal.main_arg5)
          ∧ r.2.mem ((c.tc : Thread Cert.FfnOddRefIdeal.nD Cert.FfnOddRefIdeal.τ).loc Cert.FfnOddRefIdeal.main_arg6) = m' ((c.tc : Thread Cert.FfnOddRefIdeal.nD Cert.FfnOddRefIdeal.τ).loc Cert.FfnOddRefIdeal.main_arg6))

def preserves_FfnEven_FfnEvenIdeal : Prop :=
  True

def algebraic_FfnEvenIdeal_FfnEvenRefIdeal [hFfnEvenIdeal : Cert.FfnEvenIdeal.Facts] [hFfnEvenRefIdeal : Cert.FfnEvenRefIdeal.Facts] : Prop :=
  ∀ (m : (ℓ : Loc Cert.FfnEvenIdeal.nD Cert.FfnEvenIdeal.τ Cert.FfnEvenIdeal.sig) → Buf (Elt Ideal) ℓ) (g : Dev Cert.FfnEvenIdeal.nD → PrngReg)
    (m' : (ℓ : Loc Cert.FfnEvenRefIdeal.nD Cert.FfnEvenRefIdeal.τ Cert.FfnEvenRefIdeal.sig) → Buf (Elt Ideal) ℓ) (g' : Dev Cert.FfnEvenRefIdeal.nD → PrngReg), Pre_FfnEvenIdeal m →
    (∀ c : Dev Cert.FfnEvenIdeal.nD,
      m' ((c.tc : Thread Cert.FfnEvenRefIdeal.nD Cert.FfnEvenRefIdeal.τ).loc Cert.FfnEvenRefIdeal.main_arg0) = m ((c.tc : Thread Cert.FfnEvenIdeal.nD Cert.FfnEvenIdeal.τ).loc Cert.FfnEvenIdeal.main_arg0)
      ∧ m' ((c.tc : Thread Cert.FfnEvenRefIdeal.nD Cert.FfnEvenRefIdeal.τ).loc Cert.FfnEvenRefIdeal.main_arg1) = m ((c.tc : Thread Cert.FfnEvenIdeal.nD Cert.FfnEvenIdeal.τ).loc Cert.FfnEvenIdeal.main_arg1)
      ∧ m' ((c.tc : Thread Cert.FfnEvenRefIdeal.nD Cert.FfnEvenRefIdeal.τ).loc Cert.FfnEvenRefIdeal.main_arg2) = m ((c.tc : Thread Cert.FfnEvenIdeal.nD Cert.FfnEvenIdeal.τ).loc Cert.FfnEvenIdeal.main_arg2)
      ∧ m' ((c.tc : Thread Cert.FfnEvenRefIdeal.nD Cert.FfnEvenRefIdeal.τ).loc Cert.FfnEvenRefIdeal.main_arg3) = m ((c.tc : Thread Cert.FfnEvenIdeal.nD Cert.FfnEvenIdeal.τ).loc Cert.FfnEvenIdeal.main_arg3)
      ∧ m' ((c.tc : Thread Cert.FfnEvenRefIdeal.nD Cert.FfnEvenRefIdeal.τ).loc Cert.FfnEvenRefIdeal.main_arg4) = m ((c.tc : Thread Cert.FfnEvenIdeal.nD Cert.FfnEvenIdeal.τ).loc Cert.FfnEvenIdeal.main_arg4)
      ∧ m' ((c.tc : Thread Cert.FfnEvenRefIdeal.nD Cert.FfnEvenRefIdeal.τ).loc Cert.FfnEvenRefIdeal.main_arg5) = m ((c.tc : Thread Cert.FfnEvenIdeal.nD Cert.FfnEvenIdeal.τ).loc Cert.FfnEvenIdeal.main_arg5)
      ∧ m' ((c.tc : Thread Cert.FfnEvenRefIdeal.nD Cert.FfnEvenRefIdeal.τ).loc Cert.FfnEvenRefIdeal.main_arg6) = m ((c.tc : Thread Cert.FfnEvenIdeal.nD Cert.FfnEvenIdeal.τ).loc Cert.FfnEvenIdeal.main_arg6)
      ∧ m' ((c.tc : Thread Cert.FfnEvenRefIdeal.nD Cert.FfnEvenRefIdeal.τ).loc Cert.FfnEvenRefIdeal.main_arg7) = m ((c.tc : Thread Cert.FfnEvenIdeal.nD Cert.FfnEvenIdeal.τ).loc Cert.FfnEvenIdeal.main_arg7)) →
    ∃ (v0 : (c : Dev Cert.FfnEvenIdeal.nD) → Buf (Elt Ideal) ((c.tc : Thread Cert.FfnEvenIdeal.nD Cert.FfnEvenIdeal.τ).loc Cert.FfnEvenIdeal.main_v21)),
      θ_run (Cert.FfnEvenIdeal.defs (F := Ideal)) (onTc (τ := Cert.FfnEvenIdeal.τ) (Cert.FfnEvenIdeal.main (F := Ideal))) ⟨m, fun _ => 0, g⟩ (fun r => ∀ c : Dev Cert.FfnEvenIdeal.nD,
          r.2.mem ((c.tc : Thread Cert.FfnEvenIdeal.nD Cert.FfnEvenIdeal.τ).loc Cert.FfnEvenIdeal.main_v21) = v0 c
          ∧ r.2.mem ((c.tc : Thread Cert.FfnEvenIdeal.nD Cert.FfnEvenIdeal.τ).loc Cert.FfnEvenIdeal.main_arg0) = m ((c.tc : Thread Cert.FfnEvenIdeal.nD Cert.FfnEvenIdeal.τ).loc Cert.FfnEvenIdeal.main_arg0)
          ∧ r.2.mem ((c.tc : Thread Cert.FfnEvenIdeal.nD Cert.FfnEvenIdeal.τ).loc Cert.FfnEvenIdeal.main_arg1) = m ((c.tc : Thread Cert.FfnEvenIdeal.nD Cert.FfnEvenIdeal.τ).loc Cert.FfnEvenIdeal.main_arg1)
          ∧ r.2.mem ((c.tc : Thread Cert.FfnEvenIdeal.nD Cert.FfnEvenIdeal.τ).loc Cert.FfnEvenIdeal.main_arg2) = m ((c.tc : Thread Cert.FfnEvenIdeal.nD Cert.FfnEvenIdeal.τ).loc Cert.FfnEvenIdeal.main_arg2)
          ∧ r.2.mem ((c.tc : Thread Cert.FfnEvenIdeal.nD Cert.FfnEvenIdeal.τ).loc Cert.FfnEvenIdeal.main_arg3) = m ((c.tc : Thread Cert.FfnEvenIdeal.nD Cert.FfnEvenIdeal.τ).loc Cert.FfnEvenIdeal.main_arg3)
          ∧ r.2.mem ((c.tc : Thread Cert.FfnEvenIdeal.nD Cert.FfnEvenIdeal.τ).loc Cert.FfnEvenIdeal.main_arg4) = m ((c.tc : Thread Cert.FfnEvenIdeal.nD Cert.FfnEvenIdeal.τ).loc Cert.FfnEvenIdeal.main_arg4)
          ∧ r.2.mem ((c.tc : Thread Cert.FfnEvenIdeal.nD Cert.FfnEvenIdeal.τ).loc Cert.FfnEvenIdeal.main_arg5) = m ((c.tc : Thread Cert.FfnEvenIdeal.nD Cert.FfnEvenIdeal.τ).loc Cert.FfnEvenIdeal.main_arg5)
          ∧ r.2.mem ((c.tc : Thread Cert.FfnEvenIdeal.nD Cert.FfnEvenIdeal.τ).loc Cert.FfnEvenIdeal.main_arg6) = m ((c.tc : Thread Cert.FfnEvenIdeal.nD Cert.FfnEvenIdeal.τ).loc Cert.FfnEvenIdeal.main_arg6)
          ∧ r.2.mem ((c.tc : Thread Cert.FfnEvenIdeal.nD Cert.FfnEvenIdeal.τ).loc Cert.FfnEvenIdeal.main_arg7) = m ((c.tc : Thread Cert.FfnEvenIdeal.nD Cert.FfnEvenIdeal.τ).loc Cert.FfnEvenIdeal.main_arg7))
      ∧ θ_run (Cert.FfnEvenRefIdeal.defs (F := Ideal)) (onTc (τ := Cert.FfnEvenRefIdeal.τ) (Cert.FfnEvenRefIdeal.main (F := Ideal))) ⟨m', fun _ => 0, g'⟩ (fun r => ∀ c : Dev Cert.FfnEvenRefIdeal.nD,
          r.2.mem ((c.tc : Thread Cert.FfnEvenRefIdeal.nD Cert.FfnEvenRefIdeal.τ).loc Cert.FfnEvenRefIdeal.main_v56) = v0 c
          ∧ r.2.mem ((c.tc : Thread Cert.FfnEvenRefIdeal.nD Cert.FfnEvenRefIdeal.τ).loc Cert.FfnEvenRefIdeal.main_arg0) = m' ((c.tc : Thread Cert.FfnEvenRefIdeal.nD Cert.FfnEvenRefIdeal.τ).loc Cert.FfnEvenRefIdeal.main_arg0)
          ∧ r.2.mem ((c.tc : Thread Cert.FfnEvenRefIdeal.nD Cert.FfnEvenRefIdeal.τ).loc Cert.FfnEvenRefIdeal.main_arg1) = m' ((c.tc : Thread Cert.FfnEvenRefIdeal.nD Cert.FfnEvenRefIdeal.τ).loc Cert.FfnEvenRefIdeal.main_arg1)
          ∧ r.2.mem ((c.tc : Thread Cert.FfnEvenRefIdeal.nD Cert.FfnEvenRefIdeal.τ).loc Cert.FfnEvenRefIdeal.main_arg2) = m' ((c.tc : Thread Cert.FfnEvenRefIdeal.nD Cert.FfnEvenRefIdeal.τ).loc Cert.FfnEvenRefIdeal.main_arg2)
          ∧ r.2.mem ((c.tc : Thread Cert.FfnEvenRefIdeal.nD Cert.FfnEvenRefIdeal.τ).loc Cert.FfnEvenRefIdeal.main_arg3) = m' ((c.tc : Thread Cert.FfnEvenRefIdeal.nD Cert.FfnEvenRefIdeal.τ).loc Cert.FfnEvenRefIdeal.main_arg3)
          ∧ r.2.mem ((c.tc : Thread Cert.FfnEvenRefIdeal.nD Cert.FfnEvenRefIdeal.τ).loc Cert.FfnEvenRefIdeal.main_arg4) = m' ((c.tc : Thread Cert.FfnEvenRefIdeal.nD Cert.FfnEvenRefIdeal.τ).loc Cert.FfnEvenRefIdeal.main_arg4)
          ∧ r.2.mem ((c.tc : Thread Cert.FfnEvenRefIdeal.nD Cert.FfnEvenRefIdeal.τ).loc Cert.FfnEvenRefIdeal.main_arg5) = m' ((c.tc : Thread Cert.FfnEvenRefIdeal.nD Cert.FfnEvenRefIdeal.τ).loc Cert.FfnEvenRefIdeal.main_arg5)
          ∧ r.2.mem ((c.tc : Thread Cert.FfnEvenRefIdeal.nD Cert.FfnEvenRefIdeal.τ).loc Cert.FfnEvenRefIdeal.main_arg6) = m' ((c.tc : Thread Cert.FfnEvenRefIdeal.nD Cert.FfnEvenRefIdeal.τ).loc Cert.FfnEvenRefIdeal.main_arg6)
          ∧ r.2.mem ((c.tc : Thread Cert.FfnEvenRefIdeal.nD Cert.FfnEvenRefIdeal.τ).loc Cert.FfnEvenRefIdeal.main_arg7) = m' ((c.tc : Thread Cert.FfnEvenRefIdeal.nD Cert.FfnEvenRefIdeal.τ).loc Cert.FfnEvenRefIdeal.main_arg7))

def preserves_ProjOdd_ProjOddIdeal : Prop :=
  True

def algebraic_ProjOddIdeal_ProjOddRefIdeal [hProjOddIdeal : Cert.ProjOddIdeal.Facts] [hProjOddRefIdeal : Cert.ProjOddRefIdeal.Facts] : Prop :=
  ∀ (m : (ℓ : Loc Cert.ProjOddIdeal.nD Cert.ProjOddIdeal.τ Cert.ProjOddIdeal.sig) → Buf (Elt Ideal) ℓ) (g : Dev Cert.ProjOddIdeal.nD → PrngReg)
    (m' : (ℓ : Loc Cert.ProjOddRefIdeal.nD Cert.ProjOddRefIdeal.τ Cert.ProjOddRefIdeal.sig) → Buf (Elt Ideal) ℓ) (g' : Dev Cert.ProjOddRefIdeal.nD → PrngReg), Pre_ProjOddIdeal m →
    (∀ c : Dev Cert.ProjOddIdeal.nD,
      m' ((c.tc : Thread Cert.ProjOddRefIdeal.nD Cert.ProjOddRefIdeal.τ).loc Cert.ProjOddRefIdeal.main_arg0) = m ((c.tc : Thread Cert.ProjOddIdeal.nD Cert.ProjOddIdeal.τ).loc Cert.ProjOddIdeal.main_arg0)
      ∧ m' ((c.tc : Thread Cert.ProjOddRefIdeal.nD Cert.ProjOddRefIdeal.τ).loc Cert.ProjOddRefIdeal.main_arg1) = m ((c.tc : Thread Cert.ProjOddIdeal.nD Cert.ProjOddIdeal.τ).loc Cert.ProjOddIdeal.main_arg1)
      ∧ m' ((c.tc : Thread Cert.ProjOddRefIdeal.nD Cert.ProjOddRefIdeal.τ).loc Cert.ProjOddRefIdeal.main_arg2) = m ((c.tc : Thread Cert.ProjOddIdeal.nD Cert.ProjOddIdeal.τ).loc Cert.ProjOddIdeal.main_arg2)) →
    ∃ (v0 : (c : Dev Cert.ProjOddIdeal.nD) → Buf (Elt Ideal) ((c.tc : Thread Cert.ProjOddIdeal.nD Cert.ProjOddIdeal.τ).loc Cert.ProjOddIdeal.main_v2)),
      θ_run (Cert.ProjOddIdeal.defs (F := Ideal)) (onTc (τ := Cert.ProjOddIdeal.τ) (Cert.ProjOddIdeal.main (F := Ideal))) ⟨m, fun _ => 0, g⟩ (fun r => ∀ c : Dev Cert.ProjOddIdeal.nD,
          r.2.mem ((c.tc : Thread Cert.ProjOddIdeal.nD Cert.ProjOddIdeal.τ).loc Cert.ProjOddIdeal.main_v2) = v0 c
          ∧ r.2.mem ((c.tc : Thread Cert.ProjOddIdeal.nD Cert.ProjOddIdeal.τ).loc Cert.ProjOddIdeal.main_arg0) = m ((c.tc : Thread Cert.ProjOddIdeal.nD Cert.ProjOddIdeal.τ).loc Cert.ProjOddIdeal.main_arg0)
          ∧ r.2.mem ((c.tc : Thread Cert.ProjOddIdeal.nD Cert.ProjOddIdeal.τ).loc Cert.ProjOddIdeal.main_arg1) = m ((c.tc : Thread Cert.ProjOddIdeal.nD Cert.ProjOddIdeal.τ).loc Cert.ProjOddIdeal.main_arg1)
          ∧ r.2.mem ((c.tc : Thread Cert.ProjOddIdeal.nD Cert.ProjOddIdeal.τ).loc Cert.ProjOddIdeal.main_arg2) = m ((c.tc : Thread Cert.ProjOddIdeal.nD Cert.ProjOddIdeal.τ).loc Cert.ProjOddIdeal.main_arg2))
      ∧ θ_run (Cert.ProjOddRefIdeal.defs (F := Ideal)) (onTc (τ := Cert.ProjOddRefIdeal.τ) (Cert.ProjOddRefIdeal.main (F := Ideal))) ⟨m', fun _ => 0, g'⟩ (fun r => ∀ c : Dev Cert.ProjOddRefIdeal.nD,
          r.2.mem ((c.tc : Thread Cert.ProjOddRefIdeal.nD Cert.ProjOddRefIdeal.τ).loc Cert.ProjOddRefIdeal.main_v22) = v0 c
          ∧ r.2.mem ((c.tc : Thread Cert.ProjOddRefIdeal.nD Cert.ProjOddRefIdeal.τ).loc Cert.ProjOddRefIdeal.main_arg0) = m' ((c.tc : Thread Cert.ProjOddRefIdeal.nD Cert.ProjOddRefIdeal.τ).loc Cert.ProjOddRefIdeal.main_arg0)
          ∧ r.2.mem ((c.tc : Thread Cert.ProjOddRefIdeal.nD Cert.ProjOddRefIdeal.τ).loc Cert.ProjOddRefIdeal.main_arg1) = m' ((c.tc : Thread Cert.ProjOddRefIdeal.nD Cert.ProjOddRefIdeal.τ).loc Cert.ProjOddRefIdeal.main_arg1)
          ∧ r.2.mem ((c.tc : Thread Cert.ProjOddRefIdeal.nD Cert.ProjOddRefIdeal.τ).loc Cert.ProjOddRefIdeal.main_arg2) = m' ((c.tc : Thread Cert.ProjOddRefIdeal.nD Cert.ProjOddRefIdeal.τ).loc Cert.ProjOddRefIdeal.main_arg2))

def preserves_ProjEven_ProjEvenIdeal : Prop :=
  True

def algebraic_ProjEvenIdeal_ProjEvenRefIdeal [hProjEvenIdeal : Cert.ProjEvenIdeal.Facts] [hProjEvenRefIdeal : Cert.ProjEvenRefIdeal.Facts] : Prop :=
  ∀ (m : (ℓ : Loc Cert.ProjEvenIdeal.nD Cert.ProjEvenIdeal.τ Cert.ProjEvenIdeal.sig) → Buf (Elt Ideal) ℓ) (g : Dev Cert.ProjEvenIdeal.nD → PrngReg)
    (m' : (ℓ : Loc Cert.ProjEvenRefIdeal.nD Cert.ProjEvenRefIdeal.τ Cert.ProjEvenRefIdeal.sig) → Buf (Elt Ideal) ℓ) (g' : Dev Cert.ProjEvenRefIdeal.nD → PrngReg), Pre_ProjEvenIdeal m →
    (∀ c : Dev Cert.ProjEvenIdeal.nD,
      m' ((c.tc : Thread Cert.ProjEvenRefIdeal.nD Cert.ProjEvenRefIdeal.τ).loc Cert.ProjEvenRefIdeal.main_arg0) = m ((c.tc : Thread Cert.ProjEvenIdeal.nD Cert.ProjEvenIdeal.τ).loc Cert.ProjEvenIdeal.main_arg0)
      ∧ m' ((c.tc : Thread Cert.ProjEvenRefIdeal.nD Cert.ProjEvenRefIdeal.τ).loc Cert.ProjEvenRefIdeal.main_arg1) = m ((c.tc : Thread Cert.ProjEvenIdeal.nD Cert.ProjEvenIdeal.τ).loc Cert.ProjEvenIdeal.main_arg1)
      ∧ m' ((c.tc : Thread Cert.ProjEvenRefIdeal.nD Cert.ProjEvenRefIdeal.τ).loc Cert.ProjEvenRefIdeal.main_arg2) = m ((c.tc : Thread Cert.ProjEvenIdeal.nD Cert.ProjEvenIdeal.τ).loc Cert.ProjEvenIdeal.main_arg2)) →
    ∃ (v0 : (c : Dev Cert.ProjEvenIdeal.nD) → Buf (Elt Ideal) ((c.tc : Thread Cert.ProjEvenIdeal.nD Cert.ProjEvenIdeal.τ).loc Cert.ProjEvenIdeal.main_v70_0)) (v1 : (c : Dev Cert.ProjEvenIdeal.nD) → Buf (Elt Ideal) ((c.tc : Thread Cert.ProjEvenIdeal.nD Cert.ProjEvenIdeal.τ).loc Cert.ProjEvenIdeal.main_v70_1)) (v2 : (c : Dev Cert.ProjEvenIdeal.nD) → Buf (Elt Ideal) ((c.tc : Thread Cert.ProjEvenIdeal.nD Cert.ProjEvenIdeal.τ).loc Cert.ProjEvenIdeal.main_v70_2)),
      θ_run (Cert.ProjEvenIdeal.defs (F := Ideal)) (onTc (τ := Cert.ProjEvenIdeal.τ) (Cert.ProjEvenIdeal.main (F := Ideal))) ⟨m, fun _ => 0, g⟩ (fun r => ∀ c : Dev Cert.ProjEvenIdeal.nD,
          r.2.mem ((c.tc : Thread Cert.ProjEvenIdeal.nD Cert.ProjEvenIdeal.τ).loc Cert.ProjEvenIdeal.main_v70_0) = v0 c
          ∧ r.2.mem ((c.tc : Thread Cert.ProjEvenIdeal.nD Cert.ProjEvenIdeal.τ).loc Cert.ProjEvenIdeal.main_v70_1) = v1 c
          ∧ r.2.mem ((c.tc : Thread Cert.ProjEvenIdeal.nD Cert.ProjEvenIdeal.τ).loc Cert.ProjEvenIdeal.main_v70_2) = v2 c
          ∧ r.2.mem ((c.tc : Thread Cert.ProjEvenIdeal.nD Cert.ProjEvenIdeal.τ).loc Cert.ProjEvenIdeal.main_arg0) = m ((c.tc : Thread Cert.ProjEvenIdeal.nD Cert.ProjEvenIdeal.τ).loc Cert.ProjEvenIdeal.main_arg0)
          ∧ r.2.mem ((c.tc : Thread Cert.ProjEvenIdeal.nD Cert.ProjEvenIdeal.τ).loc Cert.ProjEvenIdeal.main_arg1) = m ((c.tc : Thread Cert.ProjEvenIdeal.nD Cert.ProjEvenIdeal.τ).loc Cert.ProjEvenIdeal.main_arg1)
          ∧ r.2.mem ((c.tc : Thread Cert.ProjEvenIdeal.nD Cert.ProjEvenIdeal.τ).loc Cert.ProjEvenIdeal.main_arg2) = m ((c.tc : Thread Cert.ProjEvenIdeal.nD Cert.ProjEvenIdeal.τ).loc Cert.ProjEvenIdeal.main_arg2))
      ∧ θ_run (Cert.ProjEvenRefIdeal.defs (F := Ideal)) (onTc (τ := Cert.ProjEvenRefIdeal.τ) (Cert.ProjEvenRefIdeal.main (F := Ideal))) ⟨m', fun _ => 0, g'⟩ (fun r => ∀ c : Dev Cert.ProjEvenRefIdeal.nD,
          r.2.mem ((c.tc : Thread Cert.ProjEvenRefIdeal.nD Cert.ProjEvenRefIdeal.τ).loc Cert.ProjEvenRefIdeal.main_v195) = v0 c
          ∧ r.2.mem ((c.tc : Thread Cert.ProjEvenRefIdeal.nD Cert.ProjEvenRefIdeal.τ).loc Cert.ProjEvenRefIdeal.main_v196) = v1 c
          ∧ r.2.mem ((c.tc : Thread Cert.ProjEvenRefIdeal.nD Cert.ProjEvenRefIdeal.τ).loc Cert.ProjEvenRefIdeal.main_v197) = v2 c
          ∧ r.2.mem ((c.tc : Thread Cert.ProjEvenRefIdeal.nD Cert.ProjEvenRefIdeal.τ).loc Cert.ProjEvenRefIdeal.main_arg0) = m' ((c.tc : Thread Cert.ProjEvenRefIdeal.nD Cert.ProjEvenRefIdeal.τ).loc Cert.ProjEvenRefIdeal.main_arg0)
          ∧ r.2.mem ((c.tc : Thread Cert.ProjEvenRefIdeal.nD Cert.ProjEvenRefIdeal.τ).loc Cert.ProjEvenRefIdeal.main_arg1) = m' ((c.tc : Thread Cert.ProjEvenRefIdeal.nD Cert.ProjEvenRefIdeal.τ).loc Cert.ProjEvenRefIdeal.main_arg1)
          ∧ r.2.mem ((c.tc : Thread Cert.ProjEvenRefIdeal.nD Cert.ProjEvenRefIdeal.τ).loc Cert.ProjEvenRefIdeal.main_arg2) = m' ((c.tc : Thread Cert.ProjEvenRefIdeal.nD Cert.ProjEvenRefIdeal.τ).loc Cert.ProjEvenRefIdeal.main_arg2))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hFfnOdd : Cert.FfnOdd.Facts) (hFfnOddIdeal : Cert.FfnOddIdeal.Facts) (hFfnOddRefIdeal : Cert.FfnOddRefIdeal.Facts) (hFfnEven : Cert.FfnEven.Facts) (hFfnEvenIdeal : Cert.FfnEvenIdeal.Facts) (hFfnEvenRefIdeal : Cert.FfnEvenRefIdeal.Facts) (hProjOdd : Cert.ProjOdd.Facts) (hProjOddIdeal : Cert.ProjOddIdeal.Facts) (hProjOddRefIdeal : Cert.ProjOddRefIdeal.Facts) (hProjEven : Cert.ProjEven.Facts) (hProjEvenIdeal : Cert.ProjEvenIdeal.Facts) (hProjEvenRefIdeal : Cert.ProjEvenRefIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Ffn (hFfn := hFfn)
    ∧ quiescent_FfnIdeal (hFfnIdeal := hFfnIdeal)
    ∧ quiescent_FfnRefIdeal (hFfnRefIdeal := hFfnRefIdeal)
    ∧ quiescent_FfnOdd (hFfnOdd := hFfnOdd)
    ∧ quiescent_FfnOddIdeal (hFfnOddIdeal := hFfnOddIdeal)
    ∧ quiescent_FfnOddRefIdeal (hFfnOddRefIdeal := hFfnOddRefIdeal)
    ∧ quiescent_FfnEven (hFfnEven := hFfnEven)
    ∧ quiescent_FfnEvenIdeal (hFfnEvenIdeal := hFfnEvenIdeal)
    ∧ quiescent_FfnEvenRefIdeal (hFfnEvenRefIdeal := hFfnEvenRefIdeal)
    ∧ quiescent_ProjOdd (hProjOdd := hProjOdd)
    ∧ quiescent_ProjOddIdeal (hProjOddIdeal := hProjOddIdeal)
    ∧ quiescent_ProjOddRefIdeal (hProjOddRefIdeal := hProjOddRefIdeal)
    ∧ quiescent_ProjEven (hProjEven := hProjEven)
    ∧ quiescent_ProjEvenIdeal (hProjEvenIdeal := hProjEvenIdeal)
    ∧ quiescent_ProjEvenRefIdeal (hProjEvenRefIdeal := hProjEvenRefIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Ffn_FfnIdeal
    ∧ algebraic_FfnIdeal_FfnRefIdeal (hFfnIdeal := hFfnIdeal) (hFfnRefIdeal := hFfnRefIdeal)
    ∧ preserves_FfnOdd_FfnOddIdeal
    ∧ algebraic_FfnOddIdeal_FfnOddRefIdeal (hFfnOddIdeal := hFfnOddIdeal) (hFfnOddRefIdeal := hFfnOddRefIdeal)
    ∧ preserves_FfnEven_FfnEvenIdeal
    ∧ algebraic_FfnEvenIdeal_FfnEvenRefIdeal (hFfnEvenIdeal := hFfnEvenIdeal) (hFfnEvenRefIdeal := hFfnEvenRefIdeal)
    ∧ preserves_ProjOdd_ProjOddIdeal
    ∧ algebraic_ProjOddIdeal_ProjOddRefIdeal (hProjOddIdeal := hProjOddIdeal) (hProjOddRefIdeal := hProjOddRefIdeal)
    ∧ preserves_ProjEven_ProjEvenIdeal
    ∧ algebraic_ProjEvenIdeal_ProjEvenRefIdeal (hProjEvenIdeal := hProjEvenIdeal) (hProjEvenRefIdeal := hProjEvenRefIdeal)
-- ==== Pre_finite_scores.lean ====
abbrev S32768x3072 : Shape := ⟨2, ![32768, 3072]⟩
abbrev S16x320 : Shape := ⟨2, ![16, 320]⟩
abbrev S32768x2048 : Shape := ⟨2, ![32768, 2048]⟩
abbrev S_ : Shape := ⟨0, ![]⟩

class Facts : Prop where
  slices_S32768x3072_S32768x2048_0_0 : S32768x3072.Slices ![0, 0] S32768x2048
  bitsLt_bf16_f32 : FTy.bits .bf16 < FTy.bits .f32
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S16x320 : S_.BroadcastsInDim S16x320 (![] : Fin 0 → Fin S16x320.rank)
  reducesTo_S16x320_S_d0_1 : S16x320.ReducesTo [0, 1] S_

variable [Facts]

def fn {F : FTy → Type} [FloatOps F] (main_arg0 : FVec F S32768x3072 .bf16) (main_arg1 : FVec F S16x320 .f32) : IVec S_ 1 :=
  let main_v0 : FVec F S32768x2048 .bf16 := (extractStridedSlice S32768x2048 ![0, 0] · slices_S32768x3072_S32768x2048_0_0) main_arg0
  let main_v1 : FVec F S32768x2048 .f32 := (extf .f32 · bitsLt_bf16_f32) main_v0
  let main_v2 : FVec F S32768x2048 .f32 := Host.absf main_v1
  let main_cst : FVec F S_ .f32 := constant S_ .f32 0x7F800000#32
  let main_v3 : FVec F S32768x2048 .f32 := broadcastInDim S32768x2048 ![] bcast_S_S32768x2048 main_cst
  let main_v4 : IVec S32768x2048 1 := cmpf .olt main_v2 main_v3
  let main_c : IVec S_ 1 := constantI S_ 1 1#1
  let main_v5 : IVec S_ 1 := (fun x v => Host.reduce IntOp.andi x v reducesTo_S32768x2048_S_d0_1 h_S_) main_v4 main_c
  let main_v6 : FVec F S16x320 .f32 := Host.absf main_arg1
  let main_cst_0 : FVec F S_ .f32 := constant S_ .f32 0x7F800000#32
  let main_v7 : FVec F S16x320 .f32 := broadcastInDim S16x320 ![] bcast_S_S16x320 main_cst_0
  let main_v8 : IVec S16x320 1 := cmpf .olt main_v6 main_v7
  let main_c_1 : IVec S_ 1 := constantI S_ 1 1#1
  let main_v9 : IVec S_ 1 := (fun x v => Host.reduce IntOp.andi x v reducesTo_S16x320_S_d0_1 h_S_) main_v8 main_c_1
  let main_v10 : IVec S_ 1 := andi main_v5 main_v9
  main_v10
-- ==== Kernel.lean ====
abbrev S32768x3072 : Shape := ⟨2, ![32768, 3072]⟩
abbrev S16x320 : Shape := ⟨2, ![16, 320]⟩
abbrev S256 : Shape := ⟨1, ![256]⟩
abbrev S256x1 : Shape := ⟨2, ![256, 1]⟩
abbrev S768 : Shape := ⟨1, ![768]⟩
abbrev S1x768 : Shape := ⟨2, ![1, 768]⟩
abbrev S_ : Shape := ⟨0, ![]⟩
abbrev S256x768 : Shape := ⟨2, ![256, 768]⟩
abbrev S256x768x1 : Shape := ⟨3, ![256, 768, 1]⟩
abbrev S16x256x768 : Shape := ⟨3, ![16, 256, 768]⟩
abbrev S1x256x768 : Shape := ⟨3, ![1, 256, 768]⟩
abbrev S32768x1024 : Shape := ⟨2, ![32768, 1024]⟩
abbrev S256x128 : Shape := ⟨2, ![256, 128]⟩
abbrev S2x256x768 : Shape := ⟨3, ![2, 256, 768]⟩
abbrev S256x256 : Shape := ⟨2, ![256, 256]⟩
abbrev S1x256x256 : Shape := ⟨3, ![1, 256, 256]⟩

abbrev nBuf : Space → Nat
  | .hbm => 88
  | .vmem => 18
  | .smem => 0
  | _ => 0

abbrev bufTy : (tb : Table) → Fin (tcTables nBuf tb) → BufTy
  | .hbm, ⟨0, _⟩ => ⟨S32768x3072, .bf16⟩
  | .hbm, ⟨1, _⟩ => ⟨S16x320, .f32⟩
  | .hbm, ⟨2, _⟩ => ⟨S256, .i32⟩
  | .hbm, ⟨3, _⟩ => ⟨S256x1, .i32⟩
  | .hbm, ⟨4, _⟩ => ⟨S768, .i32⟩
  | .hbm, ⟨5, _⟩ => ⟨S1x768, .i32⟩
  | .hbm, ⟨6, _⟩ => ⟨S_, .i32⟩
  | .hbm, ⟨7, _⟩ => ⟨S256x1, .i32⟩
  | .hbm, ⟨8, _⟩ => ⟨S256x1, .i32⟩
  | .hbm, ⟨9, _⟩ => ⟨S256x768, .i32⟩
  | .hbm, ⟨10, _⟩ => ⟨S256x768, .i32⟩
  | .hbm, ⟨11, _⟩ => ⟨S256x768, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S256x768, .i32⟩
  | .hbm, ⟨16, _⟩ => ⟨S256x768, .i32⟩
  | .hbm, ⟨17, _⟩ => ⟨S_, .i32⟩
  | .hbm, ⟨18, _⟩ => ⟨S256x768, .i32⟩
  | .hbm, ⟨19, _⟩ => ⟨S256x768, .i32⟩
  | .hbm, ⟨20, _⟩ => ⟨S_, .i32⟩
  | .hbm, ⟨21, _⟩ => ⟨S256x768, .i32⟩
  | .hbm, ⟨22, _⟩ => ⟨S256x768, .i32⟩
  | .hbm, ⟨23, _⟩ => ⟨S_, .i32⟩
  | .hbm, ⟨24, _⟩ => ⟨S256x768, .i32⟩
  | .hbm, ⟨25, _⟩ => ⟨S256x768, .i1⟩
  | .hbm, ⟨26, _⟩ => ⟨S_, .i32⟩
  | .hbm, ⟨27, _⟩ => ⟨S256x768, .i32⟩
  | .hbm, ⟨28, _⟩ => ⟨S256x768, .i32⟩
  | .hbm, ⟨29, _⟩ => ⟨S256x768, .i32⟩
  | .hbm, ⟨30, _⟩ => ⟨S256x768x1, .i32⟩
  | .hbm, ⟨31, _⟩ => ⟨S16x256x768, .f32⟩
  | .hbm, ⟨32, _⟩ => ⟨S_, .i32⟩
  | .hbm, ⟨33, _⟩ => ⟨S256x1, .i32⟩
  | .hbm, ⟨34, _⟩ => ⟨S256x1, .i32⟩
  | .hbm, ⟨35, _⟩ => ⟨S_, .i32⟩
  | .hbm, ⟨36, _⟩ => ⟨S_, .i32⟩
  | .hbm, ⟨37, _⟩ => ⟨S256x1, .i32⟩
  | .hbm, ⟨38, _⟩ => ⟨S256x1, .i32⟩
  | .hbm, ⟨39, _⟩ => ⟨S256x1, .i32⟩
  | .hbm, ⟨40, _⟩ => ⟨S_, .i32⟩
  | .hbm, ⟨41, _⟩ => ⟨S256x1, .i32⟩
  | .hbm, ⟨42, _⟩ => ⟨S256x1, .i1⟩
  | .hbm, ⟨43, _⟩ => ⟨S256x1, .i32⟩
  | .hbm, ⟨44, _⟩ => ⟨S256x1, .i32⟩
  | .hbm, ⟨45, _⟩ => ⟨S_, .i32⟩
  | .hbm, ⟨46, _⟩ => ⟨S256x1, .i32⟩
  | .hbm, ⟨47, _⟩ => ⟨S256x1, .i1⟩
  | .hbm, ⟨48, _⟩ => ⟨S256x1, .i1⟩
  | .hbm, ⟨49, _⟩ => ⟨S_, .i32⟩
  | .hbm, ⟨50, _⟩ => ⟨S256x1, .i32⟩
  | .hbm, ⟨51, _⟩ => ⟨S256x1, .i32⟩
  | .hbm, ⟨52, _⟩ => ⟨S256x1, .i32⟩
  | .hbm, ⟨53, _⟩ => ⟨S_, .i32⟩
  | .hbm, ⟨54, _⟩ => ⟨S_, .i32⟩
  | .hbm, ⟨55, _⟩ => ⟨S1x768, .i32⟩
  | .hbm, ⟨56, _⟩ => ⟨S1x768, .i32⟩
  | .hbm, ⟨57, _⟩ => ⟨S1x768, .i32⟩
  | .hbm, ⟨58, _⟩ => ⟨S_, .i32⟩
  | .hbm, ⟨59, _⟩ => ⟨S1x768, .i32⟩
  | .hbm, ⟨60, _⟩ => ⟨S1x768, .i1⟩
  | .hbm, ⟨61, _⟩ => ⟨S1x768, .i32⟩
  | .hbm, ⟨62, _⟩ => ⟨S1x768, .i32⟩
  | .hbm, ⟨63, _⟩ => ⟨S_, .i32⟩
  | .hbm, ⟨64, _⟩ => ⟨S1x768, .i32⟩
  | .hbm, ⟨65, _⟩ => ⟨S1x768, .i1⟩
  | .hbm, ⟨66, _⟩ => ⟨S1x768, .i1⟩
  | .hbm, ⟨67, _⟩ => ⟨S_, .i32⟩
  | .hbm, ⟨68, _⟩ => ⟨S1x768, .i32⟩
  | .hbm, ⟨69, _⟩ => ⟨S1x768, .i32⟩
  | .hbm, ⟨70, _⟩ => ⟨S1x768, .i32⟩
  | .hbm, ⟨71, _⟩ => ⟨S256x768, .i32⟩
  | .hbm, ⟨72, _⟩ => ⟨S256x768, .i32⟩
  | .hbm, ⟨73, _⟩ => ⟨S256x768, .i1⟩
  | .hbm, ⟨74, _⟩ => ⟨S_, .i32⟩
  | .hbm, ⟨75, _⟩ => ⟨S256x1, .i32⟩
  | .hbm, ⟨76, _⟩ => ⟨S256x1, .i32⟩
  | .hbm, ⟨77, _⟩ => ⟨S256x768, .i32⟩
  | .hbm, ⟨78, _⟩ => ⟨S256x768, .i32⟩
  | .hbm, ⟨79, _⟩ => ⟨S256x768, .i1⟩
  | .hbm, ⟨80, _⟩ => ⟨S256x768, .i1⟩
  | .hbm, ⟨81, _⟩ => ⟨S1x256x768, .i1⟩
  | .hbm, ⟨82, _⟩ => ⟨S_, .f32⟩
  | .hbm, ⟨83, _⟩ => ⟨S_, .f32⟩
  | .hbm, ⟨84, _⟩ => ⟨S16x256x768, .i1⟩
  | .hbm, ⟨85, _⟩ => ⟨S16x256x768, .f32⟩
  | .hbm, ⟨86, _⟩ => ⟨S16x256x768, .f32⟩
  | .hbm, ⟨87, _⟩ => ⟨S32768x1024, .bf16⟩
  | .local _ .vmem, ⟨0, _⟩ => ⟨S256x128, .bf16⟩
  | .local _ .vmem, ⟨1, _⟩ => ⟨S256x128, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S256x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S256x128, .bf16⟩
  | .local _ .vmem, ⟨11, _⟩ => ⟨S256x128, .bf16⟩
  | .local _ .vmem, ⟨12, _⟩ => ⟨S256x128, .bf16⟩
  | .local _ .vmem, ⟨13, _⟩ => ⟨S256x128, .bf16⟩
  | .local _ .vmem, ⟨14, _⟩ => ⟨S2x256x768, .f32⟩
  | .local _ .vmem, ⟨15, _⟩ => ⟨S2x256x768, .f32⟩
  | .local _ .vmem, ⟨16, _⟩ => ⟨S256x128, .bf16⟩
  | .local _ .vmem, ⟨17, _⟩ => ⟨S256x128, .bf16⟩
  | _, _ => ⟨S32768x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_v12 : Ref sig .tc := ⟨.hbm, 24, rfl⟩
abbrev main_v13 : Ref sig .tc := ⟨.hbm, 25, rfl⟩
abbrev main_c_4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_5 : Ref sig .tc := ⟨.hbm, 32, rfl⟩
abbrev main_v19 : Ref sig .tc := ⟨.hbm, 33, rfl⟩
abbrev main_v20 : Ref sig .tc := ⟨.hbm, 34, rfl⟩
abbrev main_c_6 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_c : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_0 : Ref sig .tc := ⟨.hbm, 49, rfl⟩
abbrev main_call1_v12 : Ref sig .tc := ⟨.hbm, 50, rfl⟩
abbrev main_call1_v13 : Ref sig .tc := ⟨.hbm, 51, rfl⟩
abbrev main_v21 : Ref sig .tc := ⟨.hbm, 52, rfl⟩
abbrev main_c_7 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_v6 : Ref sig .tc := ⟨.hbm, 60, rfl⟩
abbrev main_call2_v7 : Ref sig .tc := ⟨.hbm, 61, rfl⟩
abbrev main_call2_v8 : Ref sig .tc := ⟨.hbm, 62, rfl⟩
abbrev main_call2_c : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_call2_c_0 : Ref sig .tc := ⟨.hbm, 67, rfl⟩
abbrev main_call2_v12 : Ref sig .tc := ⟨.hbm, 68, rfl⟩
abbrev main_call2_v13 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_c_8 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_cst : Ref sig .tc := ⟨.hbm, 82, rfl⟩
abbrev main_call3_v0 : Ref sig .tc := ⟨.hbm, 83, rfl⟩
abbrev main_call3_v1 : Ref sig .tc := ⟨.hbm, 84, rfl⟩
abbrev main_call3_v2 : Ref sig .tc := ⟨.hbm, 85, rfl⟩
abbrev main_v33 : Ref sig .tc := ⟨.hbm, 86, rfl⟩
abbrev main_v34 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![8, 16, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let v1 : BitVec 32 := Scalar.addi v0 arg2
  let c0_i32 : BitVec 32 := 0#32
  ![v1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let c2_i32 : BitVec 32 := 2#32
  let v1 : BitVec 32 := Scalar.subi arg2 c2_i32
  let c0_i32 : BitVec 32 := 0#32
  let v2 : BitVec 32 := Scalar.addi v1 c0_i32
  let c0_i32_0 : BitVec 32 := 0#32
  let v3 : BitVec 32 := Scalar.maxsi v2 c0_i32_0
  let v4 : BitVec 32 := Scalar.addi v0 v3
  let c8_i32_1 : BitVec 32 := 8#32
  let v5 : BitVec 32 := Scalar.addi c8_i32_1 arg0
  let c0_i32_2 : BitVec 32 := 0#32
  ![v4.toNat, v5.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let c2_i32 : BitVec 32 := 2#32
  let v1 : BitVec 32 := Scalar.subi arg2 c2_i32
  let c1_i32 : BitVec 32 := 1#32
  let v2 : BitVec 32 := Scalar.addi v1 c1_i32
  let c0_i32 : BitVec 32 := 0#32
  let v3 : BitVec 32 := Scalar.maxsi v2 c0_i32
  let v4 : BitVec 32 := Scalar.addi v0 v3
  let c8_i32_0 : BitVec 32 := 8#32
  let v5 : BitVec 32 := Scalar.addi c8_i32_0 arg0
  let c0_i32_1 : BitVec 32 := 0#32
  ![v4.toNat, v5.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let c2_i32 : BitVec 32 := 2#32
  let v1 : BitVec 32 := Scalar.subi arg2 c2_i32
  let c2_i32_0 : BitVec 32 := 2#32
  let v2 : BitVec 32 := Scalar.addi v1 c2_i32_0
  let c0_i32 : BitVec 32 := 0#32
  let v3 : BitVec 32 := Scalar.maxsi v2 c0_i32
  let v4 : BitVec 32 := Scalar.addi v0 v3
  let c8_i32_1 : BitVec 32 := 8#32
  let v5 : BitVec 32 := Scalar.addi c8_i32_1 arg0
  let c0_i32_2 : BitVec 32 := 0#32
  ![v4.toNat, v5.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let c2_i32 : BitVec 32 := 2#32
  let v1 : BitVec 32 := Scalar.subi arg2 c2_i32
  let c0_i32 : BitVec 32 := 0#32
  let v2 : BitVec 32 := Scalar.addi v1 c0_i32
  let c0_i32_0 : BitVec 32 := 0#32
  let v3 : BitVec 32 := Scalar.maxsi v2 c0_i32_0
  let v4 : BitVec 32 := Scalar.addi v0 v3
  let c16_i32 : BitVec 32 := 16#32
  let v5 : BitVec 32 := Scalar.addi c16_i32 arg0
  let c0_i32_1 : BitVec 32 := 0#32
  ![v4.toNat, v5.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let c2_i32 : BitVec 32 := 2#32
  let v1 : BitVec 32 := Scalar.subi arg2 c2_i32
  let c1_i32 : BitVec 32 := 1#32
  let v2 : BitVec 32 := Scalar.addi v1 c1_i32
  let c0_i32 : BitVec 32 := 0#32
  let v3 : BitVec 32 := Scalar.maxsi v2 c0_i32
  let v4 : BitVec 32 := Scalar.addi v0 v3
  let c16_i32 : BitVec 32 := 16#32
  let v5 : BitVec 32 := Scalar.addi c16_i32 arg0
  let c0_i32_0 : BitVec 32 := 0#32
  ![v4.toNat, v5.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let c2_i32 : BitVec 32 := 2#32
  let v1 : BitVec 32 := Scalar.subi arg2 c2_i32
  let c2_i32_0 : BitVec 32 := 2#32
  let v2 : BitVec 32 := Scalar.addi v1 c2_i32_0
  let c0_i32 : BitVec 32 := 0#32
  let v3 : BitVec 32 := Scalar.maxsi v2 c0_i32
  let v4 : BitVec 32 := Scalar.addi v0 v3
  let c16_i32 : BitVec 32 := 16#32
  let v5 : BitVec 32 := Scalar.addi c16_i32 arg0
  let c0_i32_1 : BitVec 32 := 0#32
  ![v4.toNat, v5.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let v1 : BitVec 32 := Scalar.addi v0 arg2
  let c0_i32 : BitVec 32 := 0#32
  ![v1.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S2x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S32768x3072 : Shape := ⟨2, ![32768, 3072]⟩
abbrev S16x320 : Shape := ⟨2, ![16, 320]⟩
abbrev S32768x1024 : Shape := ⟨2, ![32768, 1024]⟩
abbrev S16x2048x16x64 : Shape := ⟨4, ![16, 2048, 16, 64]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S2048x2048x1 : Shape := ⟨3, ![2048, 2048, 1]⟩
abbrev S16x2048x2048 : Shape := ⟨3, ![16, 2048, 2048]⟩
abbrev S16x16x2048x2048 : Shape := ⟨4, ![16, 16, 2048, 2048]⟩
abbrev S1x16x2048x2048 : Shape := ⟨4, ![1, 16, 2048, 2048]⟩
abbrev S16x16x2048 : Shape := ⟨3, ![16, 16, 2048]⟩
abbrev S16x16x2048x1 : Shape := ⟨4, ![16, 16, 2048, 1]⟩
abbrev S16x16x64x2048 : Shape := ⟨4, ![16, 16, 64, 2048]⟩

abbrev nBuf : Space → Nat
  | .hbm => 94
  | .vmem => 0
  | .smem => 0
  | _ => 0

abbrev bufTy : (tb : Table) → Fin (tcTables nBuf tb) → BufTy
  | .hbm, ⟨0, _⟩ => ⟨S32768x3072, .bf16⟩
  | .hbm, ⟨1, _⟩ => ⟨S16x320, .f32⟩
  | .hbm, ⟨2, _⟩ => ⟨S32768x3072, .f32⟩
  | .hbm, ⟨3, _⟩ => ⟨S32768x1024, .f32⟩
  | .hbm, ⟨4, _⟩ => ⟨S32768x1024, .f32⟩
  | .hbm, ⟨5, _⟩ => ⟨S32768x1024, .f32⟩
  | .hbm, ⟨6, _⟩ => ⟨S16x2048x16x64, .f32⟩
  | .hbm, ⟨7, _⟩ => ⟨S16x2048x16x64, .f32⟩
  | .hbm, ⟨8, _⟩ => ⟨S16x2048x16x64, .f32⟩
  | .hbm, ⟨9, _⟩ => ⟨S2048, .i32⟩
  | .hbm, ⟨10, _⟩ => ⟨S2048x1, .i32⟩
  | .hbm, ⟨11, _⟩ => ⟨S1x2048, .i32⟩
  | .hbm, ⟨12, _⟩ => ⟨S2048x2048, .i32⟩
  | .hbm, ⟨13, _⟩ => ⟨S2048x2048, .i32⟩
  | .hbm, ⟨14, _⟩ => ⟨S2048x2048, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S2048x2048, .i32⟩
  | .hbm, ⟨19, _⟩ => ⟨S2048x2048, .i32⟩
  | .hbm, ⟨20, _⟩ => ⟨S_, .i32⟩
  | .hbm, ⟨21, _⟩ => ⟨S2048x2048, .i32⟩
  | .hbm, ⟨22, _⟩ => ⟨S2048x2048, .i32⟩
  | .hbm, ⟨23, _⟩ => ⟨S_, .i32⟩
  | .hbm, ⟨24, _⟩ => ⟨S2048x2048, .i32⟩
  | .hbm, ⟨25, _⟩ => ⟨S2048x2048, .i32⟩
  | .hbm, ⟨26, _⟩ => ⟨S_, .i32⟩
  | .hbm, ⟨27, _⟩ => ⟨S2048x2048, .i32⟩
  | .hbm, ⟨28, _⟩ => ⟨S2048x2048, .i1⟩
  | .hbm, ⟨29, _⟩ => ⟨S_, .i32⟩
  | .hbm, ⟨30, _⟩ => ⟨S2048x2048, .i32⟩
  | .hbm, ⟨31, _⟩ => ⟨S2048x2048, .i32⟩
  | .hbm, ⟨32, _⟩ => ⟨S2048x2048, .i32⟩
  | .hbm, ⟨33, _⟩ => ⟨S2048x2048x1, .i32⟩
  | .hbm, ⟨34, _⟩ => ⟨S16x2048x2048, .f32⟩
  | .hbm, ⟨35, _⟩ => ⟨S_, .i32⟩
  | .hbm, ⟨36, _⟩ => ⟨S_, .i32⟩
  | .hbm, ⟨37, _⟩ => ⟨S2048, .i32⟩
  | .hbm, ⟨38, _⟩ => ⟨S2048, .i32⟩
  | .hbm, ⟨39, _⟩ => ⟨S2048, .i32⟩
  | .hbm, ⟨40, _⟩ => ⟨S_, .i32⟩
  | .hbm, ⟨41, _⟩ => ⟨S2048, .i32⟩
  | .hbm, ⟨42, _⟩ => ⟨S2048, .i1⟩
  | .hbm, ⟨43, _⟩ => ⟨S2048, .i32⟩
  | .hbm, ⟨44, _⟩ => ⟨S2048, .i32⟩
  | .hbm, ⟨45, _⟩ => ⟨S_, .i32⟩
  | .hbm, ⟨46, _⟩ => ⟨S2048, .i32⟩
  | .hbm, ⟨47, _⟩ => ⟨S2048, .i1⟩
  | .hbm, ⟨48, _⟩ => ⟨S2048, .i1⟩
  | .hbm, ⟨49, _⟩ => ⟨S_, .i32⟩
  | .hbm, ⟨50, _⟩ => ⟨S2048, .i32⟩
  | .hbm, ⟨51, _⟩ => ⟨S2048, .i32⟩
  | .hbm, ⟨52, _⟩ => ⟨S2048, .i32⟩
  | .hbm, ⟨53, _⟩ => ⟨S1x2048, .i32⟩
  | .hbm, ⟨54, _⟩ => ⟨S2048x1, .i32⟩
  | .hbm, ⟨55, _⟩ => ⟨S2048x2048, .i32⟩
  | .hbm, ⟨56, _⟩ => ⟨S2048x2048, .i32⟩
  | .hbm, ⟨57, _⟩ => ⟨S2048x2048, .i1⟩
  | .hbm, ⟨58, _⟩ => ⟨S1x2048, .i32⟩
  | .hbm, ⟨59, _⟩ => ⟨S2048x1, .i32⟩
  | .hbm, ⟨60, _⟩ => ⟨S_, .i32⟩
  | .hbm, ⟨61, _⟩ => ⟨S2048x1, .i32⟩
  | .hbm, ⟨62, _⟩ => ⟨S2048x1, .i32⟩
  | .hbm, ⟨63, _⟩ => ⟨S2048x2048, .i32⟩
  | .hbm, ⟨64, _⟩ => ⟨S2048x2048, .i32⟩
  | .hbm, ⟨65, _⟩ => ⟨S2048x2048, .i1⟩
  | .hbm, ⟨66, _⟩ => ⟨S2048x2048, .i1⟩
  | .hbm, ⟨67, _⟩ => ⟨S16x16x2048x2048, .f32⟩
  | .hbm, ⟨68, _⟩ => ⟨S1x16x2048x2048, .f32⟩
  | .hbm, ⟨69, _⟩ => ⟨S16x16x2048x2048, .f32⟩
  | .hbm, ⟨70, _⟩ => ⟨S16x16x2048x2048, .f32⟩
  | .hbm, ⟨71, _⟩ => ⟨S_, .f32⟩
  | .hbm, ⟨72, _⟩ => ⟨S_, .f32⟩
  | .hbm, ⟨73, _⟩ => ⟨S16x16x2048x2048, .i1⟩
  | .hbm, ⟨74, _⟩ => ⟨S16x16x2048x2048, .f32⟩
  | .hbm, ⟨75, _⟩ => ⟨S16x16x2048x2048, .f32⟩
  | .hbm, ⟨76, _⟩ => ⟨S_, .f32⟩
  | .hbm, ⟨77, _⟩ => ⟨S16x16x2048, .f32⟩
  | .hbm, ⟨78, _⟩ => ⟨S_, .f32⟩
  | .hbm, ⟨79, _⟩ => ⟨S16x16x2048, .f32⟩
  | .hbm, ⟨80, _⟩ => ⟨S16x16x2048, .f32⟩
  | .hbm, ⟨81, _⟩ => ⟨S16x16x2048x1, .f32⟩
  | .hbm, ⟨82, _⟩ => ⟨S16x16x2048x2048, .f32⟩
  | .hbm, ⟨83, _⟩ => ⟨S16x16x2048x2048, .f32⟩
  | .hbm, ⟨84, _⟩ => ⟨S16x16x2048x2048, .f32⟩
  | .hbm, ⟨85, _⟩ => ⟨S_, .f32⟩
  | .hbm, ⟨86, _⟩ => ⟨S16x16x2048, .f32⟩
  | .hbm, ⟨87, _⟩ => ⟨S16x16x2048x1, .f32⟩
  | .hbm, ⟨88, _⟩ => ⟨S16x16x2048x2048, .f32⟩
  | .hbm, ⟨89, _⟩ => ⟨S16x16x2048x2048, .f32⟩
  | .hbm, ⟨90, _⟩ => ⟨S16x16x64x2048, .f32⟩
  | .hbm, ⟨91, _⟩ => ⟨S16x2048x16x64, .f32⟩
  | .hbm, ⟨92, _⟩ => ⟨S32768x1024, .f32⟩
  | .hbm, ⟨93, _⟩ => ⟨S32768x1024, .bf16⟩
  | _, _ => ⟨S32768x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_c : Ref sig .tc := ⟨.hbm, 15, rfl⟩
abbrev main_c_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_c : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_0 : Ref sig .tc := ⟨.hbm, 49, rfl⟩
abbrev main_call1_v12 : Ref sig .tc := ⟨.hbm, 50, rfl⟩
abbrev main_call1_v13 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_c_5 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_v41 : Ref sig .tc := ⟨.hbm, 75, rfl⟩
abbrev main_cst_6 : Ref sig .tc := ⟨.hbm, 76, rfl⟩
abbrev main_v42 : Ref sig .tc := ⟨.hbm, 77, rfl⟩
abbrev main_cst_7 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_cst_8 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩

abbrev nD : Nat := 1
abbrev τ : Topo := Topo.v7x

variable {F : FTy → Type} [FloatOps F]
-- ==== Ffn.lean ====
abbrev S32768x1024 : Shape := ⟨2, ![32768, 1024]⟩
abbrev S6x1024 : Shape := ⟨2, ![6, 1024]⟩
abbrev S1024x2816 : Shape := ⟨2, ![1024, 2816]⟩
abbrev S2816x1024 : Shape := ⟨2, ![2816, 1024]⟩
abbrev S1x1024 : Shape := ⟨2, ![1, 1024]⟩
abbrev S1024 : Shape := ⟨1, ![1024]⟩
abbrev S3x1024 : Shape := ⟨2, ![3, 1024]⟩
abbrev S1024x11x256 : Shape := ⟨3, ![1024, 11, 256]⟩
abbrev S11x1024x256 : Shape := ⟨3, ![11, 1024, 256]⟩
abbrev S11x256x1024 : Shape := ⟨3, ![11, 256, 1024]⟩
abbrev S512x1024 : Shape := ⟨2, ![512, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 24
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S6x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S3x1024, .f32⟩
  | .hbm, ⟨15, _⟩ => ⟨S1024x2816, .bf16⟩
  | .hbm, ⟨16, _⟩ => ⟨S1024x11x256, .bf16⟩
  | .hbm, ⟨17, _⟩ => ⟨S11x1024x256, .bf16⟩
  | .hbm, ⟨18, _⟩ => ⟨S1024x2816, .bf16⟩
  | .hbm, ⟨19, _⟩ => ⟨S1024x11x256, .bf16⟩
  | .hbm, ⟨20, _⟩ => ⟨S11x1024x256, .bf16⟩
  | .hbm, ⟨21, _⟩ => ⟨S2816x1024, .bf16⟩
  | .hbm, ⟨22, _⟩ => ⟨S11x256x1024, .bf16⟩
  | .hbm, ⟨23, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S3x1024, .f32⟩
  | .local _ .vmem, ⟨3, _⟩ => ⟨S11x1024x256, .bf16⟩
  | .local _ .vmem, ⟨4, _⟩ => ⟨S11x1024x256, .bf16⟩
  | .local _ .vmem, ⟨5, _⟩ => ⟨S11x256x1024, .bf16⟩
  | .local _ .vmem, ⟨6, _⟩ => ⟨S512x1024, .f32⟩
  | .local _ .vmem, ⟨7, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S11x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S11x1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S11x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S32768x1024 : Shape := ⟨2, ![32768, 1024]⟩
abbrev S6x1024 : Shape := ⟨2, ![6, 1024]⟩
abbrev S1024x2816 : Shape := ⟨2, ![1024, 2816]⟩
abbrev S2816x1024 : Shape := ⟨2, ![2816, 1024]⟩
abbrev S1x1024 : Shape := ⟨2, ![1, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S32768x2816 : Shape := ⟨2, ![32768, 2816]⟩

abbrev nBuf : Space → Nat
  | .hbm => 58
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S6x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S1024, .f32⟩
  | .hbm, ⟨7, _⟩ => ⟨S32768x1024, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1, .f32⟩
  | .hbm, ⟨18, _⟩ => ⟨S32768x1024, .f32⟩
  | .hbm, ⟨19, _⟩ => ⟨S32768x1024, .f32⟩
  | .hbm, ⟨20, _⟩ => ⟨S1x1024, .f32⟩
  | .hbm, ⟨21, _⟩ => ⟨S32768x1024, .f32⟩
  | .hbm, ⟨22, _⟩ => ⟨S32768x1024, .f32⟩
  | .hbm, ⟨23, _⟩ => ⟨S32768x2816, .f32⟩
  | .hbm, ⟨24, _⟩ => ⟨S32768x2816, .f32⟩
  | .hbm, ⟨25, _⟩ => ⟨S32768x2816, .f32⟩
  | .hbm, ⟨26, _⟩ => ⟨S_, .f32⟩
  | .hbm, ⟨27, _⟩ => ⟨S32768x2816, .f32⟩
  | .hbm, ⟨28, _⟩ => ⟨S32768x2816, .f32⟩
  | .hbm, ⟨29, _⟩ => ⟨S_, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S32768x2816, .f32⟩
  | .hbm, ⟨34, _⟩ => ⟨S32768x2816, .f32⟩
  | .hbm, ⟨35, _⟩ => ⟨S32768x1024, .f32⟩
  | .hbm, ⟨36, _⟩ => ⟨S1x1024, .f32⟩
  | .hbm, ⟨37, _⟩ => ⟨S1024, .f32⟩
  | .hbm, ⟨38, _⟩ => ⟨S32768x1024, .f32⟩
  | .hbm, ⟨39, _⟩ => ⟨S_, .f32⟩
  | .hbm, ⟨40, _⟩ => ⟨S32768, .f32⟩
  | .hbm, ⟨41, _⟩ => ⟨S32768x1, .f32⟩
  | .hbm, ⟨42, _⟩ => ⟨S_, .f32⟩
  | .hbm, ⟨43, _⟩ => ⟨S32768x1, .f32⟩
  | .hbm, ⟨44, _⟩ => ⟨S32768x1, .f32⟩
  | .hbm, ⟨45, _⟩ => ⟨S_, .f32⟩
  | .hbm, ⟨46, _⟩ => ⟨S32768x1, .f32⟩
  | .hbm, ⟨47, _⟩ => ⟨S32768x1, .f32⟩
  | .hbm, ⟨48, _⟩ => ⟨S32768x1, .f32⟩
  | .hbm, ⟨49, _⟩ => ⟨S32768x1024, .f32⟩
  | .hbm, ⟨50, _⟩ => ⟨S32768x1024, .f32⟩
  | .hbm, ⟨51, _⟩ => ⟨S1x1024, .f32⟩
  | .hbm, ⟨52, _⟩ => ⟨S32768x1024, .f32⟩
  | .hbm, ⟨53, _⟩ => ⟨S32768x1024, .f32⟩
  | .hbm, ⟨54, _⟩ => ⟨S_, .f32⟩
  | .hbm, ⟨55, _⟩ => ⟨S32768x1024, .f32⟩
  | .hbm, ⟨56, _⟩ => ⟨S32768x1024, .f32⟩
  | .hbm, ⟨57, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_2 : Ref sig .tc := ⟨.hbm, 39, rfl⟩
abbrev main_v23 : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩

abbrev nD : Nat := 1
abbrev τ : Topo := Topo.v7x

variable {F : FTy → Type} [FloatOps F]
-- ==== FfnOdd.lean ====
abbrev S32768x1024 : Shape := ⟨2, ![32768, 1024]⟩
abbrev S1024x1024 : Shape := ⟨2, ![1024, 1024]⟩
abbrev S6x1024 : Shape := ⟨2, ![6, 1024]⟩
abbrev S1024x2816 : Shape := ⟨2, ![1024, 2816]⟩
abbrev S2816x1024 : Shape := ⟨2, ![2816, 1024]⟩
abbrev S1x1024 : Shape := ⟨2, ![1, 1024]⟩
abbrev S1024 : Shape := ⟨1, ![1024]⟩
abbrev S3x1024 : Shape := ⟨2, ![3, 1024]⟩
abbrev S1024x11x256 : Shape := ⟨3, ![1024, 11, 256]⟩
abbrev S11x1024x256 : Shape := ⟨3, ![11, 1024, 256]⟩
abbrev S11x256x1024 : Shape := ⟨3, ![11, 256, 1024]⟩
abbrev S512x1024 : Shape := ⟨2, ![512, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 27
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S1024x1024, .f32⟩
  | .hbm, ⟨3, _⟩ => ⟨S6x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024x1024, .bf16⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S3x1024, .f32⟩
  | .hbm, ⟨18, _⟩ => ⟨S1024x2816, .bf16⟩
  | .hbm, ⟨19, _⟩ => ⟨S1024x11x256, .bf16⟩
  | .hbm, ⟨20, _⟩ => ⟨S11x1024x256, .bf16⟩
  | .hbm, ⟨21, _⟩ => ⟨S1024x2816, .bf16⟩
  | .hbm, ⟨22, _⟩ => ⟨S1024x11x256, .bf16⟩
  | .hbm, ⟨23, _⟩ => ⟨S11x1024x256, .bf16⟩
  | .hbm, ⟨24, _⟩ => ⟨S2816x1024, .bf16⟩
  | .hbm, ⟨25, _⟩ => ⟨S11x256x1024, .bf16⟩
  | .hbm, ⟨26, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S3x1024, .f32⟩
  | .local _ .vmem, ⟨6, _⟩ => ⟨S11x1024x256, .bf16⟩
  | .local _ .vmem, ⟨7, _⟩ => ⟨S11x1024x256, .bf16⟩
  | .local _ .vmem, ⟨8, _⟩ => ⟨S11x256x1024, .bf16⟩
  | .local _ .vmem, ⟨9, _⟩ => ⟨S512x1024, .f32⟩
  | .local _ .vmem, ⟨10, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S11x1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S11x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S11x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnOddRefIdeal.lean ====
abbrev S32768x1024 : Shape := ⟨2, ![32768, 1024]⟩
abbrev S1024x1024 : Shape := ⟨2, ![1024, 1024]⟩
abbrev S6x1024 : Shape := ⟨2, ![6, 1024]⟩
abbrev S1024x2816 : Shape := ⟨2, ![1024, 2816]⟩
abbrev S2816x1024 : Shape := ⟨2, ![2816, 1024]⟩
abbrev S1x1024 : Shape := ⟨2, ![1, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S32768x2816 : Shape := ⟨2, ![32768, 2816]⟩

abbrev nBuf : Space → Nat
  | .hbm => 81
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S1024x1024, .f32⟩
  | .hbm, ⟨3, _⟩ => ⟨S6x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S32768x1024, .f32⟩
  | .hbm, ⟨8, _⟩ => ⟨S32768x1024, .f32⟩
  | .hbm, ⟨9, _⟩ => ⟨S1x1024, .f32⟩
  | .hbm, ⟨10, _⟩ => ⟨S1024, .f32⟩
  | .hbm, ⟨11, _⟩ => ⟨S32768x1024, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S32768x1, .f32⟩
  | .hbm, ⟨22, _⟩ => ⟨S32768x1024, .f32⟩
  | .hbm, ⟨23, _⟩ => ⟨S32768x1024, .f32⟩
  | .hbm, ⟨24, _⟩ => ⟨S1x1024, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S1x1024, .f32⟩
  | .hbm, ⟨29, _⟩ => ⟨S1024, .f32⟩
  | .hbm, ⟨30, _⟩ => ⟨S32768x1024, .f32⟩
  | .hbm, ⟨31, _⟩ => ⟨S_, .f32⟩
  | .hbm, ⟨32, _⟩ => ⟨S32768, .f32⟩
  | .hbm, ⟨33, _⟩ => ⟨S32768x1, .f32⟩
  | .hbm, ⟨34, _⟩ => ⟨S_, .f32⟩
  | .hbm, ⟨35, _⟩ => ⟨S32768x1, .f32⟩
  | .hbm, ⟨36, _⟩ => ⟨S32768x1, .f32⟩
  | .hbm, ⟨37, _⟩ => ⟨S_, .f32⟩
  | .hbm, ⟨38, _⟩ => ⟨S32768x1, .f32⟩
  | .hbm, ⟨39, _⟩ => ⟨S32768x1, .f32⟩
  | .hbm, ⟨40, _⟩ => ⟨S32768x1, .f32⟩
  | .hbm, ⟨41, _⟩ => ⟨S32768x1024, .f32⟩
  | .hbm, ⟨42, _⟩ => ⟨S32768x1024, .f32⟩
  | .hbm, ⟨43, _⟩ => ⟨S1x1024, .f32⟩
  | .hbm, ⟨44, _⟩ => ⟨S32768x1024, .f32⟩
  | .hbm, ⟨45, _⟩ => ⟨S32768x1024, .f32⟩
  | .hbm, ⟨46, _⟩ => ⟨S32768x2816, .f32⟩
  | .hbm, ⟨47, _⟩ => ⟨S32768x2816, .f32⟩
  | .hbm, ⟨48, _⟩ => ⟨S32768x2816, .f32⟩
  | .hbm, ⟨49, _⟩ => ⟨S_, .f32⟩
  | .hbm, ⟨50, _⟩ => ⟨S32768x2816, .f32⟩
  | .hbm, ⟨51, _⟩ => ⟨S32768x2816, .f32⟩
  | .hbm, ⟨52, _⟩ => ⟨S_, .f32⟩
  | .hbm, ⟨53, _⟩ => ⟨S32768x2816, .f32⟩
  | .hbm, ⟨54, _⟩ => ⟨S32768x2816, .f32⟩
  | .hbm, ⟨55, _⟩ => ⟨S32768x2816, .f32⟩
  | .hbm, ⟨56, _⟩ => ⟨S32768x2816, .f32⟩
  | .hbm, ⟨57, _⟩ => ⟨S32768x2816, .f32⟩
  | .hbm, ⟨58, _⟩ => ⟨S32768x1024, .f32⟩
  | .hbm, ⟨59, _⟩ => ⟨S1x1024, .f32⟩
  | .hbm, ⟨60, _⟩ => ⟨S1024, .f32⟩
  | .hbm, ⟨61, _⟩ => ⟨S32768x1024, .f32⟩
  | .hbm, ⟨62, _⟩ => ⟨S_, .f32⟩
  | .hbm, ⟨63, _⟩ => ⟨S32768, .f32⟩
  | .hbm, ⟨64, _⟩ => ⟨S32768x1, .f32⟩
  | .hbm, ⟨65, _⟩ => ⟨S_, .f32⟩
  | .hbm, ⟨66, _⟩ => ⟨S32768x1, .f32⟩
  | .hbm, ⟨67, _⟩ => ⟨S32768x1, .f32⟩
  | .hbm, ⟨68, _⟩ => ⟨S_, .f32⟩
  | .hbm, ⟨69, _⟩ => ⟨S32768x1, .f32⟩
  | .hbm, ⟨70, _⟩ => ⟨S32768x1, .f32⟩
  | .hbm, ⟨71, _⟩ => ⟨S32768x1, .f32⟩
  | .hbm, ⟨72, _⟩ => ⟨S32768x1024, .f32⟩
  | .hbm, ⟨73, _⟩ => ⟨S32768x1024, .f32⟩
  | .hbm, ⟨74, _⟩ => ⟨S1x1024, .f32⟩
  | .hbm, ⟨75, _⟩ => ⟨S32768x1024, .f32⟩
  | .hbm, ⟨76, _⟩ => ⟨S32768x1024, .f32⟩
  | .hbm, ⟨77, _⟩ => ⟨S_, .f32⟩
  | .hbm, ⟨78, _⟩ => ⟨S32768x1024, .f32⟩
  | .hbm, ⟨79, _⟩ => ⟨S32768x1024, .f32⟩
  | .hbm, ⟨80, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_5 : Ref sig .tc := ⟨.hbm, 62, rfl⟩
abbrev main_v41 : Ref sig .tc := ⟨.hbm, 63, rfl⟩
abbrev main_v42 : Ref sig .tc := ⟨.hbm, 64, rfl⟩
abbrev main_cst_6 : Ref sig .tc := ⟨.hbm, 65, rfl⟩
abbrev main_v43 : Ref sig .tc := ⟨.hbm, 66, rfl⟩
abbrev main_v44 : Ref sig .tc := ⟨.hbm, 67, rfl⟩
abbrev main_cst_7 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_8 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩

abbrev nD : Nat := 1
abbrev τ : Topo := Topo.v7x

variable {F : FTy → Type} [FloatOps F]
-- ==== FfnEven.lean ====
abbrev S32768x1024 : Shape := ⟨2, ![32768, 1024]⟩
abbrev S32768x512 : Shape := ⟨2, ![32768, 512]⟩
abbrev S1024x1024 : Shape := ⟨2, ![1024, 1024]⟩
abbrev S6x1024 : Shape := ⟨2, ![6, 1024]⟩
abbrev S1024x2816 : Shape := ⟨2, ![1024, 2816]⟩
abbrev S2816x1024 : Shape := ⟨2, ![2816, 1024]⟩
abbrev S512x1024 : Shape := ⟨2, ![512, 1024]⟩
abbrev S1x1024 : Shape := ⟨2, ![1, 1024]⟩
abbrev S1024 : Shape := ⟨1, ![1024]⟩
abbrev S3x1024 : Shape := ⟨2, ![3, 1024]⟩
abbrev S1024x11x256 : Shape := ⟨3, ![1024, 11, 256]⟩
abbrev S11x1024x256 : Shape := ⟨3, ![11, 1024, 256]⟩
abbrev S11x256x1024 : Shape := ⟨3, ![11, 256, 1024]⟩
abbrev S512x512 : Shape := ⟨2, ![512, 512]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 30
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S6x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024x1024, .bf16⟩
  | .hbm, ⟨9, _⟩ => ⟨S512x1024, .bf16⟩
  | .hbm, ⟨10, _⟩ => ⟨S512x1024, .bf16⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S3x1024, .f32⟩
  | .hbm, ⟨21, _⟩ => ⟨S1024x2816, .bf16⟩
  | .hbm, ⟨22, _⟩ => ⟨S1024x11x256, .bf16⟩
  | .hbm, ⟨23, _⟩ => ⟨S11x1024x256, .bf16⟩
  | .hbm, ⟨24, _⟩ => ⟨S1024x2816, .bf16⟩
  | .hbm, ⟨25, _⟩ => ⟨S1024x11x256, .bf16⟩
  | .hbm, ⟨26, _⟩ => ⟨S11x1024x256, .bf16⟩
  | .hbm, ⟨27, _⟩ => ⟨S2816x1024, .bf16⟩
  | .hbm, ⟨28, _⟩ => ⟨S11x256x1024, .bf16⟩
  | .hbm, ⟨29, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S3x1024, .f32⟩
  | .local _ .vmem, ⟨9, _⟩ => ⟨S11x1024x256, .bf16⟩
  | .local _ .vmem, ⟨10, _⟩ => ⟨S11x1024x256, .bf16⟩
  | .local _ .vmem, ⟨11, _⟩ => ⟨S11x256x1024, .bf16⟩
  | .local _ .vmem, ⟨12, _⟩ => ⟨S512x1024, .f32⟩
  | .local _ .vmem, ⟨13, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S11x1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S11x1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S11x256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnEvenRefIdeal.lean ====
abbrev S32768x1024 : Shape := ⟨2, ![32768, 1024]⟩
abbrev S32768x512 : Shape := ⟨2, ![32768, 512]⟩
abbrev S1024x1024 : Shape := ⟨2, ![1024, 1024]⟩
abbrev S6x1024 : Shape := ⟨2, ![6, 1024]⟩
abbrev S1024x2816 : Shape := ⟨2, ![1024, 2816]⟩
abbrev S2816x1024 : Shape := ⟨2, ![2816, 1024]⟩
abbrev S1x1024 : Shape := ⟨2, ![1, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S32768x2816 : Shape := ⟨2, ![32768, 2816]⟩

abbrev nBuf : Space → Nat
  | .hbm => 83
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S6x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S32768x1024, .bf16⟩
  | .hbm, ⟨9, _⟩ => ⟨S32768x1024, .f32⟩
  | .hbm, ⟨10, _⟩ => ⟨S32768x1024, .f32⟩
  | .hbm, ⟨11, _⟩ => ⟨S1x1024, .f32⟩
  | .hbm, ⟨12, _⟩ => ⟨S1024, .f32⟩
  | .hbm, ⟨13, _⟩ => ⟨S32768x1024, .f32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S32768x1, .f32⟩
  | .hbm, ⟨24, _⟩ => ⟨S32768x1024, .f32⟩
  | .hbm, ⟨25, _⟩ => ⟨S32768x1024, .f32⟩
  | .hbm, ⟨26, _⟩ => ⟨S1x1024, .f32⟩
  | .hbm, ⟨27, _⟩ => ⟨S32768x1024, .f32⟩
  | .hbm, ⟨28, _⟩ => ⟨S32768x1024, .f32⟩
  | .hbm, ⟨29, _⟩ => ⟨S32768x1024, .f32⟩
  | .hbm, ⟨30, _⟩ => ⟨S1x1024, .f32⟩
  | .hbm, ⟨31, _⟩ => ⟨S1024, .f32⟩
  | .hbm, ⟨32, _⟩ => ⟨S32768x1024, .f32⟩
  | .hbm, ⟨33, _⟩ => ⟨S_, .f32⟩
  | .hbm, ⟨34, _⟩ => ⟨S32768, .f32⟩
  | .hbm, ⟨35, _⟩ => ⟨S32768x1, .f32⟩
  | .hbm, ⟨36, _⟩ => ⟨S_, .f32⟩
  | .hbm, ⟨37, _⟩ => ⟨S32768x1, .f32⟩
  | .hbm, ⟨38, _⟩ => ⟨S32768x1, .f32⟩
  | .hbm, ⟨39, _⟩ => ⟨S_, .f32⟩
  | .hbm, ⟨40, _⟩ => ⟨S32768x1, .f32⟩
  | .hbm, ⟨41, _⟩ => ⟨S32768x1, .f32⟩
  | .hbm, ⟨42, _⟩ => ⟨S32768x1, .f32⟩
  | .hbm, ⟨43, _⟩ => ⟨S32768x1024, .f32⟩
  | .hbm, ⟨44, _⟩ => ⟨S32768x1024, .f32⟩
  | .hbm, ⟨45, _⟩ => ⟨S1x1024, .f32⟩
  | .hbm, ⟨46, _⟩ => ⟨S32768x1024, .f32⟩
  | .hbm, ⟨47, _⟩ => ⟨S32768x1024, .f32⟩
  | .hbm, ⟨48, _⟩ => ⟨S32768x2816, .f32⟩
  | .hbm, ⟨49, _⟩ => ⟨S32768x2816, .f32⟩
  | .hbm, ⟨50, _⟩ => ⟨S32768x2816, .f32⟩
  | .hbm, ⟨51, _⟩ => ⟨S_, .f32⟩
  | .hbm, ⟨52, _⟩ => ⟨S32768x2816, .f32⟩
  | .hbm, ⟨53, _⟩ => ⟨S32768x2816, .f32⟩
  | .hbm, ⟨54, _⟩ => ⟨S_, .f32⟩
  | .hbm, ⟨55, _⟩ => ⟨S32768x2816, .f32⟩
  | .hbm, ⟨56, _⟩ => ⟨S32768x2816, .f32⟩
  | .hbm, ⟨57, _⟩ => ⟨S32768x2816, .f32⟩
  | .hbm, ⟨58, _⟩ => ⟨S32768x2816, .f32⟩
  | .hbm, ⟨59, _⟩ => ⟨S32768x2816, .f32⟩
  | .hbm, ⟨60, _⟩ => ⟨S32768x1024, .f32⟩
  | .hbm, ⟨61, _⟩ => ⟨S1x1024, .f32⟩
  | .hbm, ⟨62, _⟩ => ⟨S1024, .f32⟩
  | .hbm, ⟨63, _⟩ => ⟨S32768x1024, .f32⟩
  | .hbm, ⟨64, _⟩ => ⟨S_, .f32⟩
  | .hbm, ⟨65, _⟩ => ⟨S32768, .f32⟩
  | .hbm, ⟨66, _⟩ => ⟨S32768x1, .f32⟩
  | .hbm, ⟨67, _⟩ => ⟨S_, .f32⟩
  | .hbm, ⟨68, _⟩ => ⟨S32768x1, .f32⟩
  | .hbm, ⟨69, _⟩ => ⟨S32768x1, .f32⟩
  | .hbm, ⟨70, _⟩ => ⟨S_, .f32⟩
  | .hbm, ⟨71, _⟩ => ⟨S32768x1, .f32⟩
  | .hbm, ⟨72, _⟩ => ⟨S32768x1, .f32⟩
  | .hbm, ⟨73, _⟩ => ⟨S32768x1, .f32⟩
  | .hbm, ⟨74, _⟩ => ⟨S32768x1024, .f32⟩
  | .hbm, ⟨75, _⟩ => ⟨S32768x1024, .f32⟩
  | .hbm, ⟨76, _⟩ => ⟨S1x1024, .f32⟩
  | .hbm, ⟨77, _⟩ => ⟨S32768x1024, .f32⟩
  | .hbm, ⟨78, _⟩ => ⟨S32768x1024, .f32⟩
  | .hbm, ⟨79, _⟩ => ⟨S_, .f32⟩
  | .hbm, ⟨80, _⟩ => ⟨S32768x1024, .f32⟩
  | .hbm, ⟨81, _⟩ => ⟨S32768x1024, .f32⟩
  | .hbm, ⟨82, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_5 : Ref sig .tc := ⟨.hbm, 64, rfl⟩
abbrev main_v42 : Ref sig .tc := ⟨.hbm, 65, rfl⟩
abbrev main_v43 : Ref sig .tc := ⟨.hbm, 66, rfl⟩
abbrev main_cst_6 : Ref sig .tc := ⟨.hbm, 67, rfl⟩
abbrev main_v44 : Ref sig .tc := ⟨.hbm, 68, rfl⟩
abbrev main_v45 : Ref sig .tc := ⟨.hbm, 69, rfl⟩
abbrev main_cst_7 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_8 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩

abbrev nD : Nat := 1
abbrev τ : Topo := Topo.v7x

variable {F : FTy → Type} [FloatOps F]
-- ==== ProjOdd.lean ====
abbrev S32768x1024 : Shape := ⟨2, ![32768, 1024]⟩
abbrev S6x1024 : Shape := ⟨2, ![6, 1024]⟩
abbrev S1024x3072 : Shape := ⟨2, ![1024, 3072]⟩
abbrev S1x1024 : Shape := ⟨2, ![1, 1024]⟩
abbrev S32768x3072 : Shape := ⟨2, ![32768, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 6
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S6x1024, .f32⟩
  | .hbm, ⟨2, _⟩ => ⟨S1024x3072, .f32⟩
  | .hbm, ⟨3, _⟩ => ⟨S1x1024, .f32⟩
  | .hbm, ⟨4, _⟩ => ⟨S1024x3072, .bf16⟩
  | .hbm, ⟨5, _⟩ => ⟨S32768x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x3072, .bf16⟩
  | .local _ .vmem, ⟨5, _⟩ => ⟨S512x3072, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ProjOddRefIdeal.lean ====
abbrev S32768x1024 : Shape := ⟨2, ![32768, 1024]⟩
abbrev S6x1024 : Shape := ⟨2, ![6, 1024]⟩
abbrev S1024x3072 : Shape := ⟨2, ![1024, 3072]⟩
abbrev S1x1024 : Shape := ⟨2, ![1, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S32768x3072 : Shape := ⟨2, ![32768, 3072]⟩

abbrev nBuf : Space → Nat
  | .hbm => 30
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S6x1024, .f32⟩
  | .hbm, ⟨2, _⟩ => ⟨S1024x3072, .f32⟩
  | .hbm, ⟨3, _⟩ => ⟨S1x1024, .f32⟩
  | .hbm, ⟨4, _⟩ => ⟨S1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x3072, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S_, .f32⟩
  | .hbm, ⟨26, _⟩ => ⟨S32768x1024, .f32⟩
  | .hbm, ⟨27, _⟩ => ⟨S32768x1024, .f32⟩
  | .hbm, ⟨28, _⟩ => ⟨S32768x3072, .f32⟩
  | .hbm, ⟨29, _⟩ => ⟨S32768x3072, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== ProjEven.lean ====
abbrev S32768x1024 : Shape := ⟨2, ![32768, 1024]⟩
abbrev S6x1024 : Shape := ⟨2, ![6, 1024]⟩
abbrev S1024x3368 : Shape := ⟨2, ![1024, 3368]⟩
abbrev S1x1024 : Shape := ⟨2, ![1, 1024]⟩
abbrev S1024x256 : Shape := ⟨2, ![1024, 256]⟩
abbrev S1024x32 : Shape := ⟨2, ![1024, 32]⟩
abbrev S1024x8 : Shape := ⟨2, ![1024, 8]⟩
abbrev S1024x3072 : Shape := ⟨2, ![1024, 3072]⟩
abbrev S1x1024x1x32 : Shape := ⟨4, ![1, 1024, 1, 32]⟩
abbrev S1x1024x4x32 : Shape := ⟨4, ![1, 1024, 4, 32]⟩
abbrev S1024x128 : Shape := ⟨2, ![1024, 128]⟩
abbrev S_ : Shape := ⟨0, ![]⟩
abbrev S1024x120 : Shape := ⟨2, ![1024, 120]⟩
abbrev S1024x3584 : Shape := ⟨2, ![1024, 3584]⟩
abbrev S32 : Shape := ⟨1, ![32]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S16 : Shape := ⟨1, ![16]⟩
abbrev S1x16 : Shape := ⟨2, ![1, 16]⟩
abbrev S2048x16 : Shape := ⟨2, ![2048, 16]⟩
abbrev S1x2048x1x32 : Shape := ⟨4, ![1, 2048, 1, 32]⟩
abbrev S1x2048x4x32 : Shape := ⟨4, ![1, 2048, 4, 32]⟩
abbrev S1x2048x128 : Shape := ⟨3, ![1, 2048, 128]⟩
abbrev S4x2048x128 : Shape := ⟨3, ![4, 2048, 128]⟩
abbrev S32768x3072 : Shape := ⟨2, ![32768, 3072]⟩
abbrev S32768x384 : Shape := ⟨2, ![32768, 384]⟩
abbrev S32768x128 : Shape := ⟨2, ![32768, 128]⟩
abbrev S512x1024 : Shape := ⟨2, ![512, 1024]⟩
abbrev S4x512x128 : Shape := ⟨3, ![4, 512, 128]⟩
abbrev S512x3072 : Shape := ⟨2, ![512, 3072]⟩
abbrev S512x384 : Shape := ⟨2, ![512, 384]⟩
abbrev S512x128 : Shape := ⟨2, ![512, 128]⟩
abbrev S512 : Shape := ⟨1, ![512]⟩
abbrev S512x1 : Shape := ⟨2, ![512, 1]⟩
abbrev S1x512x128 : Shape := ⟨3, ![1, 512, 128]⟩
abbrev S1024x512 : Shape := ⟨2, ![1024, 512]⟩
abbrev S512x512 : Shape := ⟨2, ![512, 512]⟩

abbrev nBuf : Space → Nat
  | .hbm => 85
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S6x1024, .f32⟩
  | .hbm, ⟨2, _⟩ => ⟨S1024x3368, .f32⟩
  | .hbm, ⟨3, _⟩ => ⟨S1x1024, .f32⟩
  | .hbm, ⟨4, _⟩ => ⟨S1024x256, .f32⟩
  | .hbm, ⟨5, _⟩ => ⟨S1024x32, .f32⟩
  | .hbm, ⟨6, _⟩ => ⟨S1024x8, .f32⟩
  | .hbm, ⟨7, _⟩ => ⟨S1024x3072, .f32⟩
  | .hbm, ⟨8, _⟩ => ⟨S1x1024x1x32, .f32⟩
  | .hbm, ⟨9, _⟩ => ⟨S1x1024x4x32, .f32⟩
  | .hbm, ⟨10, _⟩ => ⟨S1024x128, .f32⟩
  | .hbm, ⟨11, _⟩ => ⟨S_, .f32⟩
  | .hbm, ⟨12, _⟩ => ⟨S1024x120, .f32⟩
  | .hbm, ⟨13, _⟩ => ⟨S1024x3584, .f32⟩
  | .hbm, ⟨14, _⟩ => ⟨S1024x3584, .bf16⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S2048, .f32⟩
  | .hbm, ⟨30, _⟩ => ⟨S2048x1, .f32⟩
  | .hbm, ⟨31, _⟩ => ⟨S1x32, .f32⟩
  | .hbm, ⟨32, _⟩ => ⟨S2048x32, .f32⟩
  | .hbm, ⟨33, _⟩ => ⟨S2048x32, .f32⟩
  | .hbm, ⟨34, _⟩ => ⟨S2048x32, .f32⟩
  | .hbm, ⟨35, _⟩ => ⟨S2048x32, .f32⟩
  | .hbm, ⟨36, _⟩ => ⟨S2048x32, .f32⟩
  | .hbm, ⟨37, _⟩ => ⟨S2048x64, .f32⟩
  | .hbm, ⟨38, _⟩ => ⟨S1x2048x1x64, .f32⟩
  | .hbm, ⟨39, _⟩ => ⟨S1x2048x2x64, .f32⟩
  | .hbm, ⟨40, _⟩ => ⟨S2048x128, .f32⟩
  | .hbm, ⟨41, _⟩ => ⟨S2048x32, .f32⟩
  | .hbm, ⟨42, _⟩ => ⟨S2048x64, .f32⟩
  | .hbm, ⟨43, _⟩ => ⟨S1x2048x1x64, .f32⟩
  | .hbm, ⟨44, _⟩ => ⟨S1x2048x2x64, .f32⟩
  | .hbm, ⟨45, _⟩ => ⟨S2048x128, .f32⟩
  | .hbm, ⟨46, _⟩ => ⟨S16, .f32⟩
  | .hbm, ⟨47, _⟩ => ⟨S_, .f32⟩
  | .hbm, ⟨48, _⟩ => ⟨S16, .f32⟩
  | .hbm, ⟨49, _⟩ => ⟨S16, .f32⟩
  | .hbm, ⟨50, _⟩ => ⟨S_, .f32⟩
  | .hbm, ⟨51, _⟩ => ⟨S16, .f32⟩
  | .hbm, ⟨52, _⟩ => ⟨S16, .f32⟩
  | .hbm, ⟨53, _⟩ => ⟨S16, .f32⟩
  | .hbm, ⟨54, _⟩ => ⟨S_, .f32⟩
  | .hbm, ⟨55, _⟩ => ⟨S16, .f32⟩
  | .hbm, ⟨56, _⟩ => ⟨S16, .f32⟩
  | .hbm, ⟨57, _⟩ => ⟨S_, .f32⟩
  | .hbm, ⟨58, _⟩ => ⟨S16, .f32⟩
  | .hbm, ⟨59, _⟩ => ⟨S16, .f32⟩
  | .hbm, ⟨60, _⟩ => ⟨S2048, .f32⟩
  | .hbm, ⟨61, _⟩ => ⟨S2048x1, .f32⟩
  | .hbm, ⟨62, _⟩ => ⟨S1x16, .f32⟩
  | .hbm, ⟨63, _⟩ => ⟨S2048x16, .f32⟩
  | .hbm, ⟨64, _⟩ => ⟨S2048x16, .f32⟩
  | .hbm, ⟨65, _⟩ => ⟨S2048x16, .f32⟩
  | .hbm, ⟨66, _⟩ => ⟨S2048x16, .f32⟩
  | .hbm, ⟨67, _⟩ => ⟨S2048x16, .f32⟩
  | .hbm, ⟨68, _⟩ => ⟨S2048x32, .f32⟩
  | .hbm, ⟨69, _⟩ => ⟨S1x2048x1x32, .f32⟩
  | .hbm, ⟨70, _⟩ => ⟨S1x2048x4x32, .f32⟩
  | .hbm, ⟨71, _⟩ => ⟨S2048x128, .f32⟩
  | .hbm, ⟨72, _⟩ => ⟨S2048x16, .f32⟩
  | .hbm, ⟨73, _⟩ => ⟨S2048x32, .f32⟩
  | .hbm, ⟨74, _⟩ => ⟨S1x2048x1x32, .f32⟩
  | .hbm, ⟨75, _⟩ => ⟨S1x2048x4x32, .f32⟩
  | .hbm, ⟨76, _⟩ => ⟨S2048x128, .f32⟩
  | .hbm, ⟨77, _⟩ => ⟨S1x2048x128, .f32⟩
  | .hbm, ⟨78, _⟩ => ⟨S1x2048x128, .f32⟩
  | .hbm, ⟨79, _⟩ => ⟨S1x2048x128, .f32⟩
  | .hbm, ⟨80, _⟩ => ⟨S1x2048x128, .f32⟩
  | .hbm, ⟨81, _⟩ => ⟨S4x2048x128, .f32⟩
  | .hbm, ⟨82, _⟩ => ⟨S32768x3072, .bf16⟩
  | .hbm, ⟨83, _⟩ => ⟨S32768x384, .bf16⟩
  | .hbm, ⟨84, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3584, .bf16⟩
  | .local _ .vmem, ⟨4, _⟩ => ⟨S4x512x128, .f32⟩
  | .local _ .vmem, ⟨5, _⟩ => ⟨S4x512x128, .f32⟩
  | .local _ .vmem, ⟨6, _⟩ => ⟨S512x3072, .bf16⟩
  | .local _ .vmem, ⟨7, _⟩ => ⟨S512x3072, .bf16⟩
  | .local _ .vmem, ⟨8, _⟩ => ⟨S512x384, .bf16⟩
  | .local _ .vmem, ⟨9, _⟩ => ⟨S512x384, .bf16⟩
  | .local _ .vmem, ⟨10, _⟩ => ⟨S512x128, .f32⟩
  | .local _ .vmem, ⟨11, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_4 : Ref sig .tc := ⟨.hbm, 47, rfl⟩
abbrev main_v39 : Ref sig .tc := ⟨.hbm, 48, rfl⟩
abbrev main_v40 : Ref sig .tc := ⟨.hbm, 49, rfl⟩
abbrev main_cst_5 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_v45 : Ref sig .tc := ⟨.hbm, 56, rfl⟩
abbrev main_cst_7 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70_0 : Ref sig .tc := ⟨.hbm, 82, rfl⟩
abbrev main_v70_1 : Ref sig .tc := ⟨.hbm, 83, rfl⟩
abbrev main_v70_2 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ProjEvenRefIdeal.lean ====
abbrev S32768x1024 : Shape := ⟨2, ![32768, 1024]⟩
abbrev S6x1024 : Shape := ⟨2, ![6, 1024]⟩
abbrev S1024x3368 : Shape := ⟨2, ![1024, 3368]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S16 : Shape := ⟨1, ![16]⟩
abbrev S1x16 : Shape := ⟨2, ![1, 16]⟩
abbrev S2048x16 : Shape := ⟨2, ![2048, 16]⟩
abbrev S1x1024 : Shape := ⟨2, ![1, 1024]⟩
abbrev S1024 : Shape := ⟨1, ![1024]⟩
abbrev S32768 : Shape := ⟨1, ![32768]⟩
abbrev S32768x1 : Shape := ⟨2, ![32768, 1]⟩
abbrev S32768x3368 : Shape := ⟨2, ![32768, 3368]⟩
abbrev S32768x512 : Shape := ⟨2, ![32768, 512]⟩
abbrev S32768x256 : Shape := ⟨2, ![32768, 256]⟩
abbrev S32768x32 : Shape := ⟨2, ![32768, 32]⟩
abbrev S32768x8 : Shape := ⟨2, ![32768, 8]⟩
abbrev S16x2048x8x64 : Shape := ⟨4, ![16, 2048, 8, 64]⟩
abbrev S16x2048x8x32 : Shape := ⟨4, ![16, 2048, 8, 32]⟩
abbrev S2048x1x32 : Shape := ⟨3, ![2048, 1, 32]⟩
abbrev S1x2048x1x32 : Shape := ⟨4, ![1, 2048, 1, 32]⟩
abbrev S16x2048x8x16 : Shape := ⟨4, ![16, 2048, 8, 16]⟩
abbrev S2048x1x16 : Shape := ⟨3, ![2048, 1, 16]⟩
abbrev S1x2048x1x16 : Shape := ⟨4, ![1, 2048, 1, 16]⟩
abbrev S16x2048x1x32 : Shape := ⟨4, ![16, 2048, 1, 32]⟩
abbrev S16x2048x1x16 : Shape := ⟨4, ![16, 2048, 1, 16]⟩
abbrev S32768x3072 : Shape := ⟨2, ![32768, 3072]⟩
abbrev S32768x384 : Shape := ⟨2, ![32768, 384]⟩
abbrev S32768x128 : Shape := ⟨2, ![32768, 128]⟩

abbrev nBuf : Space → Nat
  | .hbm => 217
  | .vmem => 0
  | .smem => 0
  | _ => 0

abbrev hbmTy0_0 (i : Nat) : BufTy := match i % 128 with
  | 0 => ⟨S32768x1024, .f32⟩
  | 1 => ⟨S6x1024, .f32⟩
  | 2 => ⟨S1024x3368, .f32⟩
  | 3 => ⟨S32, .f32⟩
  | 4 => ⟨S_, .f32⟩
  | 5 => ⟨S32, .f32⟩
  | 6 => ⟨S32, .f32⟩
  | 7 => ⟨S_, .f32⟩
  | 8 => ⟨S32, .f32⟩
  | 9 => ⟨S32, .f32⟩
  | 10 => ⟨S32, .f32⟩
  | 11 => ⟨S_, .f32⟩
  | 12 => ⟨S32, .f32⟩
  | 13 => ⟨S32, .f32⟩
  | 14 => ⟨S_, .f32⟩
  | 15 => ⟨S32, .f32⟩
  | 16 => ⟨S32, .f32⟩
  | 17 => ⟨S2048, .f32⟩
  | 18 => ⟨S2048x1, .f32⟩
  | 19 => ⟨S1x32, .f32⟩
  | 20 => ⟨S2048x32, .f32⟩
  | 21 => ⟨S2048x32, .f32⟩
  | 22 => ⟨S2048x32, .f32⟩
  | 23 => ⟨S2048x32, .f32⟩
  | 24 => ⟨S2048x32, .f32⟩
  | 25 => ⟨S16, .f32⟩
  | 26 => ⟨S_, .f32⟩
  | 27 => ⟨S16, .f32⟩
  | 28 => ⟨S16, .f32⟩
  | 29 => ⟨S_, .f32⟩
  | 30 => ⟨S16, .f32⟩
  | 31 => ⟨S16, .f32⟩
  | 32 => ⟨S16, .f32⟩
  | 33 => ⟨S_, .f32⟩
  | 34 => ⟨S16, .f32⟩
  | 35 => ⟨S16, .f32⟩
  | 36 => ⟨S_, .f32⟩
  | 37 => ⟨S16, .f32⟩
  | 38 => ⟨S16, .f32⟩
  | 39 => ⟨S2048, .f32⟩
  | 40 => ⟨S2048x1, .f32⟩
  | 41 => ⟨S1x16, .f32⟩
  | 42 => ⟨S2048x16, .f32⟩
  | 43 => ⟨S2048x16, .f32⟩
  | 44 => ⟨S2048x16, .f32⟩
  | 45 => ⟨S2048x16, .f32⟩
  | 46 => ⟨S2048x16, .f32⟩
  | 47 => ⟨S1x1024, .f32⟩
  | 48 => ⟨S1024, .f32⟩
  | 49 => ⟨S32768x1024, .f32⟩
  | 50 => ⟨S_, .f32⟩
  | 51 => ⟨S32768, .f32⟩
  | 52 => ⟨S32768x1, .f32⟩
  | 53 => ⟨S_, .f32⟩
  | 54 => ⟨S32768x1, .f32⟩
  | 55 => ⟨S32768x1, .f32⟩
  | 56 => ⟨S_, .f32⟩
  | 57 => ⟨S32768x1, .f32⟩
  | 58 => ⟨S32768x1, .f32⟩
  | 59 => ⟨S32768x1, .f32⟩
  | 60 => ⟨S32768x1024, .f32⟩
  | 61 => ⟨S32768x1024, .f32⟩
  | 62 => ⟨S1x1024, .f32⟩
  | 63 => ⟨S32768x1024, .f32⟩
  | 64 => ⟨S32768x1024, .f32⟩
  | 65 => ⟨S32768x3368, .f32⟩
  | 66 => ⟨S32768x512, .f32⟩
  | 67 => ⟨S32768x512, .f32⟩
  | 68 => ⟨S32768x512, .f32⟩
  | 69 => ⟨S32768x512, .f32⟩
  | 70 => ⟨S32768x512, .f32⟩
  | 71 => ⟨S32768x512, .f32⟩
  | 72 => ⟨S32768x256, .f32⟩
  | 73 => ⟨S32768x32, .f32⟩
  | 74 => ⟨S32768x8, .f32⟩
  | 75 => ⟨S16x2048x8x64, .f32⟩
  | 76 => ⟨S16x2048x8x32, .f32⟩
  | 77 => ⟨S16x2048x8x32, .f32⟩
  | 78 => ⟨S2048x1x32, .f32⟩
  | 79 => ⟨S2048x1x32, .f32⟩
  | 80 => ⟨S1x2048x1x32, .f32⟩
  | 81 => ⟨S16x2048x8x32, .f32⟩
  | 82 => ⟨S16x2048x8x32, .f32⟩
  | 83 => ⟨S1x2048x1x32, .f32⟩
  | 84 => ⟨S16x2048x8x32, .f32⟩
  | 85 => ⟨S16x2048x8x32, .f32⟩
  | 86 => ⟨S16x2048x8x32, .f32⟩
  | 87 => ⟨S1x2048x1x32, .f32⟩
  | 88 => ⟨S16x2048x8x32, .f32⟩
  | 89 => ⟨S16x2048x8x32, .f32⟩
  | 90 => ⟨S1x2048x1x32, .f32⟩
  | 91 => ⟨S16x2048x8x32, .f32⟩
  | 92 => ⟨S16x2048x8x32, .f32⟩
  | 93 => ⟨S16x2048x8x32, .f32⟩
  | 94 => ⟨S16x2048x8x64, .f32⟩
  | 95 => ⟨S32768x512, .f32⟩
  | 96 => ⟨S16x2048x8x64, .f32⟩
  | 97 => ⟨S16x2048x8x32, .f32⟩
  | 98 => ⟨S16x2048x8x32, .f32⟩
  | 99 => ⟨S2048x1x32, .f32⟩
  | 100 => ⟨S2048x1x32, .f32⟩
  | 101 => ⟨S1x2048x1x32, .f32⟩
  | 102 => ⟨S16x2048x8x32, .f32⟩
  | 103 => ⟨S16x2048x8x32, .f32⟩
  | 104 => ⟨S1x2048x1x32, .f32⟩
  | 105 => ⟨S16x2048x8x32, .f32⟩
  | 106 => ⟨S16x2048x8x32, .f32⟩
  | 107 => ⟨S16x2048x8x32, .f32⟩
  | 108 => ⟨S1x2048x1x32, .f32⟩
  | 109 => ⟨S16x2048x8x32, .f32⟩
  | 110 => ⟨S16x2048x8x32, .f32⟩
  | 111 => ⟨S1x2048x1x32, .f32⟩
  | 112 => ⟨S16x2048x8x32, .f32⟩
  | 113 => ⟨S16x2048x8x32, .f32⟩
  | 114 => ⟨S16x2048x8x32, .f32⟩
  | 115 => ⟨S16x2048x8x64, .f32⟩
  | 116 => ⟨S32768x512, .f32⟩
  | 117 => ⟨S16x2048x8x64, .f32⟩
  | 118 => ⟨S16x2048x8x32, .f32⟩
  | 119 => ⟨S16x2048x8x32, .f32⟩
  | 120 => ⟨S2048x1x32, .f32⟩
  | 121 => ⟨S2048x1x32, .f32⟩
  | 122 => ⟨S1x2048x1x32, .f32⟩
  | 123 => ⟨S16x2048x8x32, .f32⟩
  | 124 => ⟨S16x2048x8x32, .f32⟩
  | 125 => ⟨S1x2048x1x32, .f32⟩
  | 126 => ⟨S16x2048x8x32, .f32⟩
  | 127 => ⟨S16x2048x8x32, .f32⟩
  | _ => ⟨S32768x1024, .f32⟩

abbrev hbmTy0_1 (i : Nat) : BufTy := match i % 128 with
  | 0 => ⟨S16x2048x8x32, .f32⟩
  | 1 => ⟨S1x2048x1x32, .f32⟩
  | 2 => ⟨S16x2048x8x32, .f32⟩
  | 3 => ⟨S16x2048x8x32, .f32⟩
  | 4 => ⟨S1x2048x1x32, .f32⟩
  | 5 => ⟨S16x2048x8x32, .f32⟩
  | 6 => ⟨S16x2048x8x32, .f32⟩
  | 7 => ⟨S16x2048x8x32, .f32⟩
  | 8 => ⟨S16x2048x8x64, .f32⟩
  | 9 => ⟨S32768x512, .f32⟩
  | 10 => ⟨S16x2048x8x64, .f32⟩
  | 11 => ⟨S16x2048x8x32, .f32⟩
  | 12 => ⟨S16x2048x8x32, .f32⟩
  | 13 => ⟨S2048x1x32, .f32⟩
  | 14 => ⟨S2048x1x32, .f32⟩
  | 15 => ⟨S1x2048x1x32, .f32⟩
  | 16 => ⟨S16x2048x8x32, .f32⟩
  | 17 => ⟨S16x2048x8x32, .f32⟩
  | 18 => ⟨S1x2048x1x32, .f32⟩
  | 19 => ⟨S16x2048x8x32, .f32⟩
  | 20 => ⟨S16x2048x8x32, .f32⟩
  | 21 => ⟨S16x2048x8x32, .f32⟩
  | 22 => ⟨S1x2048x1x32, .f32⟩
  | 23 => ⟨S16x2048x8x32, .f32⟩
  | 24 => ⟨S16x2048x8x32, .f32⟩
  | 25 => ⟨S1x2048x1x32, .f32⟩
  | 26 => ⟨S16x2048x8x32, .f32⟩
  | 27 => ⟨S16x2048x8x32, .f32⟩
  | 28 => ⟨S16x2048x8x32, .f32⟩
  | 29 => ⟨S16x2048x8x64, .f32⟩
  | 30 => ⟨S32768x512, .f32⟩
  | 31 => ⟨S16x2048x8x32, .f32⟩
  | 32 => ⟨S16x2048x8x16, .f32⟩
  | 33 => ⟨S16x2048x8x16, .f32⟩
  | 34 => ⟨S2048x1x16, .f32⟩
  | 35 => ⟨S2048x1x16, .f32⟩
  | 36 => ⟨S1x2048x1x16, .f32⟩
  | 37 => ⟨S16x2048x8x16, .f32⟩
  | 38 => ⟨S16x2048x8x16, .f32⟩
  | 39 => ⟨S1x2048x1x16, .f32⟩
  | 40 => ⟨S16x2048x8x16, .f32⟩
  | 41 => ⟨S16x2048x8x16, .f32⟩
  | 42 => ⟨S16x2048x8x16, .f32⟩
  | 43 => ⟨S1x2048x1x16, .f32⟩
  | 44 => ⟨S16x2048x8x16, .f32⟩
  | 45 => ⟨S16x2048x8x16, .f32⟩
  | 46 => ⟨S1x2048x1x16, .f32⟩
  | 47 => ⟨S16x2048x8x16, .f32⟩
  | 48 => ⟨S16x2048x8x16, .f32⟩
  | 49 => ⟨S16x2048x8x16, .f32⟩
  | 50 => ⟨S16x2048x8x32, .f32⟩
  | 51 => ⟨S32768x256, .f32⟩
  | 52 => ⟨S16x2048x1x32, .f32⟩
  | 53 => ⟨S16x2048x1x16, .f32⟩
  | 54 => ⟨S16x2048x1x16, .f32⟩
  | 55 => ⟨S2048x1x16, .f32⟩
  | 56 => ⟨S2048x1x16, .f32⟩
  | 57 => ⟨S1x2048x1x16, .f32⟩
  | 58 => ⟨S16x2048x1x16, .f32⟩
  | 59 => ⟨S16x2048x1x16, .f32⟩
  | 60 => ⟨S1x2048x1x16, .f32⟩
  | 61 => ⟨S16x2048x1x16, .f32⟩
  | 62 => ⟨S16x2048x1x16, .f32⟩
  | 63 => ⟨S16x2048x1x16, .f32⟩
  | 64 => ⟨S1x2048x1x16, .f32⟩
  | 65 => ⟨S16x2048x1x16, .f32⟩
  | 66 => ⟨S16x2048x1x16, .f32⟩
  | 67 => ⟨S1x2048x1x16, .f32⟩
  | 68 => ⟨S16x2048x1x16, .f32⟩
  | 69 => ⟨S16x2048x1x16, .f32⟩
  | 70 => ⟨S16x2048x1x16, .f32⟩
  | 71 => ⟨S16x2048x1x32, .f32⟩
  | 72 => ⟨S32768x32, .f32⟩
  | 73 => ⟨S_, .f32⟩
  | 74 => ⟨S32768x8, .f32⟩
  | 75 => ⟨S32768x8, .f32⟩
  | 76 => ⟨S_, .f32⟩
  | 77 => ⟨S32768x512, .f32⟩
  | 78 => ⟨S32768x512, .f32⟩
  | 79 => ⟨S_, .f32⟩
  | 80 => ⟨S32768x512, .f32⟩
  | 81 => ⟨S32768x512, .f32⟩
  | 82 => ⟨S32768x3072, .f32⟩
  | 83 => ⟨S32768x384, .f32⟩
  | 84 => ⟨S32768x3072, .bf16⟩
  | 85 => ⟨S32768x384, .bf16⟩
  | 86 => ⟨S_, .i32⟩
  | 87 => ⟨S_, .f32⟩
  | 88 => ⟨S32768x128, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_7 : Ref sig .tc := ⟨.hbm, 50, rfl⟩
abbrev main_v39 : Ref sig .tc := ⟨.hbm, 51, rfl⟩
abbrev main_v40 : Ref sig .tc := ⟨.hbm, 52, rfl⟩
abbrev main_cst_8 : Ref sig .tc := ⟨.hbm, 53, rfl⟩
abbrev main_v41 : Ref sig .tc := ⟨.hbm, 54, rfl⟩
abbrev main_v42 : Ref sig .tc := ⟨.hbm, 55, rfl⟩
abbrev main_cst_9 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_v161 : Ref sig .tc := ⟨.hbm, 175, rfl⟩
abbrev main_v162 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩
abbrev main_v168 : Ref sig .tc := ⟨.hbm, 182, rfl⟩
abbrev main_v169 : Ref sig .tc := ⟨.hbm, 183, rfl⟩
abbrev main_v170 : Ref sig .tc := ⟨.hbm, 184, rfl⟩
abbrev main_v171 : Ref sig .tc := ⟨.hbm, 185, rfl⟩
abbrev main_v172 : Ref sig .tc := ⟨.hbm, 186, rfl⟩
abbrev main_v173 : Ref sig .tc := ⟨.hbm, 187, rfl⟩
abbrev main_v174 : Ref sig .tc := ⟨.hbm, 188, rfl⟩
abbrev main_v175 : Ref sig .tc := ⟨.hbm, 189, rfl⟩
abbrev main_v176 : Ref sig .tc := ⟨.hbm, 190, rfl⟩
abbrev main_v177 : Ref sig .tc := ⟨.hbm, 191, rfl⟩
abbrev main_v178 : Ref sig .tc := ⟨.hbm, 192, rfl⟩
abbrev main_v179 : Ref sig .tc := ⟨.hbm, 193, rfl⟩
abbrev main_v180 : Ref sig .tc := ⟨.hbm, 194, rfl⟩
abbrev main_v181 : Ref sig .tc := ⟨.hbm, 195, rfl⟩
abbrev main_v182 : Ref sig .tc := ⟨.hbm, 196, rfl⟩
abbrev main_v183 : Ref sig .tc := ⟨.hbm, 197, rfl⟩
abbrev main_v184 : Ref sig .tc := ⟨.hbm, 198, rfl⟩
abbrev main_v185 : Ref sig .tc := ⟨.hbm, 199, rfl⟩
abbrev main_v186 : Ref sig .tc := ⟨.hbm, 200, rfl⟩
abbrev main_cst_10 : Ref sig .tc := ⟨.hbm, 201, rfl⟩
abbrev main_v187 : Ref sig .tc := ⟨.hbm, 202, rfl⟩
abbrev main_v188 : Ref sig .tc := ⟨.hbm, 203, rfl⟩
abbrev main_cst_11 : Ref sig .tc := ⟨.hbm, 204, rfl⟩
abbrev main_v189 : Ref sig .tc := ⟨.hbm, 205, rfl⟩
abbrev main_v190 : Ref sig .tc := ⟨.hbm, 206, rfl⟩
abbrev main_cst_12 : Ref sig .tc := ⟨.hbm, 207, rfl⟩
abbrev main_v191 : Ref sig .tc := ⟨.hbm, 208, rfl⟩
abbrev main_v192 : Ref sig .tc := ⟨.hbm, 209, rfl⟩
abbrev main_v193 : Ref sig .tc := ⟨.hbm, 210, rfl⟩
abbrev main_v194 : Ref sig .tc := ⟨.hbm, 211, rfl⟩
abbrev main_v195 : Ref sig .tc := ⟨.hbm, 212, rfl⟩
abbrev main_v196 : Ref sig .tc := ⟨.hbm, 213, rfl⟩
abbrev main_c : Ref sig .tc := ⟨.hbm, 214, rfl⟩
abbrev main_call0_v0 : Ref sig .tc := ⟨.hbm, 215, rfl⟩
abbrev main_v197 : Ref sig .tc := ⟨.hbm, 216, rfl⟩

abbrev nD : Nat := 1
abbrev τ : Topo := Topo.v7x

variable {F : FTy → Type} [FloatOps F]
-- ==== Proof.FfnMath.lean ====
/- The row arithmetic of the feed-forward block, over the extended reals. -/
module

public import Idealize.ShloMosaic.Lib.Pipeline.ValueKit
public import Idealize.ShloMosaic.Lib.Pointwise

@[expose] public section

noncomputable section

open Idealize.ShloMosaic

namespace Cert.FfnMath

/-- The reciprocal root mean square of a row of 1024 values, with the layer's small constant added. -/
def rsq (v : Fin 1024 → EReal) : EReal :=
  Ideal.rsqrt (Ideal.div (∑ e, v e * v e) (Ideal.ofBits .f32 1149239296#32) + Ideal.ofBits .f32 897988541#32)

/-- The normalized row times its gain. -/
def nrm (v g : Fin 1024 → EReal) (d : Fin 1024) : EReal := v d * rsq v * g d

/-- `a / (1 + exp (-a))`. -/
def act (a : EReal) : EReal := Ideal.div a (1 + Ideal.exp (0 - a))

/-- One hidden unit: the gate's activation times the up projection. -/
def hid (h u w : Fin 1024 → EReal) : EReal := act (∑ e, h e * u e) * ∑ e, h e * w e

/-- What 256 hidden units add to output `d`. -/
def chunk (h : Fin 1024 → EReal) (wg wu : Fin 1024 → Fin 256 → EReal) (wd : Fin 256 → Fin 1024 → EReal)
    (d : Fin 1024) : EReal := ∑ j, hid h (fun e => wg e j) (fun e => wu e j) * wd j d

/-- What all 2816 hidden units add to output `d`. -/
def whole (h : Fin 1024 → EReal) (wg wu : Fin 1024 → Fin 2816 → EReal) (wd : Fin 2816 → Fin 1024 → EReal)
    (d : Fin 1024) : EReal := ∑ j, hid h (fun e => wg e j) (fun e => wu e j) * wd j d

/-- The feed-forward block of one row, with half its normalized output added to the row. -/
def ffn (x g0 g1 : Fin 1024 → EReal) (wg wu : Fin 1024 → Fin 2816 → EReal) (wd : Fin 2816 → Fin 1024 → EReal)
    (d : Fin 1024) : EReal :=
  x d + Ideal.ofBits .f32 1056964608#32 * nrm (whole (nrm x g0) wg wu wd) g1 d

/-- A row with the normalized projection of another row added. -/
def mix (x o : Fin 1024 → EReal) (w : Fin 1024 → Fin 1024 → EReal) (g : Fin 1024 → EReal) (d : Fin 1024) : EReal :=
  x d + nrm (fun d => ∑ k, o k * w k d) g d

/-- The hidden index of unit `j` of group `k`. -/
def at256 (k : Fin 11) (j : Fin 256) : Fin 2816 := ⟨k.val * 256 + j.val, by omega⟩

/-- The 2816 hidden units are 11 groups of 256. -/
theorem whole_eq (h : Fin 1024 → EReal) (wg wu : Fin 1024 → Fin 2816 → EReal) (wd : Fin 2816 → Fin 1024 → EReal)
    (d : Fin 1024) : whole h wg wu wd d
      = ∑ k : Fin 11, chunk h (fun e j => wg e (at256 k j)) (fun e j => wu e (at256 k j)) (fun j d => wd (at256 k j) d) d :=
  Fin.sum_univ_tiles 11 256 rfl (fun j => hid h (fun e => wg e j) (fun e => wu e j) * wd j d)

/-- A place in the first half of 1024 columns. -/
def lo (k : Fin 512) : Fin 1024 := ⟨k.val, by omega⟩

/-- A place in the second half of 1024 columns. -/
def hi (k : Fin 512) : Fin 1024 := ⟨512 + k.val, by omega⟩

/-- A sum over 1024 columns is the sum over the first half plus the sum over the second. -/
theorem halves (f : Fin 1024 → EReal) : ∑ k, f k = ∑ k, f (lo k) + ∑ k, f (hi k) :=
  Fin.sum_univ_add (a := 512) (b := 512) f

/-- Eleven terms, added from the left. -/
theorem sum11 (f : Fin 11 → EReal) : ∑ k, f k = f 0 + f 1 + f 2 + f 3 + f 4 + f 5 + f 6 + f 7 + f 8 + f 9 + f 10 := by
  simp only [Fin.sum_univ_castSucc, Fin.sum_univ_zero, zero_add]
  rfl

/-- `a · (1 / (1 + exp (-a)))` is `a / (1 + exp (-a))`: the denominator is never zero. -/
theorem act_eq (a : EReal) : a * Ideal.div 1 (1 + Ideal.exp (-a)) = act a := by
  have h : (1 : EReal) + Ideal.exp (0 - a) ≠ 0 := by
    have h0 : (0 : EReal) ≤ Ideal.exp (0 - a) := by
      induction 0 - a using EReal.rec with
      | bot => exact le_refl 0
      | top => exact le_top
      | coe r => exact EReal.coe_nonneg.mpr (Real.exp_pos r).le
    intro h
    have : (1 : EReal) ≤ 0 := h ▸ le_add_of_nonneg_right h0
    exact absurd this (by norm_num)
  unfold act
  rw [← zero_sub a, Ideal.div, Ideal.div, if_neg h, if_neg h, one_mul]

end Cert.FfnMath
-- ==== Proof.FfnPay.lean ====
/- What each payload of the feed-forward kernel is at one row and one column. -/
module

public import proofs.«01_k».proof.Proof.Gen.FfnIdeal.Frame
public import proofs.«01_k».proof.Proof.FfnMath

@[expose] public section

set_option maxRecDepth 16384

noncomputable section

open Idealize.ShloMosaic Idealize.ShloMosaic.TcCoe Idealize.SL.Sem

namespace Cert.FfnIdeal.Pay

open Cert.FfnIdeal Cert.FfnIdeal.Gen Cert.FfnMath

variable (h : FVec Ideal S512x1024 .bf16) (a : FVec Ideal S512x1024 .f32) (wg wu wg' wu' : Vec Ideal S1x1024x256 .bf16)
  (wd wd' : Vec Ideal S1x256x1024 .bf16) (i : Fin 512) (d : Fin 1024) (j : Fin 256)

/-- A group's share of the output, from the group's weight blocks. -/
abbrev ch (h : FVec Ideal S512x1024 .bf16) (wg wu : Vec Ideal S1x1024x256 .bf16) (wd : Vec Ideal S1x256x1024 .bf16)
    (i : Fin 512) (d : Fin 1024) : EReal :=
  chunk (fun e => h (ix2 i e)) (fun e j => wg (ix3 0 e j)) (fun e j => wu (ix3 0 e j)) (fun j d => wd (ix3 0 j d)) d

/-- An element of the normed row: the row normed by its mean square, times the gain. -/
theorem p2 (x : Vec Ideal S512x1024 .f32) (g : Vec Ideal S1x1024 .f32) :
    k0_pay2 x g (ix2 i d) = nrm (fun e => x (ix2 i e)) (fun e => g (ix2 0 e)) d := by
  pointwise [k0_pay2]
  rfl

/-- The first group's share of the down product, made from the normed row. -/
theorem p3 (x : Vec Ideal S512x1024 .f32) (g : Vec Ideal S1x1024 .f32) :
    k0_pay3 x g wg wu wd (ix2 i d) = ch (k0_pay2 x g) wg wu wd i d := by
  pointwise [k0_pay3]
  rfl

/-- The accumulator plus one group's share. -/
theorem p4 : k0_pay4 h a wg wu wd (ix2 i d) = a (ix2 i d) + ch h wg wu wd i d := by
  pointwise [k0_pay4]
  rfl

/-- A hidden unit of a group: its gated up product. -/
theorem p5 : k0_pay5 h wg wu (ix2 i j)
    = hid (fun e => h (ix2 i e)) (fun e => wg (ix3 0 e j)) (fun e => wu (ix3 0 e j)) := by
  pointwise [k0_pay5]
  rfl

/-- A hidden unit of a group, in the body's second spelling. -/
theorem p8 : k0_pay8 h wg wu (ix2 i j)
    = hid (fun e => h (ix2 i e)) (fun e => wg (ix3 0 e j)) (fun e => wu (ix3 0 e j)) := by
  pointwise [k0_pay8]
  rfl

/-- The down weights of a group as a matrix. -/
theorem p6 : k0_pay6 wd (ix2 j d) = wd (ix3 0 j d) := by
  pointwise [k0_pay6]

/-- The accumulator plus the shares of two groups, the first from hidden units already made. -/
theorem p7 : k0_pay7 h a (k0_pay5 h wg wu) (k0_pay6 wd) (constant S512x1024 .f32 0x00000000#32) wg' wu' wd' (ix2 i d)
    = a (ix2 i d) + ch h wg wu wd i d + ch h wg' wu' wd' i d := by
  pointwise [k0_pay7, k0_pay5, k0_pay6]
  rfl

/-- The accumulator plus the shares of two groups, the first from hidden units of the second spelling. -/
theorem p9 : k0_pay9 h a (k0_pay8 h wg wu) wd wg' wu' wd' (ix2 i d)
    = a (ix2 i d) + ch h wg wu wd i d + ch h wg' wu' wd' i d := by
  pointwise [k0_pay9, k0_pay8]
  rfl

/-- The accumulator plus the shares of two groups, the first from the two products gate and up. -/
theorem p12 : k0_pay12 h a (k0_pay10 h wu) (k0_pay11 h wg) wd wg' wu' wd' (ix2 i d)
    = a (ix2 i d) + ch h wg wu wd i d + ch h wg' wu' wd' i d := by
  pointwise [k0_pay12, k0_pay10, k0_pay11]
  rfl

/-- The accumulator plus the shares of two groups, the first from the gate, its logistic and the up product. -/
theorem p16 : k0_pay16 h a (k0_pay13 h wg) (k0_pay14 h wu) (k0_pay15 h wg) wd wg' wu' wd' (ix2 i d)
    = a (ix2 i d) + ch h wg wu wd i d + ch h wg' wu' wd' i d := by
  pointwise [k0_pay16, k0_pay13, k0_pay14, k0_pay15]
  rfl

/-- The row that is stored: the input plus half the normed sum of the accumulator and the last group's share. -/
theorem p1 (x : Vec Ideal S512x1024 .f32) (g : Vec Ideal S1x1024 .f32) :
    k0_pay1 x a (k0_pay17 h wg) (k0_pay18 h wu) wd g (ix2 i d)
      = x (ix2 i d) + Ideal.ofBits .f32 1056964608#32
          * nrm (fun d => a (ix2 i d) + ch h wg wu wd i d) (fun e => g (ix2 0 e)) d := by
  pointwise [k0_pay1, k0_pay17, k0_pay18]
  rfl

end Cert.FfnIdeal.Pay
-- ==== Proof.FfnBody.lean ====
/- What one grid point of the feed-forward kernel stores. -/
module

public import proofs.«01_k».proof.Proof.FfnPay

@[expose] public section

set_option maxRecDepth 16384

noncomputable section

open Idealize.ShloMosaic Idealize.ShloMosaic.TcCoe Idealize.SL.Sem
open Idealize.ShloMosaic.Pipeline (Dat)

namespace Cert.FfnIdeal.Value

open Cert.FfnIdeal Cert.FfnIdeal.Gen Cert.FfnIdeal.Pay Cert.FfnMath

/-- What a grid point stores, from its input blocks: the feed-forward block with its hidden units in eleven groups. -/
theorem body (x0 : Vec Ideal S512x1024 .f32) (x1 : Vec Ideal S3x1024 .f32) (x2 x3 : Vec Ideal S11x1024x256 .bf16)
    (x4 : Vec Ideal S11x256x1024 .bf16) (i : Fin 512) (d : Fin 1024) :
    out0_5 x0 x1 x2 x3 x4 (ix2 i d) = x0 (ix2 i d) + Ideal.ofBits .f32 1056964608#32
      * nrm (fun d => ∑ k : Fin 11, chunk (nrm (fun e => x0 (ix2 i e)) (fun e => x1 (ix2 1 e)))
          (fun e j => x2 (ix3 k e j)) (fun e j => x3 (ix3 k e j)) (fun j d => x4 (ix3 k j d)) d) (fun e => x1 (ix2 2 e)) d := by
  have hg (o : ℕ) (k : Fin 3) (hk : o = k.val) (h) (e : Fin 1024) :
      View.ld x1 (Rect.unit (s := S3x1024) ![o, 0] S1x1024.size h) (ix2 0 e) = x1 (ix2 k e) :=
    View.ld_unit_apply_of _ _ _ _ _ _ fun a => match a with
      | 0 => hk.symm
      | 1 => (Nat.zero_add _).symm
  have hw (x : Vec Ideal S11x1024x256 .bf16) (o : ℕ) (k : Fin 11) (hk : o = k.val) (h) (e : Fin 1024) (j : Fin 256) :
      View.ld x (Rect.unit (s := S11x1024x256) ![o, 0, 0] S1x1024x256.size h) (ix3 0 e j) = x (ix3 k e j) :=
    View.ld_unit_apply_of _ _ _ _ _ _ fun a => match a with
      | 0 => hk.symm
      | 1 => (Nat.zero_add _).symm
      | 2 => (Nat.zero_add _).symm
  have hd (x : Vec Ideal S11x256x1024 .bf16) (o : ℕ) (k : Fin 11) (hk : o = k.val) (h) (j : Fin 256) (d : Fin 1024) :
      View.ld x (Rect.unit (s := S11x256x1024) ![o, 0, 0] S1x256x1024.size h) (ix3 0 j d) = x (ix3 k j d) :=
    View.ld_unit_apply_of _ _ _ _ _ _ fun a => match a with
      | 0 => hk.symm
      | 1 => (Nat.zero_add _).symm
      | 2 => (Nat.zero_add _).symm
  have h19 (e : Fin 1024) : k0_pay19 x0 x1 x2 x3 x4 (ix2 i e)
      = nrm (fun e => x0 (ix2 i e)) (fun e => x1 (ix2 1 e)) e := by
    unfold k0_pay19
    rw [p2, View.ld_unit_lit _ x0 (by decide)]
    simp only [hg 1 1 rfl]
  frame_out
  simp only [h19, p1, p16, p12, p9, p7, p4, p3, p2, ch, hg 1 1 rfl, hg 2 2 rfl,
    hw x2 0 0 rfl, hw x2 1 1 rfl, hw x2 2 2 rfl, hw x2 3 3 rfl, hw x2 4 4 rfl, hw x2 5 5 rfl, hw x2 6 6 rfl, hw x2 7 7 rfl, hw x2 8 8 rfl, hw x2 9 9 rfl, hw x2 10 10 rfl,
    hw x3 0 0 rfl, hw x3 1 1 rfl, hw x3 2 2 rfl, hw x3 3 3 rfl, hw x3 4 4 rfl, hw x3 5 5 rfl, hw x3 6 6 rfl, hw x3 7 7 rfl, hw x3 8 8 rfl, hw x3 9 9 rfl, hw x3 10 10 rfl,
    hd x4 0 0 rfl, hd x4 1 1 rfl, hd x4 2 2 rfl, hd x4 3 3 rfl, hd x4 4 4 rfl, hd x4 5 5 rfl, hd x4 6 6 rfl, hd x4 7 7 rfl, hd x4 8 8 rfl, hd x4 9 9 rfl, hd x4 10 10 rfl]
  simp only [sum11]

end Cert.FfnIdeal.Value
-- ==== Proof.FfnRef.lean ====
/- The feed-forward reference, row by row. -/
module

public import proofs.«01_k».proof.Proof.Gen.FfnRefIdeal.Read
public import proofs.«01_k».proof.Proof.FfnMath

@[expose] public section

set_option maxRecDepth 16384

noncomputable section

open Idealize.ShloMosaic Idealize.ShloMosaic.TcCoe Idealize.SL.Sem

namespace Cert.FfnRefIdeal.Rows

open Cert.FfnRefIdeal Cert.FfnRefIdeal.Gen Cert.FfnRefIdeal.Read Cert.FfnMath

variable (x : FVec Ideal S32768x1024 .f32) (g : FVec Ideal S6x1024 .f32) (wg wu : FVec Ideal S1024x2816 .f32)
  (wd : FVec Ideal S2816x1024 .f32) (i : Fin 32768) (d : Fin 1024) (j : Fin 2816)

/-- An element of the input row normed by its mean square, times the gain. -/
theorem norm_in : val_main_v14 (F := Ideal) x g (ix2 i d) = nrm (fun e => x (ix2 i e)) (fun e => g (ix2 0 e)) d := by
  pointwise [val_main_v14, val_main_v13, val_main_v12, val_main_v11, val_main_v10, val_main_v9, val_main_v8,
    val_main_v7, val_main_v6, val_main_v5, val_main_v4, val_main_v3, val_main_v2, val_main_v1, val_main_v0,
    val_main_cst, val_main_cst_0, val_main_cst_1]
  rfl

/-- A hidden unit: the gated up product of the normed row. -/
theorem hidden : val_main_v18 (F := Ideal) x g wg wu (ix2 i j)
    = hid (fun e => val_main_v14 (F := Ideal) x g (ix2 i e)) (fun e => wg (ix2 e j)) (fun e => wu (ix2 e j)) := by
  pointwise [val_main_v18, val_main_v17, val_main_v16, val_main_v15, val_main_call0_v5, val_main_call0_v4,
    val_main_call0_v3, val_main_call0_v2, val_main_call0_v1, val_main_call0_v0, val_main_call0_cst, val_main_call0_cst_0]
  rw [act_eq]
  rfl

/-- The whole product of the hidden row with the down weights. -/
theorem down : val_main_v19 (F := Ideal) x g wg wu wd (ix2 i d)
    = whole (fun e => val_main_v14 (F := Ideal) x g (ix2 i e)) (fun e j => wg (ix2 e j)) (fun e j => wu (ix2 e j))
        (fun j d => wd (ix2 j d)) d := by
  refine Eq.trans (b := ∑ j, val_main_v18 (F := Ideal) x g wg wu (ix2 i j) * wd (ix2 j d)) ?_
    (Finset.sum_congr rfl fun j _ => by rw [hidden])
  pointwise [val_main_v19]

/-- An element of the result is the feed-forward step of its row. -/
theorem result : val_main_v37 (F := Ideal) x g wg wu wd (ix2 i d)
    = ffn (fun e => x (ix2 i e)) (fun e => g (ix2 0 e)) (fun e => g (ix2 1 e)) (fun e j => wg (ix2 e j))
        (fun e j => wu (ix2 e j)) (fun j d => wd (ix2 j d)) d := by
  unfold ffn
  rw [show nrm (fun e => x (ix2 i e)) (fun e => g (ix2 0 e)) = fun d => val_main_v14 (F := Ideal) x g (ix2 i d)
    from funext fun d => (norm_in x g i d).symm,
    show whole _ _ _ _ = fun d => val_main_v19 (F := Ideal) x g wg wu wd (ix2 i d)
    from funext fun d => (down x g wg wu wd i d).symm]
  pointwise [val_main_v37, val_main_v36, val_main_v35, val_main_v34, val_main_v33, val_main_v32, val_main_v31,
    val_main_v30, val_main_v29, val_main_v28, val_main_v27, val_main_v26, val_main_v25, val_main_v24, val_main_v23,
    val_main_v22, val_main_v21, val_main_v20, val_main_cst_2, val_main_cst_3, val_main_cst_4, val_main_cst_5]
  rfl

end Cert.FfnRefIdeal.Rows
-- ==== Proof.FfnValue.lean ====
/- What the feed-forward kernel leaves in its result array. -/
module

public import proofs.«01_k».proof.Proof.FfnBody
public import proofs.«01_k».proof.Proof.FfnRef
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnIdeal.Value

open Cert.FfnIdeal Cert.FfnIdeal.Gen Cert.FfnIdeal.Pay Cert.FfnMath

variable (m : (ℓ : Loc nD τ sig) → Buf (Elt Ideal) ℓ)

/-- The index maps of the six windows: row blocks move with the grid, the rest stay. -/
theorem idx : ∀ t : Fin cfg0.N, win0_0.index t = ![t.val, 0] ∧ win0_1.index t = ![0, 0] ∧ win0_2.index t = ![0, 0, 0]
    ∧ win0_3.index t = ![0, 0, 0] ∧ win0_4.index t = ![0, 0, 0] ∧ win0_5.index t = ![t.val, 0] :=
  (by decide +kernel : ∀ t : Fin grid0.N, _)

/-- The reference's result over the kernel's arguments. -/
abbrev want (c : Dev nD) : FVec Ideal S32768x1024 .f32 :=
  Cert.FfnRefIdeal.Read.val_main_v37 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- Three rows one above the other, read at the second and at the third. -/
theorem rows3 (A B C : FVec Ideal S1x1024 .f32) (h) (e : Fin 1024) :
    (concatenate S3x1024 0 [⟨S1x1024, A⟩, ⟨S1x1024, B⟩, ⟨S1x1024, C⟩] h (ix2 1 e) = B (ix2 0 e))
    ∧ (concatenate S3x1024 0 [⟨S1x1024, A⟩, ⟨S1x1024, B⟩, ⟨S1x1024, C⟩] h (ix2 2 e) = C (ix2 0 e)) := by
  constructor <;> pointwise []

/-- The first gain the kernel uses is row 0 of the gains. -/
theorem gain_in (c : Dev nD) (e : Fin 1024) :
    (V m c main_v9 : FVec Ideal S3x1024 .f32) (ix2 1 e) = (m ((c : Thread nD τ).loc main_arg1) : FVec Ideal S6x1024 .f32) (ix2 0 e) := by
  rw [show V m c main_v9 = _ from by unfold V; after_results_simp; rfl]
  refine Eq.trans (rows3 _ _ _ _ e).1 ?_
  simp only [Matrix.cons_val_one, Matrix.cons_val_zero]
  after_results_simp
  pointwise []

/-- The second gain the kernel uses is row 1 of the gains. -/
theorem gain_out (c : Dev nD) (e : Fin 1024) :
    (V m c main_v9 : FVec Ideal S3x1024 .f32) (ix2 2 e) = (m ((c : Thread nD τ).loc main_arg1) : FVec Ideal S6x1024 .f32) (ix2 1 e) := by
  rw [show V m c main_v9 = _ from by unfold V; after_results_simp; rfl]
  refine Eq.trans (rows3 _ _ _ _ e).2 ?_
  simp only [Matrix.cons_val]
  after_results_simp
  pointwise []

/-- The gate weights, cut into groups of 256 hidden units. -/
theorem gate (c : Dev nD) (k : Fin 11) (e : Fin 1024) (j : Fin 256) :
    (V m c main_v12 : FVec Ideal S11x1024x256 .bf16) (ix3 k e j)
      = (m ((c : Thread nD τ).loc main_arg2) : FVec Ideal S1024x2816 .f32) (ix2 e (at256 k j)) := by
  entry_read
  pointwise []
  rfl

/-- The up weights, cut into groups of 256 hidden units. -/
theorem up (c : Dev nD) (k : Fin 11) (e : Fin 1024) (j : Fin 256) :
    (V m c main_v15 : FVec Ideal S11x1024x256 .bf16) (ix3 k e j)
      = (m ((c : Thread nD τ).loc main_arg3) : FVec Ideal S1024x2816 .f32) (ix2 e (at256 k j)) := by
  entry_read
  pointwise []
  rfl

/-- The down weights, cut into groups of 256 hidden units. -/
theorem dn (c : Dev nD) (k : Fin 11) (j : Fin 256) (d : Fin 1024) :
    (V m c main_v17 : FVec Ideal S11x256x1024 .bf16) (ix3 k j d)
      = (m ((c : Thread nD τ).loc main_arg4) : FVec Ideal S2816x1024 .f32) (ix2 (at256 k j) d) := by
  entry_read
  pointwise []
  rfl

/-- What a grid point stores is the reference's result at the place it stores it. -/
theorem point (c : Dev nD) (t : Fin cfg0.N) (y) :
    out0_5 (iblk m c 0 t) (iblk m c 1 t) (iblk m c 2 t) (iblk m c 3 t) (iblk m c 4 t) y
      = want m c (((cfg0.win 5).blk t).view.emb y) := by
  idx_vars y
  have hN : t.val < 64 := t.isLt
  have h0 (e : Fin 1024) : iblk m c 0 t (ix2 y0 e)
      = (m ((c : Thread nD τ).loc main_arg0) : FVec Ideal S32768x1024 .f32) (ix2 ⟨t.val * 512 + y0.val, by omega⟩ e) := by
    blk_ext [iblk, V, idx t]
  have h1 (k : Fin 3) (e : Fin 1024) : iblk m c 1 t (ix2 k e) = (V m c main_v9 : FVec Ideal S3x1024 .f32) (ix2 k e) := by
    blk_ext [iblk, idx t]
  have h2 (k : Fin 11) (e : Fin 1024) (j : Fin 256) :
      iblk m c 2 t (ix3 k e j) = (V m c main_v12 : FVec Ideal S11x1024x256 .bf16) (ix3 k e j) := by
    blk_ext [iblk, idx t]
  have h3 (k : Fin 11) (e : Fin 1024) (j : Fin 256) :
      iblk m c 3 t (ix3 k e j) = (V m c main_v15 : FVec Ideal S11x1024x256 .bf16) (ix3 k e j) := by
    blk_ext [iblk, idx t]
  have h4 (k : Fin 11) (j : Fin 256) (d : Fin 1024) :
      iblk m c 4 t (ix3 k j d) = (V m c main_v17 : FVec Ideal S11x256x1024 .bf16) (ix3 k j d) := by
    blk_ext [iblk, idx t]
  have h5 : want m c (((cfg0.win 5).blk t).view.emb (ix2 y0 y1))
      = want m c (ix2 ⟨t.val * 512 + y0.val, by omega⟩ y1) := by
    blk_ext [idx t]
  refine Eq.trans (body _ _ _ _ _ y0 y1) (Eq.trans ?_ (h5.trans (Cert.FfnRefIdeal.Rows.result _ _ _ _ _ _ _)).symm)
  unfold ffn
  rw [show whole (nrm _ _) _ _ _ = _ from funext (whole_eq _ _ _ _)]
  simp only [h0, fun e => (h1 1 e).trans (gain_in m c e), fun e => (h1 2 e).trans (gain_out m c e),
    fun k e j => (h2 k e j).trans (gate m c k e j), fun k e j => (h3 k e j).trans (up m c k e j),
    fun k j d => (h4 k j d).trans (dn m c k j d)]

/-- The result array after the run. -/
theorem final (c : Dev nD) : (dats m 0 c).arrAt 5 (cfgs 0).N = want m c := by
  refine (dats m 0 c).arrAt_eq_of_covers 5 _ (by decide +kernel) fun t _ y => ?_
  blk_simp
  rw [after0_5]
  exact point m c t y

end Cert.FfnIdeal.Value
-- ==== Proof.FfnOddPay.lean ====
/- What each payload of the feed-forward kernel after the band attention is at one row and one column. -/
module

public import proofs.«01_k».proof.Proof.Gen.FfnOddIdeal.Frame
public import proofs.«01_k».proof.Proof.FfnMath

@[expose] public section

set_option maxRecDepth 16384

noncomputable section

open Idealize.ShloMosaic Idealize.ShloMosaic.TcCoe Idealize.SL.Sem

namespace Cert.FfnOddIdeal.Pay

open Cert.FfnOddIdeal Cert.FfnOddIdeal.Gen Cert.FfnMath

variable (h : FVec Ideal S512x1024 .bf16) (a : FVec Ideal S512x1024 .f32) (wg wu wg' wu' : Vec Ideal S1x1024x256 .bf16)
  (wd wd' : Vec Ideal S1x256x1024 .bf16) (i : Fin 512) (d : Fin 1024) (j : Fin 256)

/-- A group's share of the output, from the group's weight blocks. -/
abbrev ch (h : FVec Ideal S512x1024 .bf16) (wg wu : Vec Ideal S1x1024x256 .bf16) (wd : Vec Ideal S1x256x1024 .bf16)
    (i : Fin 512) (d : Fin 1024) : EReal :=
  chunk (fun e => h (ix2 i e)) (fun e j => wg (ix3 0 e j)) (fun e j => wu (ix3 0 e j)) (fun j d => wd (ix3 0 j d)) d

/-- The row with the projected attention output mixed in. -/
theorem p2 (x : Vec Ideal S512x1024 .f32) (o : Vec Ideal S512x1024 .bf16) (w : Vec Ideal S1024x1024 .bf16)
    (g : Vec Ideal S1x1024 .f32) : k0_pay2 x o w g (ix2 i d)
      = mix (fun e => x (ix2 i e)) (fun e => o (ix2 i e)) (fun e d => w (ix2 e d)) (fun e => g (ix2 0 e)) d := by
  pointwise [k0_pay2]
  rfl

/-- That row, normalized. -/
theorem p3 (x : Vec Ideal S512x1024 .f32) (o : Vec Ideal S512x1024 .bf16) (w : Vec Ideal S1024x1024 .bf16)
    (g g' : Vec Ideal S1x1024 .f32) : k0_pay3 x o w g g' (ix2 i d)
      = nrm (fun e => k0_pay2 x o w g (ix2 i e)) (fun e => g' (ix2 0 e)) d := by
  pointwise [k0_pay3]
  rfl

/-- The first two groups, on the zero start. -/
theorem p6 : k0_pay6 h (k0_pay4 (F := Ideal)) (k0_pay5 wg) wu wd wg' wu' wd' (ix2 i d)
    = ch h wg wu wd i d + ch h wg' wu' wd' i d := by
  refine Eq.trans (b := 0 + ch h wg wu wd i d + ch h wg' wu' wd' i d) ?_ (by rw [zero_add])
  pointwise [k0_pay6, k0_pay5, k0_pay4]
  rfl

/-- One more group. -/
theorem p7 : k0_pay7 h a wg wu wd (ix2 i d) = a (ix2 i d) + ch h wg wu wd i d := by
  pointwise [k0_pay7]
  rfl

/-- Two more groups. -/
theorem p10 : k0_pay10 h a (k0_pay8 h wg wu) (k0_pay9 wd) wg' wu' wd' (ix2 i d)
    = a (ix2 i d) + ch h wg wu wd i d + ch h wg' wu' wd' i d := by
  pointwise [k0_pay10, k0_pay8, k0_pay9]
  rfl

/-- Two more groups. -/
theorem p12 : k0_pay12 h a (k0_pay11 h wg wu) wd wg' wu' wd' (ix2 i d)
    = a (ix2 i d) + ch h wg wu wd i d + ch h wg' wu' wd' i d := by
  pointwise [k0_pay12, k0_pay11]
  rfl

/-- Two more groups. -/
theorem p16 : k0_pay16 h a (k0_pay13 h wg) (k0_pay14 h wu) (k0_pay15 h wg) wd wg' wu' wd' (ix2 i d)
    = a (ix2 i d) + ch h wg wu wd i d + ch h wg' wu' wd' i d := by
  pointwise [k0_pay16, k0_pay13, k0_pay14, k0_pay15]
  rfl

/-- Two more groups. -/
theorem p20 : k0_pay20 h a (k0_pay17 h wg) (k0_pay18 h wu) (k0_pay19 h wg) wd wg' wu' wd' (ix2 i d)
    = a (ix2 i d) + ch h wg wu wd i d + ch h wg' wu' wd' i d := by
  pointwise [k0_pay20, k0_pay17, k0_pay18, k0_pay19]
  rfl

/-- The mean square of the block's output. -/
theorem p22 (u v w : FVec Ideal S512x256 .f32) : k0_pay22 h a u v w wd wg' wu' wd' (ix2 i 0)
    = Ideal.div (∑ e, k0_pay20 h a u v w wd wg' wu' wd' (ix2 i e) * k0_pay20 h a u v w wd wg' wu' wd' (ix2 i e))
        (Ideal.ofBits .f32 1149239296#32) := by
  pointwise [k0_pay22]

/-- Half the normalized output, added to the mixed row. -/
theorem p1 (x y : FVec Ideal S512x1024 .f32) (s : FVec Ideal S512x1 .f32) (g : Vec Ideal S1x1024 .f32) :
    k0_pay1 x y (k0_pay21 g) s (k0_pay23 (F := Ideal)) (ix2 i d)
      = x (ix2 i d) + Ideal.ofBits .f32 1056964608#32
          * (y (ix2 i d) * Ideal.rsqrt (s (ix2 i 0) + Ideal.ofBits .f32 897988541#32) * g (ix2 0 d)) := by
  pointwise [k0_pay1, k0_pay21, k0_pay23]

end Cert.FfnOddIdeal.Pay
-- ==== Proof.FfnOddBody.lean ====
/- What one grid point of the feed-forward kernel after the band attention stores. -/
module

public import proofs.«01_k».proof.Proof.FfnOddPay

@[expose] public section

set_option maxRecDepth 16384

noncomputable section

open Idealize.ShloMosaic Idealize.ShloMosaic.TcCoe Idealize.SL.Sem
open Idealize.ShloMosaic.Pipeline (Dat)

namespace Cert.FfnOddIdeal.Value

open Cert.FfnOddIdeal Cert.FfnOddIdeal.Gen Cert.FfnOddIdeal.Pay Cert.FfnMath

/-- The row a grid point works on: the residual row with the projected attention mixed in. -/
def row (x0 : Vec Ideal S512x1024 .f32) (x1 : Vec Ideal S512x1024 .bf16) (x2 : Vec Ideal S1024x1024 .bf16)
    (x3 : Vec Ideal S3x1024 .f32) (x4 x5 : Vec Ideal S11x1024x256 .bf16) (x6 : Vec Ideal S11x256x1024 .bf16)
    (i : Fin 512) : Fin 1024 → EReal :=
  mix (fun e => x0 (ix2 i e)) (fun e => x1 (ix2 i e)) (fun e d => x2 (ix2 e d)) (fun e => x3 (ix2 0 e))

/-- What a grid point stores, from its input blocks: the feed-forward block with its hidden units in eleven groups. -/
theorem body (x0 : Vec Ideal S512x1024 .f32) (x1 : Vec Ideal S512x1024 .bf16) (x2 : Vec Ideal S1024x1024 .bf16)
    (x3 : Vec Ideal S3x1024 .f32) (x4 x5 : Vec Ideal S11x1024x256 .bf16) (x6 : Vec Ideal S11x256x1024 .bf16)
    (i : Fin 512) (d : Fin 1024) :
    out0_7 x0 x1 x2 x3 x4 x5 x6 (ix2 i d) = row x0 x1 x2 x3 x4 x5 x6 i d + Ideal.ofBits .f32 1056964608#32
      * nrm (fun d => ∑ k : Fin 11, chunk (nrm (row x0 x1 x2 x3 x4 x5 x6 i) (fun e => x3 (ix2 1 e)))
          (fun e j => x4 (ix3 k e j)) (fun e j => x5 (ix3 k e j)) (fun j d => x6 (ix3 k j d)) d) (fun e => x3 (ix2 2 e)) d := by
  have hg (o : ℕ) (k : Fin 3) (hk : o = k.val) (h) (e : Fin 1024) :
      View.ld x3 (Rect.unit (s := S3x1024) ![o, 0] S1x1024.size h) (ix2 0 e) = x3 (ix2 k e) :=
    View.ld_unit_apply_of _ _ _ _ _ _ fun a => match a with
      | 0 => hk.symm
      | 1 => (Nat.zero_add _).symm
  have hw (x : Vec Ideal S11x1024x256 .bf16) (o : ℕ) (k : Fin 11) (hk : o = k.val) (h) (e : Fin 1024) (j : Fin 256) :
      View.ld x (Rect.unit (s := S11x1024x256) ![o, 0, 0] S1x1024x256.size h) (ix3 0 e j) = x (ix3 k e j) :=
    View.ld_unit_apply_of _ _ _ _ _ _ fun a => match a with
      | 0 => hk.symm
      | 1 => (Nat.zero_add _).symm
      | 2 => (Nat.zero_add _).symm
  have hd (x : Vec Ideal S11x256x1024 .bf16) (o : ℕ) (k : Fin 11) (hk : o = k.val) (h) (j : Fin 256) (d : Fin 1024) :
      View.ld x (Rect.unit (s := S11x256x1024) ![o, 0, 0] S1x256x1024.size h) (ix3 0 j d) = x (ix3 k j d) :=
    View.ld_unit_apply_of _ _ _ _ _ _ fun a => match a with
      | 0 => hk.symm
      | 1 => (Nat.zero_add _).symm
      | 2 => (Nat.zero_add _).symm
  have hx (e : Fin 1024) : k0_pay2 (View.ld x0 r0_0) (View.ld x1 r0_0) (View.ld x2 r0_1) (View.ld x3 r0_2) (ix2 i e)
      = row x0 x1 x2 x3 x4 x5 x6 i e := by
    unfold row
    rw [p2, View.ld_unit_lit _ x0 (by decide), View.ld_unit_lit _ x1 (by decide), View.ld_unit_lit _ x2 (by decide)]
    simp only [hg 0 0 rfl]
  have hx' (e : Fin 1024) : k0_pay2 x0 x1 x2 (View.ld x3 r0_2) (ix2 i e) = row x0 x1 x2 x3 x4 x5 x6 i e := by
    unfold row
    rw [p2]
    simp only [hg 0 0 rfl]
  have hn (e : Fin 1024) : k0_pay24 x0 x1 x2 x3 x4 x5 x6 (ix2 i e) = nrm (row x0 x1 x2 x3 x4 x5 x6 i) (fun e => x3 (ix2 1 e)) e := by
    unfold k0_pay24
    rw [p3]
    simp only [hx, hg 1 1 rfl]
  frame_out
  simp only [k0_pay25, k0_pay26, k0_pay27, k0_pay28]
  simp only [p1, p22, p20, p16, p12, p10, p7, p6, hx', ch]
  simp only [hn, hg 2 2 rfl,
    hw x4 0 0 rfl, hw x4 1 1 rfl, hw x4 2 2 rfl, hw x4 3 3 rfl, hw x4 4 4 rfl, hw x4 5 5 rfl, hw x4 6 6 rfl, hw x4 7 7 rfl, hw x4 8 8 rfl, hw x4 9 9 rfl, hw x4 10 10 rfl,
    hw x5 0 0 rfl, hw x5 1 1 rfl, hw x5 2 2 rfl, hw x5 3 3 rfl, hw x5 4 4 rfl, hw x5 5 5 rfl, hw x5 6 6 rfl, hw x5 7 7 rfl, hw x5 8 8 rfl, hw x5 9 9 rfl, hw x5 10 10 rfl,
    hd x6 0 0 rfl, hd x6 1 1 rfl, hd x6 2 2 rfl, hd x6 3 3 rfl, hd x6 4 4 rfl, hd x6 5 5 rfl, hd x6 6 6 rfl, hd x6 7 7 rfl, hd x6 8 8 rfl, hd x6 9 9 rfl, hd x6 10 10 rfl]
  simp only [sum11]
  rfl

end Cert.FfnOddIdeal.Value
-- ==== Proof.FfnOddRef.lean ====
/- The feed-forward reference after the band attention, row by row. -/
module

public import proofs.«01_k».proof.Proof.Gen.FfnOddRefIdeal.Read
public import proofs.«01_k».proof.Proof.FfnMath

@[expose] public section

set_option maxRecDepth 16384

noncomputable section

open Idealize.ShloMosaic Idealize.ShloMosaic.TcCoe Idealize.SL.Sem

namespace Cert.FfnOddRefIdeal.Rows

open Cert.FfnOddRefIdeal Cert.FfnOddRefIdeal.Gen Cert.FfnOddRefIdeal.Read Cert.FfnMath

variable (x : FVec Ideal S32768x1024 .f32) (o : FVec Ideal S32768x1024 .bf16) (w : FVec Ideal S1024x1024 .f32)
  (g : FVec Ideal S6x1024 .f32) (wg wu : FVec Ideal S1024x2816 .f32)
  (wd : FVec Ideal S2816x1024 .f32) (i : Fin 32768) (d : Fin 1024) (j : Fin 2816)

/-- The row with the projected attention output mixed in. -/
theorem mixed : val_main_v17 (F := Ideal) x o w g (ix2 i d)
    = mix (fun e => x (ix2 i e)) (fun e => o (ix2 i e)) (fun e d => w (ix2 e d)) (fun e => g (ix2 3 e)) d := by
  pointwise [val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The mixed row, normalized. -/
theorem norm_in : val_main_v32 (F := Ideal) x o w g (ix2 i d)
    = nrm (fun e => val_main_v17 (F := Ideal) x o w g (ix2 i e)) (fun e => g (ix2 4 e)) d := by
  pointwise [val_main_v32, val_main_v31, val_main_v30, val_main_v29, val_main_v28, val_main_v27, val_main_v26, val_main_v25, val_main_v24, val_main_v23, val_main_v22, val_main_v21, val_main_v20, val_main_v19, val_main_v18, val_main_cst_2, val_main_cst_3, val_main_cst_4]
  rfl

/-- One hidden unit. -/
theorem hidden : val_main_v36 (F := Ideal) x o w g wg wu (ix2 i j)
    = hid (fun e => val_main_v32 (F := Ideal) x o w g (ix2 i e)) (fun e => wg (ix2 e j)) (fun e => wu (ix2 e j)) := by
  pointwise [val_main_v36, val_main_v35, val_main_v34, val_main_v33, val_main_call0_v5, val_main_call0_v4,
    val_main_call0_v3, val_main_call0_v2, val_main_call0_v1, val_main_call0_v0, val_main_call0_cst, val_main_call0_cst_0]
  rw [act_eq]
  rfl

/-- All hidden units, projected back. -/
theorem down : val_main_v37 (F := Ideal) x o w g wg wu wd (ix2 i d)
    = whole (fun e => val_main_v32 (F := Ideal) x o w g (ix2 i e)) (fun e j => wg (ix2 e j)) (fun e j => wu (ix2 e j))
        (fun j d => wd (ix2 j d)) d := by
  refine Eq.trans (b := ∑ j, val_main_v36 (F := Ideal) x o w g wg wu (ix2 i j) * wd (ix2 j d)) ?_
    (Finset.sum_congr rfl fun j _ => by rw [hidden])
  pointwise [val_main_v37]

/-- The result: the feed-forward block of the mixed row. -/
theorem result : val_main_v55 (F := Ideal) x o w g wg wu wd (ix2 i d)
    = ffn (fun e => val_main_v17 (F := Ideal) x o w g (ix2 i e)) (fun e => g (ix2 4 e)) (fun e => g (ix2 5 e))
        (fun e j => wg (ix2 e j)) (fun e j => wu (ix2 e j)) (fun j d => wd (ix2 j d)) d := by
  unfold ffn
  rw [show nrm (fun e => val_main_v17 (F := Ideal) x o w g (ix2 i e)) (fun e => g (ix2 4 e))
      = fun d => val_main_v32 (F := Ideal) x o w g (ix2 i d) from funext fun d => (norm_in x o w g i d).symm,
    show whole _ _ _ _ = fun d => val_main_v37 (F := Ideal) x o w g wg wu wd (ix2 i d)
    from funext fun d => (down x o w g wg wu wd i d).symm]
  pointwise [val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_cst_5, val_main_cst_6, val_main_cst_7, val_main_cst_8]
  rfl

end Cert.FfnOddRefIdeal.Rows
-- ==== Proof.FfnOddValue.lean ====
/- What the feed-forward kernel after the band attention leaves in its result array. -/
module

public import proofs.«01_k».proof.Proof.FfnOddBody
public import proofs.«01_k».proof.Proof.FfnOddRef
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnOddIdeal.Value

open Cert.FfnOddIdeal Cert.FfnOddIdeal.Gen Cert.FfnOddIdeal.Pay Cert.FfnMath

variable (m : (ℓ : Loc nD τ sig) → Buf (Elt Ideal) ℓ)

/-- The index maps of the windows: row blocks move with the grid, the rest stay. -/
theorem idx : ∀ t : Fin cfg0.N, win0_0.index t = ![t.val, 0] ∧ win0_1.index t = ![t.val, 0] ∧ win0_2.index t = ![0, 0] ∧ win0_3.index t = ![0, 0] ∧ win0_4.index t = ![0, 0, 0] ∧ win0_5.index t = ![0, 0, 0] ∧ win0_6.index t = ![0, 0, 0] ∧ win0_7.index t = ![t.val, 0] :=
  (by decide +kernel : ∀ t : Fin grid0.N, _)

/-- The reference's result over the kernel's arguments. -/
abbrev want (c : Dev nD) : FVec Ideal S32768x1024 .f32 :=
  Cert.FfnOddRefIdeal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- Three rows one above the other. -/
theorem rows3 (A B C : FVec Ideal S1x1024 .f32) (h) (e : Fin 1024) :
    (concatenate S3x1024 0 [⟨S1x1024, A⟩, ⟨S1x1024, B⟩, ⟨S1x1024, C⟩] h (ix2 0 e) = A (ix2 0 e))
    ∧ (concatenate S3x1024 0 [⟨S1x1024, A⟩, ⟨S1x1024, B⟩, ⟨S1x1024, C⟩] h (ix2 1 e) = B (ix2 0 e))
    ∧ (concatenate S3x1024 0 [⟨S1x1024, A⟩, ⟨S1x1024, B⟩, ⟨S1x1024, C⟩] h (ix2 2 e) = C (ix2 0 e)) := by
  refine ⟨?_, ?_, ?_⟩ <;> pointwise []

/-- The mixing gain is row 3 of the gains. -/
theorem gain_mix (c : Dev nD) (e : Fin 1024) :
    (V m c main_v10 : FVec Ideal S3x1024 .f32) (ix2 0 e) = (m ((c : Thread nD τ).loc main_arg3) : FVec Ideal S6x1024 .f32) (ix2 3 e) := by
  rw [show V m c main_v10 = _ from by unfold V; after_results_simp; rfl]
  refine Eq.trans (rows3 _ _ _ _ e).1 ?_
  simp only [Matrix.cons_val_zero]
  after_results_simp
  pointwise []

/-- The first gain is row 4 of the gains. -/
theorem gain_in (c : Dev nD) (e : Fin 1024) :
    (V m c main_v10 : FVec Ideal S3x1024 .f32) (ix2 1 e) = (m ((c : Thread nD τ).loc main_arg3) : FVec Ideal S6x1024 .f32) (ix2 4 e) := by
  rw [show V m c main_v10 = _ from by unfold V; after_results_simp; rfl]
  refine Eq.trans (rows3 _ _ _ _ e).2.1 ?_
  simp only [Matrix.cons_val_one, Matrix.cons_val_zero]
  after_results_simp
  pointwise []

/-- The second gain is row 5 of the gains. -/
theorem gain_out (c : Dev nD) (e : Fin 1024) :
    (V m c main_v10 : FVec Ideal S3x1024 .f32) (ix2 2 e) = (m ((c : Thread nD τ).loc main_arg3) : FVec Ideal S6x1024 .f32) (ix2 5 e) := by
  rw [show V m c main_v10 = _ from by unfold V; after_results_simp; rfl]
  refine Eq.trans (rows3 _ _ _ _ e).2.2 ?_
  simp only [Matrix.cons_val]
  after_results_simp
  pointwise []

/-- The gate weights, cut into groups of 256 hidden units. -/
theorem gate (c : Dev nD) (k : Fin 11) (e : Fin 1024) (j : Fin 256) :
    (V m c main_v13 : FVec Ideal S11x1024x256 .bf16) (ix3 k e j)
      = (m ((c : Thread nD τ).loc main_arg4) : FVec Ideal S1024x2816 .f32) (ix2 e (at256 k j)) := by
  entry_read
  pointwise []
  rfl

/-- The up weights, cut into groups of 256 hidden units. -/
theorem up (c : Dev nD) (k : Fin 11) (e : Fin 1024) (j : Fin 256) :
    (V m c main_v16 : FVec Ideal S11x1024x256 .bf16) (ix3 k e j)
      = (m ((c : Thread nD τ).loc main_arg5) : FVec Ideal S1024x2816 .f32) (ix2 e (at256 k j)) := by
  entry_read
  pointwise []
  rfl

/-- The down weights, cut into groups of 256 hidden units. -/
theorem dn (c : Dev nD) (k : Fin 11) (j : Fin 256) (d : Fin 1024) :
    (V m c main_v18 : FVec Ideal S11x256x1024 .bf16) (ix3 k j d)
      = (m ((c : Thread nD τ).loc main_arg6) : FVec Ideal S2816x1024 .f32) (ix2 (at256 k j) d) := by
  entry_read
  pointwise []
  rfl

/-- The projection's weights. -/
theorem mixw (c : Dev nD) (k d : Fin 1024) : (V m c main_v0 : FVec Ideal S1024x1024 .bf16) (ix2 k d)
    = (m ((c : Thread nD τ).loc main_arg2) : FVec Ideal S1024x1024 .f32) (ix2 k d) := by
  entry_read
  pointwise []

/-- What a grid point stores is the reference's result at the place it stores it. -/
theorem point (c : Dev nD) (t : Fin cfg0.N) (y) :
    out0_7 (iblk m c 0 t) (iblk m c 1 t) (iblk m c 2 t) (iblk m c 3 t) (iblk m c 4 t) (iblk m c 5 t) (iblk m c 6 t) y
      = want m c (((cfg0.win 7).blk t).view.emb y) := by
  idx_vars y
  have hN : t.val < 64 := t.isLt
  have h0 (e : Fin 1024) : iblk m c 0 t (ix2 y0 e)
      = (m ((c : Thread nD τ).loc main_arg0) : FVec Ideal S32768x1024 .f32) (ix2 ⟨t.val * 512 + y0.val, by omega⟩ e) := by
    blk_ext [iblk, V, idx t]
  have h1 (e : Fin 1024) : iblk m c 1 t (ix2 y0 e)
      = (m ((c : Thread nD τ).loc main_arg1) : FVec Ideal S32768x1024 .bf16) (ix2 ⟨t.val * 512 + y0.val, by omega⟩ e) := by
    blk_ext [iblk, V, idx t]
  have h2 (k d : Fin 1024) : iblk m c 2 t (ix2 k d) = (V m c main_v0 : FVec Ideal S1024x1024 .bf16) (ix2 k d) := by
    blk_ext [iblk, idx t]
  have h3 (k : Fin 3) (e : Fin 1024) : iblk m c 3 t (ix2 k e) = (V m c main_v10 : FVec Ideal S3x1024 .f32) (ix2 k e) := by
    blk_ext [iblk, idx t]
  have h4 (k : Fin 11) (e : Fin 1024) (j : Fin 256) : iblk m c 4 t (ix3 k e j) = (V m c main_v13 : FVec Ideal S11x1024x256 .bf16) (ix3 k e j) := by
    blk_ext [iblk, idx t]
  have h5 (k : Fin 11) (e : Fin 1024) (j : Fin 256) : iblk m c 5 t (ix3 k e j) = (V m c main_v16 : FVec Ideal S11x1024x256 .bf16) (ix3 k e j) := by
    blk_ext [iblk, idx t]
  have h6 (k : Fin 11) (j : Fin 256) (d : Fin 1024) : iblk m c 6 t (ix3 k j d) = (V m c main_v18 : FVec Ideal S11x256x1024 .bf16) (ix3 k j d) := by
    blk_ext [iblk, idx t]
  have hz : want m c (((cfg0.win 7).blk t).view.emb (ix2 y0 y1))
      = want m c (ix2 ⟨t.val * 512 + y0.val, by omega⟩ y1) := by
    blk_ext [idx t]
  have hr : row (iblk m c 0 t) (iblk m c 1 t) (iblk m c 2 t) (iblk m c 3 t) (iblk m c 4 t) (iblk m c 5 t) (iblk m c 6 t) y0
      = fun e => Cert.FfnOddRefIdeal.Read.val_main_v17 (F := Ideal) (m ((c : Thread nD τ).loc main_arg0)) (m ((c : Thread nD τ).loc main_arg1)) (m ((c : Thread nD τ).loc main_arg2)) (m ((c : Thread nD τ).loc main_arg3)) (ix2 ⟨t.val * 512 + y0.val, by omega⟩ e) := by
    funext e
    rw [Cert.FfnOddRefIdeal.Rows.mixed]
    unfold row
    simp only [h0, h1, fun k d => (h2 k d).trans (mixw m c k d), fun e => (h3 0 e).trans (gain_mix m c e)]
  refine Eq.trans (body _ _ _ _ _ _ _ y0 y1) (Eq.trans ?_ (hz.trans (Cert.FfnOddRefIdeal.Rows.result _ _ _ _ _ _ _ _ _)).symm)
  unfold ffn
  rw [show whole (nrm _ _) _ _ _ = _ from funext (whole_eq _ _ _ _), hr]
  simp only [fun e => (h3 1 e).trans (gain_in m c e), fun e => (h3 2 e).trans (gain_out m c e),
    fun k e j => (h4 k e j).trans (gate m c k e j), fun k e j => (h5 k e j).trans (up m c k e j),
    fun k j d => (h6 k j d).trans (dn m c k j d)]

/-- The result array after the run. -/
theorem final (c : Dev nD) : (dats m 0 c).arrAt 7 (cfgs 0).N = want m c := by
  refine (dats m 0 c).arrAt_eq_of_covers 7 _ (by decide +kernel) fun t _ y => ?_
  blk_simp
  rw [after0_7]
  exact point m c t y

end Cert.FfnOddIdeal.Value
-- ==== Proof.FfnEvenPay.lean ====
/- What each payload of the feed-forward kernel after the two even-layer attentions is at one row and one column. -/
module

public import proofs.«01_k».proof.Proof.Gen.FfnEvenIdeal.Frame
public import proofs.«01_k».proof.Proof.FfnMath

@[expose] public section

set_option maxRecDepth 16384

noncomputable section

open Idealize.ShloMosaic Idealize.ShloMosaic.TcCoe Idealize.SL.Sem

namespace Cert.FfnEvenIdeal.Pay

open Cert.FfnEvenIdeal Cert.FfnEvenIdeal.Gen Cert.FfnMath

variable (h : FVec Ideal S512x1024 .bf16) (a : FVec Ideal S512x1024 .f32) (wg wu wg' wu' : Vec Ideal S1x1024x256 .bf16)
  (wd wd' : Vec Ideal S1x256x1024 .bf16) (i : Fin 512) (d : Fin 1024) (j : Fin 256)

/-- A group's share of the output, from the group's weight blocks. -/
abbrev ch (h : FVec Ideal S512x1024 .bf16) (wg wu : Vec Ideal S1x1024x256 .bf16) (wd : Vec Ideal S1x256x1024 .bf16)
    (i : Fin 512) (d : Fin 1024) : EReal :=
  chunk (fun e => h (ix2 i e)) (fun e j => wg (ix3 0 e j)) (fun e j => wu (ix3 0 e j)) (fun j d => wd (ix3 0 j d)) d

/-- The row with the two projected attention outputs mixed in. -/
theorem p2 (x : Vec Ideal S512x1024 .f32) (o o' : Vec Ideal S512x512 .bf16) (w w' : Vec Ideal S512x1024 .bf16)
    (g : Vec Ideal S1x1024 .f32) : k0_pay2 x o w o' w' g (ix2 i d)
      = x (ix2 i d) + nrm (fun d => ∑ k, o (ix2 i k) * w (ix2 k d) + ∑ k, o' (ix2 i k) * w' (ix2 k d))
          (fun e => g (ix2 0 e)) d := by
  pointwise [k0_pay2]
  rfl

/-- That row, normalized. -/
theorem p5 (x : Vec Ideal S512x1024 .f32) (o o' : Vec Ideal S512x512 .bf16) (w w' : Vec Ideal S512x1024 .bf16)
    (g g' : Vec Ideal S1x1024 .f32) : k0_pay5 (k0_pay3 g') (k0_pay4 x o w o' w' g) (ix2 i d)
      = nrm (fun e => k0_pay2 x o w o' w' g (ix2 i e)) (fun e => g' (ix2 0 e)) d := by
  pointwise [k0_pay5, k0_pay3, k0_pay4]
  rfl

/-- The first group. -/
theorem p6 (g : FVec Ideal S1x1024 .f32) : k0_pay6 g a wg wu wd (ix2 i d) = ch (k0_pay5 g a) wg wu wd i d := by
  pointwise [k0_pay6]
  rfl

/-- Two more groups. -/
theorem p8 (g : FVec Ideal S1x1024 .f32) (b : FVec Ideal S512x1024 .f32) :
    k0_pay8 (k0_pay5 g b) a (k0_pay7 g b wg wu) wd wg' wu' wd' (ix2 i d)
    = a (ix2 i d) + ch (k0_pay5 g b) wg wu wd i d + ch (k0_pay5 g b) wg' wu' wd' i d := by
  pointwise [k0_pay8, k0_pay7]
  rfl

/-- Two more groups. -/
theorem p12 : k0_pay12 h a (k0_pay9 h wg) (k0_pay10 h wu) (k0_pay11 h wg) (Scalar.ofBits .f32 0x3F800000#32) wd wg' wu' wd' (ix2 i d)
    = a (ix2 i d) + ch h wg wu wd i d + ch h wg' wu' wd' i d := by
  pointwise [k0_pay12, k0_pay9, k0_pay10, k0_pay11]
  rfl

/-- Two more groups. -/
theorem p15 : k0_pay15 h a (k0_pay13 h wg) (k0_pay14 h wu) (Scalar.ofBits .f32 0x00000000#32) wd wg' wu' wd' (ix2 i d)
    = a (ix2 i d) + ch h wg wu wd i d + ch h wg' wu' wd' i d := by
  pointwise [k0_pay15, k0_pay13, k0_pay14]
  rfl

/-- Two more groups. -/
theorem p17 : k0_pay17 h a (k0_pay16 h wg) wu wd wg' wu' wd' (ix2 i d)
    = a (ix2 i d) + ch h wg wu wd i d + ch h wg' wu' wd' i d := by
  pointwise [k0_pay17, k0_pay16]
  rfl

/-- Two more groups. -/
theorem p19 : k0_pay19 h a (k0_pay18 h wg) wu wd wg' wu' wd' (ix2 i d)
    = a (ix2 i d) + ch h wg wu wd i d + ch h wg' wu' wd' i d := by
  pointwise [k0_pay19, k0_pay18]
  rfl

/-- Half the normalized output, added to the mixed row. -/
theorem p1 (x y : FVec Ideal S512x1024 .f32) (g : Vec Ideal S1x1024 .f32) :
    k0_pay1 x y g (ix2 i d)
      = x (ix2 i d) + Ideal.ofBits .f32 1056964608#32 * nrm (fun d => y (ix2 i d)) (fun e => g (ix2 0 e)) d := by
  pointwise [k0_pay1]
  rfl

end Cert.FfnEvenIdeal.Pay
-- ==== Proof.FfnEvenBody.lean ====
/- What one grid point of the feed-forward kernel after the two even-layer attentions stores. -/
module

public import proofs.«01_k».proof.Proof.FfnEvenPay

@[expose] public section

set_option maxRecDepth 16384

noncomputable section

open Idealize.ShloMosaic Idealize.ShloMosaic.TcCoe Idealize.SL.Sem
open Idealize.ShloMosaic.Pipeline (Dat)

namespace Cert.FfnEvenIdeal.Value

open Cert.FfnEvenIdeal Cert.FfnEvenIdeal.Gen Cert.FfnEvenIdeal.Pay Cert.FfnMath

/-- The row a grid point works on: the residual row with the projected attention mixed in. -/
def row (x0 : Vec Ideal S512x1024 .f32) (x1 x2 : Vec Ideal S512x512 .bf16) (x3 x4 : Vec Ideal S512x1024 .bf16)
    (x5 : Vec Ideal S3x1024 .f32) (x6 x7 : Vec Ideal S11x1024x256 .bf16) (x8 : Vec Ideal S11x256x1024 .bf16)
    (i : Fin 512) : Fin 1024 → EReal :=
  fun d => x0 (ix2 i d) + nrm (fun d => ∑ k, x1 (ix2 i k) * x3 (ix2 k d) + ∑ k, x2 (ix2 i k) * x4 (ix2 k d))
      (fun e => x5 (ix2 0 e)) d

/-- What a grid point stores, from its input blocks: the feed-forward block with its hidden units in eleven groups. -/
theorem body (x0 : Vec Ideal S512x1024 .f32) (x1 x2 : Vec Ideal S512x512 .bf16) (x3 x4 : Vec Ideal S512x1024 .bf16)
    (x5 : Vec Ideal S3x1024 .f32) (x6 x7 : Vec Ideal S11x1024x256 .bf16) (x8 : Vec Ideal S11x256x1024 .bf16)
    (i : Fin 512) (d : Fin 1024) :
    out0_9 x0 x1 x2 x3 x4 x5 x6 x7 x8 (ix2 i d) = row x0 x1 x2 x3 x4 x5 x6 x7 x8 i d + Ideal.ofBits .f32 1056964608#32
      * nrm (fun d => ∑ k : Fin 11, chunk (nrm (row x0 x1 x2 x3 x4 x5 x6 x7 x8 i) (fun e => x5 (ix2 1 e)))
          (fun e j => x6 (ix3 k e j)) (fun e j => x7 (ix3 k e j)) (fun j d => x8 (ix3 k j d)) d) (fun e => x5 (ix2 2 e)) d := by
  have hg (o : ℕ) (k : Fin 3) (hk : o = k.val) (h) (e : Fin 1024) :
      View.ld x5 (Rect.unit (s := S3x1024) ![o, 0] S1x1024.size h) (ix2 0 e) = x5 (ix2 k e) :=
    View.ld_unit_apply_of _ _ _ _ _ _ fun a => match a with
      | 0 => hk.symm
      | 1 => (Nat.zero_add _).symm
  have hw (x : Vec Ideal S11x1024x256 .bf16) (o : ℕ) (k : Fin 11) (hk : o = k.val) (h) (e : Fin 1024) (j : Fin 256) :
      View.ld x (Rect.unit (s := S11x1024x256) ![o, 0, 0] S1x1024x256.size h) (ix3 0 e j) = x (ix3 k e j) :=
    View.ld_unit_apply_of _ _ _ _ _ _ fun a => match a with
      | 0 => hk.symm
      | 1 => (Nat.zero_add _).symm
      | 2 => (Nat.zero_add _).symm
  have hd (x : Vec Ideal S11x256x1024 .bf16) (o : ℕ) (k : Fin 11) (hk : o = k.val) (h) (j : Fin 256) (d : Fin 1024) :
      View.ld x (Rect.unit (s := S11x256x1024) ![o, 0, 0] S1x256x1024.size h) (ix3 0 j d) = x (ix3 k j d) :=
    View.ld_unit_apply_of _ _ _ _ _ _ fun a => match a with
      | 0 => hk.symm
      | 1 => (Nat.zero_add _).symm
      | 2 => (Nat.zero_add _).symm
  have hx (e : Fin 1024) : k0_pay2 (View.ld x0 r0_0) (View.ld x1 r0_1) (View.ld x3 r0_0) (View.ld x2 r0_1) (View.ld x4 r0_0)
      (View.ld x5 r0_2) (ix2 i e) = row x0 x1 x2 x3 x4 x5 x6 x7 x8 i e := by
    unfold row
    rw [p2, View.ld_unit_lit _ x0 (by decide), View.ld_unit_lit _ x1 (by decide), View.ld_unit_lit _ x2 (by decide), View.ld_unit_lit _ x3 (by decide), View.ld_unit_lit _ x4 (by decide)]
    simp only [hg 0 0 rfl]
  have hx' (e : Fin 1024) : k0_pay2 x0 x1 x3 x2 x4 (View.ld x5 r0_2) (ix2 i e) = row x0 x1 x2 x3 x4 x5 x6 x7 x8 i e := by
    unfold row
    rw [p2]
    simp only [hg 0 0 rfl]
  have hn (e : Fin 1024) : k0_pay5 (k0_pay20 x0 x1 x2 x3 x4 x5 x6 x7 x8) (k0_pay21 x0 x1 x2 x3 x4 x5 x6 x7 x8) (ix2 i e)
      = nrm (row x0 x1 x2 x3 x4 x5 x6 x7 x8 i) (fun e => x5 (ix2 1 e)) e := by
    unfold k0_pay20 k0_pay21
    rw [p5]
    simp only [hx, hg 1 1 rfl]
  frame_out
  simp only [k0_pay22]
  simp only [p1, p19, p17, p15, p12, p8, p6, hx', ch]
  simp only [hn, hg 2 2 rfl,
    hw x6 0 0 rfl, hw x6 1 1 rfl, hw x6 2 2 rfl, hw x6 3 3 rfl, hw x6 4 4 rfl, hw x6 5 5 rfl, hw x6 6 6 rfl, hw x6 7 7 rfl, hw x6 8 8 rfl, hw x6 9 9 rfl, hw x6 10 10 rfl,
    hw x7 0 0 rfl, hw x7 1 1 rfl, hw x7 2 2 rfl, hw x7 3 3 rfl, hw x7 4 4 rfl, hw x7 5 5 rfl, hw x7 6 6 rfl, hw x7 7 7 rfl, hw x7 8 8 rfl, hw x7 9 9 rfl, hw x7 10 10 rfl,
    hd x8 0 0 rfl, hd x8 1 1 rfl, hd x8 2 2 rfl, hd x8 3 3 rfl, hd x8 4 4 rfl, hd x8 5 5 rfl, hd x8 6 6 rfl, hd x8 7 7 rfl, hd x8 8 8 rfl, hd x8 9 9 rfl, hd x8 10 10 rfl]
  simp only [sum11]

end Cert.FfnEvenIdeal.Value
-- ==== Proof.FfnEvenRef.lean ====
/- The feed-forward reference after the even-layer attentions, row by row. -/
module

public import proofs.«01_k».proof.Proof.Gen.FfnEvenRefIdeal.Read
public import proofs.«01_k».proof.Proof.FfnMath

@[expose] public section

set_option maxRecDepth 16384

noncomputable section

open Idealize.ShloMosaic Idealize.ShloMosaic.TcCoe Idealize.SL.Sem

namespace Cert.FfnEvenRefIdeal.Rows

open Cert.FfnEvenRefIdeal Cert.FfnEvenRefIdeal.Gen Cert.FfnEvenRefIdeal.Read Cert.FfnMath

variable (x : FVec Ideal S32768x1024 .f32) (a b : FVec Ideal S32768x512 .bf16) (w : FVec Ideal S1024x1024 .f32)
  (g : FVec Ideal S6x1024 .f32) (wg wu : FVec Ideal S1024x2816 .f32)
  (wd : FVec Ideal S2816x1024 .f32) (i : Fin 32768) (d : Fin 1024) (j : Fin 2816)

/-- The two attention outputs side by side. -/
def both (k : Fin 1024) : EReal := val_main_v0 (F := Ideal) a b (ix2 i k)

/-- The first half is the first output. -/
theorem both_lo (k : Fin 512) : both a b i (lo k) = a (ix2 i k) := by
  unfold both lo
  pointwise [val_main_v0]

/-- The second half is the second output. -/
theorem both_hi (k : Fin 512) : both a b i (hi k) = b (ix2 i k) := by
  unfold both hi
  pointwise [val_main_v0]

/-- The row with the projected attention outputs mixed in. -/
theorem mixed : val_main_v18 (F := Ideal) x a b w g (ix2 i d)
    = mix (fun e => x (ix2 i e)) (both a b i) (fun e d => w (ix2 e d)) (fun e => g (ix2 3 e)) d := by
  pointwise [val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_cst, val_main_cst_0, val_main_cst_1]
  rfl

/-- The mixed row, with the projection taken over each attention output separately. -/
theorem mixed_halves : val_main_v18 (F := Ideal) x a b w g (ix2 i d)
    = x (ix2 i d) + nrm (fun d => ∑ k, a (ix2 i k) * w (ix2 (lo k) d) + ∑ k, b (ix2 i k) * w (ix2 (hi k) d))
        (fun e => g (ix2 3 e)) d := by
  refine (mixed x a b w g i d).trans ?_
  have h (d : Fin 1024) : ∑ k, both a b i k * w (ix2 k d)
      = ∑ k, a (ix2 i k) * w (ix2 (lo k) d) + ∑ k, b (ix2 i k) * w (ix2 (hi k) d) :=
    (halves _).trans (congrArg₂ _ (Finset.sum_congr rfl fun k _ => by rw [both_lo])
      (Finset.sum_congr rfl fun k _ => by rw [both_hi]))
  unfold mix
  rw [funext h]

/-- The mixed row, normalized. -/
theorem norm_in : val_main_v33 (F := Ideal) x a b w g (ix2 i d)
    = nrm (fun e => val_main_v18 (F := Ideal) x a b w g (ix2 i e)) (fun e => g (ix2 4 e)) d := by
  pointwise [val_main_v33, val_main_v32, val_main_v31, val_main_v30, val_main_v29, val_main_v28, val_main_v27, val_main_v26, val_main_v25, val_main_v24, val_main_v23, val_main_v22, val_main_v21, val_main_v20, val_main_v19, val_main_cst_2, val_main_cst_3, val_main_cst_4]
  rfl

/-- One hidden unit. -/
theorem hidden : val_main_v37 (F := Ideal) x a b w g wg wu (ix2 i j)
    = hid (fun e => val_main_v33 (F := Ideal) x a b w g (ix2 i e)) (fun e => wg (ix2 e j)) (fun e => wu (ix2 e j)) := by
  pointwise [val_main_v37, val_main_v36, val_main_v35, val_main_v34, val_main_call0_v5, val_main_call0_v4,
    val_main_call0_v3, val_main_call0_v2, val_main_call0_v1, val_main_call0_v0, val_main_call0_cst, val_main_call0_cst_0]
  rw [act_eq]
  rfl

/-- All hidden units, projected back. -/
theorem down : val_main_v38 (F := Ideal) x a b w g wg wu wd (ix2 i d)
    = whole (fun e => val_main_v33 (F := Ideal) x a b w g (ix2 i e)) (fun e j => wg (ix2 e j)) (fun e j => wu (ix2 e j))
        (fun j d => wd (ix2 j d)) d := by
  refine Eq.trans (b := ∑ j, val_main_v37 (F := Ideal) x a b w g wg wu (ix2 i j) * wd (ix2 j d)) ?_
    (Finset.sum_congr rfl fun j _ => by rw [hidden])
  pointwise [val_main_v38]

/-- The result: the feed-forward block of the mixed row. -/
theorem result : val_main_v56 (F := Ideal) x a b w g wg wu wd (ix2 i d)
    = ffn (fun e => val_main_v18 (F := Ideal) x a b w g (ix2 i e)) (fun e => g (ix2 4 e)) (fun e => g (ix2 5 e))
        (fun e j => wg (ix2 e j)) (fun e j => wu (ix2 e j)) (fun j d => wd (ix2 j d)) d := by
  unfold ffn
  rw [show nrm (fun e => val_main_v18 (F := Ideal) x a b w g (ix2 i e)) (fun e => g (ix2 4 e))
      = fun d => val_main_v33 (F := Ideal) x a b w g (ix2 i d) from funext fun d => (norm_in x a b w g i d).symm,
    show whole _ _ _ _ = fun d => val_main_v38 (F := Ideal) x a b w g wg wu wd (ix2 i d)
    from funext fun d => (down x a b w g wg wu wd i d).symm]
  pointwise [val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_cst_5, val_main_cst_6, val_main_cst_7, val_main_cst_8]
  rfl

end Cert.FfnEvenRefIdeal.Rows
-- ==== Proof.FfnEvenValue.lean ====
/- What the feed-forward kernel after the two even-layer attentions leaves in its result array. -/
module

public import proofs.«01_k».proof.Proof.FfnEvenBody
public import proofs.«01_k».proof.Proof.FfnEvenRef
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnEvenIdeal.Value

open Cert.FfnEvenIdeal Cert.FfnEvenIdeal.Gen Cert.FfnEvenIdeal.Pay Cert.FfnMath

variable (m : (ℓ : Loc nD τ sig) → Buf (Elt Ideal) ℓ)

/-- The index maps of the windows: row blocks move with the grid, the rest stay. -/
theorem idx : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![0, 0] ∧ win0_6.index t = ![0, 0, 0] ∧ win0_7.index t = ![0, 0, 0] ∧ win0_8.index t = ![0, 0, 0] ∧ win0_9.index t = ![t.val, 0] :=
  (by decide +kernel : ∀ t : Fin grid0.N, _)

/-- The reference's result over the kernel's arguments. -/
abbrev want (c : Dev nD) : FVec Ideal S32768x1024 .f32 :=
  Cert.FfnEvenRefIdeal.Read.val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- Three rows one above the other. -/
theorem rows3 (A B C : FVec Ideal S1x1024 .f32) (h) (e : Fin 1024) :
    (concatenate S3x1024 0 [⟨S1x1024, A⟩, ⟨S1x1024, B⟩, ⟨S1x1024, C⟩] h (ix2 0 e) = A (ix2 0 e))
    ∧ (concatenate S3x1024 0 [⟨S1x1024, A⟩, ⟨S1x1024, B⟩, ⟨S1x1024, C⟩] h (ix2 1 e) = B (ix2 0 e))
    ∧ (concatenate S3x1024 0 [⟨S1x1024, A⟩, ⟨S1x1024, B⟩, ⟨S1x1024, C⟩] h (ix2 2 e) = C (ix2 0 e)) := by
  refine ⟨?_, ?_, ?_⟩ <;> pointwise []

/-- The mixing gain is row 3 of the gains. -/
theorem gain_mix (c : Dev nD) (e : Fin 1024) :
    (V m c main_v12 : FVec Ideal S3x1024 .f32) (ix2 0 e) = (m ((c : Thread nD τ).loc main_arg4) : FVec Ideal S6x1024 .f32) (ix2 3 e) := by
  rw [show V m c main_v12 = _ from by unfold V; after_results_simp; rfl]
  refine Eq.trans (rows3 _ _ _ _ e).1 ?_
  simp only [Matrix.cons_val_zero]
  after_results_simp
  pointwise []

/-- The first gain is row 4 of the gains. -/
theorem gain_in (c : Dev nD) (e : Fin 1024) :
    (V m c main_v12 : FVec Ideal S3x1024 .f32) (ix2 1 e) = (m ((c : Thread nD τ).loc main_arg4) : FVec Ideal S6x1024 .f32) (ix2 4 e) := by
  rw [show V m c main_v12 = _ from by unfold V; after_results_simp; rfl]
  refine Eq.trans (rows3 _ _ _ _ e).2.1 ?_
  simp only [Matrix.cons_val_one, Matrix.cons_val_zero]
  after_results_simp
  pointwise []

/-- The second gain is row 5 of the gains. -/
theorem gain_out (c : Dev nD) (e : Fin 1024) :
    (V m c main_v12 : FVec Ideal S3x1024 .f32) (ix2 2 e) = (m ((c : Thread nD τ).loc main_arg4) : FVec Ideal S6x1024 .f32) (ix2 5 e) := by
  rw [show V m c main_v12 = _ from by unfold V; after_results_simp; rfl]
  refine Eq.trans (rows3 _ _ _ _ e).2.2 ?_
  simp only [Matrix.cons_val]
  after_results_simp
  pointwise []

/-- The gate weights, cut into groups of 256 hidden units. -/
theorem gate (c : Dev nD) (k : Fin 11) (e : Fin 1024) (j : Fin 256) :
    (V m c main_v15 : FVec Ideal S11x1024x256 .bf16) (ix3 k e j)
      = (m ((c : Thread nD τ).loc main_arg5) : FVec Ideal S1024x2816 .f32) (ix2 e (at256 k j)) := by
  entry_read
  pointwise []
  rfl

/-- The up weights, cut into groups of 256 hidden units. -/
theorem up (c : Dev nD) (k : Fin 11) (e : Fin 1024) (j : Fin 256) :
    (V m c main_v18 : FVec Ideal S11x1024x256 .bf16) (ix3 k e j)
      = (m ((c : Thread nD τ).loc main_arg6) : FVec Ideal S1024x2816 .f32) (ix2 e (at256 k j)) := by
  entry_read
  pointwise []
  rfl

/-- The down weights, cut into groups of 256 hidden units. -/
theorem dn (c : Dev nD) (k : Fin 11) (j : Fin 256) (d : Fin 1024) :
    (V m c main_v20 : FVec Ideal S11x256x1024 .bf16) (ix3 k j d)
      = (m ((c : Thread nD τ).loc main_arg7) : FVec Ideal S2816x1024 .f32) (ix2 (at256 k j) d) := by
  entry_read
  pointwise []
  rfl

/-- One half of the projection's weights. -/
theorem mixw_lo (c : Dev nD) (k : Fin 512) (d : Fin 1024) : (V m c main_v1 : FVec Ideal S512x1024 .bf16) (ix2 k d)
    = (m ((c : Thread nD τ).loc main_arg3) : FVec Ideal S1024x1024 .f32) (ix2 (lo k) d) := by
  entry_read
  unfold lo
  pointwise []

/-- One half of the projection's weights. -/
theorem mixw_hi (c : Dev nD) (k : Fin 512) (d : Fin 1024) : (V m c main_v2 : FVec Ideal S512x1024 .bf16) (ix2 k d)
    = (m ((c : Thread nD τ).loc main_arg3) : FVec Ideal S1024x1024 .f32) (ix2 (hi k) d) := by
  entry_read
  unfold hi
  pointwise []

set_option maxHeartbeats 1000000 in
/-- What a grid point stores is the reference's result at the place it stores it. -/
theorem point (c : Dev nD) (t : Fin cfg0.N) (y) :
    out0_9 (iblk m c 0 t) (iblk m c 1 t) (iblk m c 2 t) (iblk m c 3 t) (iblk m c 4 t) (iblk m c 5 t) (iblk m c 6 t) (iblk m c 7 t) (iblk m c 8 t) y
      = want m c (((cfg0.win 9).blk t).view.emb y) := by
  idx_vars y
  have hN : t.val < 64 := t.isLt
  have h0 (e : Fin 1024) : iblk m c 0 t (ix2 y0 e)
      = (m ((c : Thread nD τ).loc main_arg0) : FVec Ideal S32768x1024 .f32) (ix2 ⟨t.val * 512 + y0.val, by omega⟩ e) := by
    blk_ext [iblk, V, idx t]
  have h1 (e : Fin 512) : iblk m c 1 t (ix2 y0 e)
      = (m ((c : Thread nD τ).loc main_arg1) : FVec Ideal S32768x512 .bf16) (ix2 ⟨t.val * 512 + y0.val, by omega⟩ e) := by
    blk_ext [iblk, V, idx t]
  have h2 (e : Fin 512) : iblk m c 2 t (ix2 y0 e)
      = (m ((c : Thread nD τ).loc main_arg2) : FVec Ideal S32768x512 .bf16) (ix2 ⟨t.val * 512 + y0.val, by omega⟩ e) := by
    blk_ext [iblk, V, idx t]
  have h3 (k : Fin 512) (d : Fin 1024) : iblk m c 3 t (ix2 k d) = (V m c main_v1 : FVec Ideal S512x1024 .bf16) (ix2 k d) := by
    blk_ext [iblk, idx t]
  have h4 (k : Fin 512) (d : Fin 1024) : iblk m c 4 t (ix2 k d) = (V m c main_v2 : FVec Ideal S512x1024 .bf16) (ix2 k d) := by
    blk_ext [iblk, idx t]
  have h5 (k : Fin 3) (e : Fin 1024) : iblk m c 5 t (ix2 k e) = (V m c main_v12 : FVec Ideal S3x1024 .f32) (ix2 k e) := by
    blk_ext [iblk, idx t]
  have h6 (k : Fin 11) (e : Fin 1024) (j : Fin 256) : iblk m c 6 t (ix3 k e j) = (V m c main_v15 : FVec Ideal S11x1024x256 .bf16) (ix3 k e j) := by
    blk_ext [iblk, idx t]
  have h7 (k : Fin 11) (e : Fin 1024) (j : Fin 256) : iblk m c 7 t (ix3 k e j) = (V m c main_v18 : FVec Ideal S11x1024x256 .bf16) (ix3 k e j) := by
    blk_ext [iblk, idx t]
  have h8 (k : Fin 11) (j : Fin 256) (d : Fin 1024) : iblk m c 8 t (ix3 k j d) = (V m c main_v20 : FVec Ideal S11x256x1024 .bf16) (ix3 k j d) := by
    blk_ext [iblk, idx t]
  have hz : want m c (((cfg0.win 9).blk t).view.emb (ix2 y0 y1))
      = want m c (ix2 ⟨t.val * 512 + y0.val, by omega⟩ y1) := by
    blk_ext [idx t]
  have hr : row (iblk m c 0 t) (iblk m c 1 t) (iblk m c 2 t) (iblk m c 3 t) (iblk m c 4 t) (iblk m c 5 t) (iblk m c 6 t) (iblk m c 7 t) (iblk m c 8 t) y0
      = fun e => Cert.FfnEvenRefIdeal.Read.val_main_v18 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 ⟨t.val * 512 + y0.val, by omega⟩ e) := by
    funext e
    rw [Cert.FfnEvenRefIdeal.Rows.mixed_halves]
    unfold row
    simp only [h0, h1, h2, fun k d => (h3 k d).trans (mixw_lo m c k d), fun k d => (h4 k d).trans (mixw_hi m c k d),
      fun e => (h5 0 e).trans (gain_mix m c e)]
  refine Eq.trans (body _ _ _ _ _ _ _ _ _ y0 y1) (Eq.trans ?_ (hz.trans (Cert.FfnEvenRefIdeal.Rows.result _ _ _ _ _ _ _ _ _ _)).symm)
  unfold ffn
  rw [show whole (nrm _ _) _ _ _ = _ from funext (whole_eq _ _ _ _), hr]
  simp only [fun e => (h5 1 e).trans (gain_in m c e), fun e => (h5 2 e).trans (gain_out m c e),
    fun k e j => (h6 k e j).trans (gate m c k e j), fun k e j => (h7 k e j).trans (up m c k e j),
    fun k j d => (h8 k j d).trans (dn m c k j d)]

/-- The result array after the run. -/
theorem final (c : Dev nD) : (dats m 0 c).arrAt 9 (cfgs 0).N = want m c := by
  refine (dats m 0 c).arrAt_eq_of_covers 9 _ (by decide +kernel) fun t _ y => ?_
  blk_simp
  rw [after0_9]
  exact point m c t y

end Cert.FfnEvenIdeal.Value
-- ==== Proof.ProjOddBody.lean ====
/- The odd layer's input projection: its row arithmetic, its reference, and what one grid point stores. -/
module

public import proofs.«01_k».proof.Proof.Gen.ProjOddIdeal.Frame
public import proofs.«01_k».proof.Proof.Gen.ProjOddRefIdeal.Read
public import proofs.«01_k».proof.Proof.FfnMath

@[expose] public section

set_option maxRecDepth 16384

noncomputable section

open Idealize.ShloMosaic Idealize.ShloMosaic.TcCoe Idealize.SL.Sem

namespace Cert.FfnMath

/-- One projected column of a row: a query column (the first 1024) is scaled by an eighth. -/
def proj (h : Fin 1024 → EReal) (w : Fin 1024 → Fin 3072 → EReal) (n : Fin 3072) : EReal :=
  if n.val < 1024 then (∑ k, h k * w k n) * Ideal.ofBits .f32 1040187392#32 else ∑ k, h k * w k n

end Cert.FfnMath

namespace Cert.ProjOddRefIdeal.Rows

open Cert.ProjOddRefIdeal Cert.ProjOddRefIdeal.Gen Cert.ProjOddRefIdeal.Read Cert.FfnMath

variable (x : FVec Ideal S32768x1024 .f32) (g : FVec Ideal S6x1024 .f32) (w : FVec Ideal S1024x3072 .f32)
  (i : Fin 32768) (d : Fin 1024) (n : Fin 3072)

/-- The normalized row. -/
theorem norm_in : val_main_v14 (F := Ideal) x g (ix2 i d) = nrm (fun e => x (ix2 i e)) (fun e => g (ix2 2 e)) d := by
  pointwise [val_main_v14, val_main_v13, val_main_v12, val_main_v11, val_main_v10, val_main_v9, val_main_v8,
    val_main_v7, val_main_v6, val_main_v5, val_main_v4, val_main_v3, val_main_v2, val_main_v1, val_main_v0,
    val_main_cst, val_main_cst_0, val_main_cst_1]
  rfl

/-- The product with the weights. -/
theorem prod : val_main_v15 (F := Ideal) x g w (ix2 i n)
    = ∑ k, nrm (fun e => x (ix2 i e)) (fun e => g (ix2 2 e)) k * w (ix2 k n) := by
  refine Eq.trans (b := ∑ k, val_main_v14 (F := Ideal) x g (ix2 i k) * w (ix2 k n)) ?_
    (Finset.sum_congr rfl fun k _ => by rw [norm_in])
  pointwise [val_main_v15]

/-- The result: every column of the product, the query columns scaled. -/
theorem result : val_main_v22 (F := Ideal) x g w (ix2 i n)
    = proj (nrm (fun e => x (ix2 i e)) (fun e => g (ix2 2 e))) (fun k n => w (ix2 k n)) n := by
  unfold proj
  rw [← prod]
  by_cases h1 : n.val < 1024
  · rw [if_pos h1]
    pointwise [val_main_v22, val_main_v21, val_main_v20, val_main_v19, val_main_v18, val_main_v17, val_main_v16, val_main_cst_2]
    rw [dif_pos h1]
  · rw [if_neg h1]
    pointwise [val_main_v22, val_main_v21, val_main_v20, val_main_v19, val_main_v18, val_main_v17, val_main_v16, val_main_cst_2]
    rw [dif_neg h1]
    split <;> (congr 2; exact Fin.ext (by simp only []; omega))

end Cert.ProjOddRefIdeal.Rows

namespace Cert.ProjOddIdeal.Value

open Cert.ProjOddIdeal Cert.ProjOddIdeal.Gen Cert.FfnMath

/-- The normalized row. -/
theorem p4 (x : Vec Ideal S512x1024 .f32) (g : Vec Ideal S1x1024 .f32) (i : Fin 512) (d : Fin 1024) :
    k0_pay4 x g (ix2 i d) = nrm (fun e => x (ix2 i e)) (fun e => g (ix2 0 e)) d := by
  pointwise [k0_pay4]
  rfl

/-- A plain column block. -/
theorem p3 (h : FVec Ideal S512x1024 .bf16) (w : Vec Ideal S1024x512 .bf16) (i j : Fin 512) :
    k0_pay3 h w (ix2 i j) = ∑ k, h (ix2 i k) * w (ix2 k j) := by
  pointwise [k0_pay3]

/-- A plain column block. -/
theorem p2 (h : FVec Ideal S512x1024 .bf16) (w : Vec Ideal S1024x512 .bf16) (i j : Fin 512) :
    k0_pay2 h w (ix2 i j) = ∑ k, h (ix2 i k) * w (ix2 k j) := by
  pointwise [k0_pay2]

/-- A plain column block. -/
theorem p1 (h : FVec Ideal S512x1024 .bf16) (w : Vec Ideal S1024x512 .bf16) (i j : Fin 512) :
    k0_pay1 h w (ix2 i j) = ∑ k, h (ix2 i k) * w (ix2 k j) := by
  pointwise [k0_pay1]

/-- A plain column block. -/
theorem p7 (x : Vec Ideal S512x1024 .f32) (g : Vec Ideal S1x1024 .f32) (w : Vec Ideal S1024x512 .bf16) (i j : Fin 512) :
    k0_pay7 x g w (ix2 i j) = (∑ k, k0_pay4 x g (ix2 i k) * w (ix2 k j)) := by
  pointwise [k0_pay7]

/-- A scaled column block. -/
theorem p6 (x : Vec Ideal S512x1024 .f32) (g : Vec Ideal S1x1024 .f32) (w : Vec Ideal S1024x512 .bf16) (i j : Fin 512) :
    k0_pay6 x g w (ix2 i j) = (∑ k, k0_pay4 x g (ix2 i k) * w (ix2 k j)) * Ideal.ofBits .f32 1040187392#32 := by
  pointwise [k0_pay6]

/-- A scaled column block. -/
theorem p5 (x : Vec Ideal S512x1024 .f32) (g : Vec Ideal S1x1024 .f32) (w : Vec Ideal S1024x512 .bf16) (i j : Fin 512) :
    k0_pay5 x g w (ix2 i j) = (∑ k, k0_pay4 x g (ix2 i k) * w (ix2 k j)) * Ideal.ofBits .f32 1040187392#32 := by
  pointwise [k0_pay5]

/-- What a grid point stores, from its input blocks. -/
theorem body (x0 : Vec Ideal S512x1024 .f32) (x1 : Vec Ideal S1x1024 .f32) (x2 : Vec Ideal S1024x3072 .bf16)
    (i : Fin 512) (n : Fin 3072) :
    out0_3 x0 x1 x2 (ix2 i n)
      = proj (fun d => k0_pay4 x0 x1 (ix2 i d)) (fun k n => x2 (ix2 k n)) n := by
  have hl (o : ℕ) (b) (k : Fin 1024) (j : Fin 512) (hn : n.val = o + j.val) :
      View.ld x2 (Rect.unit (s := S1024x3072) ![0, o] S1024x512.size b) (ix2 k j) = x2 (ix2 k n) :=
    View.ld_unit_apply_of _ _ _ _ _ _ fun a => match a with
      | 0 => (Nat.zero_add _).symm
      | 1 => hn
  have h8 : k0_pay8 x0 x1 x2 = k0_pay4 x0 x1 := by
    unfold k0_pay8
    rw [View.ld_unit_lit _ x0 (by decide), View.ld_unit_lit _ x1 (by decide)]
  have l0 : View.ld x0 r0_0 = x0 := View.ld_unit_lit _ x0 (by decide)
  have l1 : View.ld x1 r0_1 = x1 := View.ld_unit_lit _ x1 (by decide)
  unfold proj
  canon_tiles y h
  all_goals
    idx_vars y
    obtain rfl : i = y0 := Fin.ext h0
  case piece0 =>
    replace h1 : n.val = 2560 + y1.val := h1
    rw [if_neg (by omega), p3, h8]
    exact Finset.sum_congr rfl fun k _ => by rw [hl 2560 _ k y1 h1]
  case piece1 =>
    replace h1 : n.val = 2048 + y1.val := h1
    rw [if_neg (by omega), p2, h8]
    exact Finset.sum_congr rfl fun k _ => by rw [hl 2048 _ k y1 h1]
  case piece2 =>
    replace h1 : n.val = 1536 + y1.val := h1
    rw [if_neg (by omega), p1, h8]
    exact Finset.sum_congr rfl fun k _ => by rw [hl 1536 _ k y1 h1]
  case piece3 =>
    replace h1 : n.val = 1024 + y1.val := h1
    rw [if_neg (by omega), p7, l0, l1]
    exact Finset.sum_congr rfl fun k _ => by rw [hl 1024 _ k y1 h1]
  case piece4 =>
    replace h1 : n.val = 512 + y1.val := h1
    rw [if_pos (by omega), p6, l0, l1]
    exact congrArg (· * _) (Finset.sum_congr rfl fun k _ => by rw [hl 512 _ k y1 h1])
  case piece5 =>
    replace h1 : n.val = y1.val := h1
    rw [if_pos (by omega), p5, l0, l1]
    exact congrArg (· * _) (Finset.sum_congr rfl fun k _ => by rw [hl 0 _ k y1 (h1.trans (Nat.zero_add _).symm)])

end Cert.ProjOddIdeal.Value
-- ==== Proof.ProjOddValue.lean ====
/- What the projection kernel leaves in its result array. -/
module

public import proofs.«01_k».proof.Proof.ProjOddBody
public import proofs.«01_k».proof.Proof.FfnMath
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjOddIdeal.Value

open Cert.ProjOddIdeal Cert.ProjOddIdeal.Gen Cert.FfnMath

variable (m : (ℓ : Loc nD τ sig) → Buf (Elt Ideal) ℓ)

/-- The index maps of the windows: row blocks move with the grid, the rest stay. -/
theorem idx : ∀ t : Fin cfg0.N, win0_0.index t = ![t.val, 0] ∧ win0_1.index t = ![0, 0] ∧ win0_2.index t = ![0, 0]
    ∧ win0_3.index t = ![t.val, 0] :=
  (by decide +kernel : ∀ t : Fin grid0.N, _)

/-- The reference's result over the kernel's arguments. -/
abbrev want (c : Dev nD) : FVec Ideal S32768x3072 .bf16 :=
  Cert.ProjOddRefIdeal.Read.val_main_v22 (F := Ideal) (m ((c : Thread nD τ).loc main_arg0)) (m ((c : Thread nD τ).loc main_arg1))
    (m ((c : Thread nD τ).loc main_arg2))

/-- The gain is row 2 of the gains. -/
theorem gain (c : Dev nD) (e : Fin 1024) :
    (V m c main_v0 : FVec Ideal S1x1024 .f32) (ix2 0 e) = (m ((c : Thread nD τ).loc main_arg1) : FVec Ideal S6x1024 .f32) (ix2 2 e) := by
  entry_read
  pointwise []

/-- The weights. -/
theorem weights (c : Dev nD) (k : Fin 1024) (n : Fin 3072) : (V m c main_v1 : FVec Ideal S1024x3072 .bf16) (ix2 k n)
    = (m ((c : Thread nD τ).loc main_arg2) : FVec Ideal S1024x3072 .f32) (ix2 k n) := by
  entry_read
  pointwise []

/-- What a grid point stores is the reference's result at the place it stores it. -/
theorem point (c : Dev nD) (t : Fin cfg0.N) (y) :
    out0_3 (iblk m c 0 t) (iblk m c 1 t) (iblk m c 2 t) y = want m c (((cfg0.win 3).blk t).view.emb y) := by
  idx_vars y
  have hN : t.val < 64 := t.isLt
  have h0 (e : Fin 1024) : iblk m c 0 t (ix2 y0 e)
      = (m ((c : Thread nD τ).loc main_arg0) : FVec Ideal S32768x1024 .f32) (ix2 ⟨t.val * 512 + y0.val, by omega⟩ e) := by
    blk_ext [iblk, V, idx t]
  have h1 (e : Fin 1024) : iblk m c 1 t (ix2 0 e) = (V m c main_v0 : FVec Ideal S1x1024 .f32) (ix2 0 e) := by
    blk_ext [iblk, idx t]
  have h2 (k : Fin 1024) (n : Fin 3072) : iblk m c 2 t (ix2 k n) = (V m c main_v1 : FVec Ideal S1024x3072 .bf16) (ix2 k n) := by
    blk_ext [iblk, idx t]
  have hz : want m c (((cfg0.win 3).blk t).view.emb (ix2 y0 y1))
      = want m c (ix2 ⟨t.val * 512 + y0.val, by omega⟩ y1) := by
    blk_ext [idx t]
  refine Eq.trans (body _ _ _ y0 y1) (Eq.trans ?_ (hz.trans (Cert.ProjOddRefIdeal.Rows.result _ _ _ _ _)).symm)
  simp only [p4, h0, fun e => (h1 e).trans (gain m c e), fun k n => (h2 k n).trans (weights m c k n)]

/-- The result array after the run. -/
theorem final (c : Dev nD) : (dats m 0 c).arrAt 3 (cfgs 0).N = want m c := by
  refine (dats m 0 c).arrAt_eq_of_covers 3 _ (by decide +kernel) fun t _ y => ?_
  blk_simp
  rw [after0_3]
  exact point m c t y

end Cert.ProjOddIdeal.Value
-- ==== Proof.EvenMath.lean ====
/- The row arithmetic of the even layer's input projection: rotated, scaled and plain columns. -/
module

public import proofs.«01_k».proof.Proof.FfnMath

@[expose] public section

set_option maxRecDepth 16384

noncomputable section

open Idealize.ShloMosaic Idealize.ShloMosaic.TcCoe Idealize.SL.Sem

namespace Cert.FfnMath

/-- Column `n` of a row, turned by its position's angles: the columns come in groups of `2 d`, and the two halves of a
group are the two coordinates that turn together. -/
def turn (d : ℕ) (P C S : ℕ → EReal) (n : ℕ) : EReal :=
  if n % (2 * d) < d then P n * C (n % d) + P (n + d) * -S (n % d) else P n * C (n % d) + P (n - d) * S (n % d)

/-- Turning reads only the columns of the group and the angles of the half. -/
theorem turn_congr (d : ℕ) (P P' C S : ℕ → EReal) (n n' : ℕ) (hm : n % (2 * d) = n' % (2 * d)) (hd : n % d = n' % d)
    (h0 : P n = P' n') (h1 : n % (2 * d) < d → P (n + d) = P' (n' + d)) (h2 : ¬ n % (2 * d) < d → P (n - d) = P' (n' - d)) :
    turn d P C S n = turn d P' C S n' := by
  unfold turn
  rw [← hm, ← hd, h0]
  split
  · rename_i h
    rw [h1 h]
  · rename_i h
    rw [h2 h]

/-- The queries, keys and values of the two attentions, six groups of 512 columns: queries and keys are turned, and
the queries scaled by an eighth. -/
def qkvCol (P C S : ℕ → EReal) (n : ℕ) : EReal :=
  if n / 512 = 0 ∨ n / 512 = 3 then turn 32 P C S n * Ideal.ofBits .f32 1040187392#32
  else if n / 512 = 1 ∨ n / 512 = 4 then turn 32 P C S n else P n

/-- Finitely many values, zero beyond. -/
def ext {K : ℕ} (f : Fin K → EReal) (n : ℕ) : EReal := if h : n < K then f ⟨n, h⟩ else 0

/-- The values themselves. -/
theorem ext_at {K : ℕ} (f : Fin K → EReal) (n : Fin K) : ext f n.val = f n := dif_pos n.isLt

/-- The products of a row with the weights' columns. -/
def colOf {K : ℕ} (h : Fin 1024 → EReal) (w : Fin 1024 → Fin K → EReal) (n : ℕ) : EReal :=
  ext (fun n => ∑ k, h k * w k n) n

/-- The weights' columns as the kernel has them: the index key's columns four times over, then the index weights' columns. -/
def relaid (w : Fin 1024 → Fin 3368 → EReal) (k : Fin 1024) (n : Fin 3584) : EReal :=
  if h : n.val < 3328 then w k ⟨n.val, by omega⟩
  else if n.val < 3456 then w k ⟨3328 + n.val % 32, by omega⟩
  else if h : n.val < 3464 then w k ⟨n.val - 96, by omega⟩ else 0

/-- The same, part by part. -/
theorem relaid_eq (w : Fin 1024 → Fin 3368 → EReal) (k : Fin 1024) (n : Fin 3584) :
    (if h : n.val < 3072 then w k ⟨n.val, by omega⟩
      else if h : n.val - 3072 < 256 then w k ⟨3072 + (n.val - 3072), by omega⟩
      else if h : n.val - 3072 - 256 < 128 then w k ⟨3328 + (n.val - 3072 - 256) % 32, by omega⟩
      else if h : n.val - 3072 - 256 - 128 < 8 then w k ⟨3360 + (n.val - 3072 - 256 - 128), by omega⟩ else 0)
      = relaid w k n := by
  have hn := n.isLt
  have same (a b : Fin 3368) (h : a.val = b.val) : w k a = w k b := congrArg _ (Fin.ext h)
  unfold relaid
  split_ifs <;> first
    | (exfalso; omega)
    | rfl
    | exact same _ _ (show 3072 + (n.val - 3072) = n.val by omega)
    | exact same _ _ (show 3328 + (n.val - 3072 - 256) % 32 = 3328 + n.val % 32 by omega)
    | exact same _ _ (show 3360 + (n.val - 3072 - 256 - 128) = n.val - 96 by omega)

variable (h : Fin 1024 → EReal) (w : Fin 1024 → Fin 3368 → EReal) (n : ℕ)

/-- The first 3328 columns stay where they are. -/
theorem col_lo (hn : n < 3328) : colOf h (relaid w) n = colOf h w n := by
  unfold colOf ext
  rw [dif_pos (by omega : n < 3584), dif_pos (by omega : n < 3368)]
  exact Finset.sum_congr rfl fun k _ => congrArg _ (by unfold relaid; rw [dif_pos hn])

/-- The index key's columns, repeated. -/
theorem col_key (h0 : 3328 ≤ n) (hn : n < 3456) : colOf h (relaid w) n = colOf h w (3328 + n % 32) := by
  unfold colOf ext
  rw [dif_pos (by omega : n < 3584), dif_pos (by omega : 3328 + n % 32 < 3368)]
  exact Finset.sum_congr rfl fun k _ => congrArg _ (by
    unfold relaid
    rw [dif_neg (by show ¬ n < 3328; omega), if_pos hn])

/-- The index weights' columns. -/
theorem col_wt (h0 : 3456 ≤ n) (hn : n < 3464) : colOf h (relaid w) n = colOf h w (n - 96) := by
  unfold colOf ext
  rw [dif_pos (by omega : n < 3584), dif_pos (by omega : n - 96 < 3368)]
  exact Finset.sum_congr rfl fun k _ => congrArg _ (by
    unfold relaid
    rw [dif_neg (by show ¬ n < 3328; omega), if_neg (by show ¬ n < 3456; omega), dif_pos hn])

/-- The rest is zero. -/
theorem col_zero (h0 : 3464 ≤ n) : colOf h (relaid w) n = 0 := by
  unfold colOf ext
  split
  · refine Finset.sum_eq_zero fun k _ => ?_
    unfold relaid
    rw [dif_neg (by show ¬ n < 3328; omega), if_neg (by show ¬ n < 3456; omega), dif_neg (by show ¬ n < 3464; omega), mul_zero]
  · rfl

/-- The attentions' columns over the kernel's weights are the reference's. -/
theorem qkv_relaid (C S : ℕ → EReal) (hn : n < 3072) : qkvCol (colOf h (relaid w)) C S n = qkvCol (colOf h w) C S n := by
  have ht : turn 32 (colOf h (relaid w)) C S n = turn 32 (colOf h w) C S n :=
    turn_congr 32 _ _ C S n n rfl rfl (col_lo h w n (by omega)) (fun _ => col_lo h w _ (by omega)) (fun _ => col_lo h w _ (by omega))
  unfold qkvCol
  rw [ht, col_lo h w n (by omega)]

/-- The index queries, eight heads of 32 columns, and the index key four times over: all turned. -/
def idxCol (P C S : ℕ → EReal) (n : ℕ) : EReal :=
  if n < 256 then turn 16 P C S (3072 + n) else turn 16 P C S (3328 + n % 32)

/-- The index columns over the kernel's weights are the reference's. -/
theorem idx_relaid (C S : ℕ → EReal) (hn : n < 384) :
    turn 16 (colOf h (relaid w)) C S (3072 + n) = idxCol (colOf h w) C S n := by
  unfold idxCol
  split
  · exact turn_congr 16 _ _ C S _ _ rfl rfl (col_lo h w _ (by omega)) (fun _ => col_lo h w _ (by omega))
      (fun _ => col_lo h w _ (by omega))
  · refine turn_congr 16 _ _ C S _ _ (by omega) (by omega) ?_ (fun hh => ?_) (fun hh => ?_)
    · exact (col_key h w _ (by omega) (by omega)).trans (congrArg _ (by omega))
    · exact (col_key h w _ (by omega) (by omega)).trans (congrArg _ (by omega))
    · exact (col_key h w _ (by omega) (by omega)).trans (congrArg _ (by omega))

/-- The index weights, a sixteenth of their columns, then zeros. -/
def wtCol (P : ℕ → EReal) (n : ℕ) : EReal :=
  if n < 8 then P (3360 + n) * Ideal.ofBits .f32 1031798784#32 else 0

/-- The index weights over the kernel's weights are the reference's. -/
theorem wt_relaid (hn : n < 128) : colOf h (relaid w) (3456 + n) * Ideal.ofBits .f32 1031798784#32 = wtCol (colOf h w) n := by
  unfold wtCol
  split
  · rw [col_wt h w _ (by omega) (by omega), show 3456 + n - 96 = 3360 + n by omega]
  · rw [col_zero h w _ (by omega), zero_mul]

end Cert.FfnMath
-- ==== Proof.EvenBody.lean ====
/- What one grid point of the even layer's input projection stores. -/
module

public import proofs.«01_k».proof.Proof.Gen.ProjEvenIdeal.Frame
public import proofs.«01_k».proof.Proof.EvenMath

@[expose] public section

set_option maxRecDepth 16384

noncomputable section

open Idealize.ShloMosaic Idealize.ShloMosaic.TcCoe Idealize.SL.Sem

namespace Cert.ProjEvenIdeal.Value

open Cert.ProjEvenIdeal Cert.ProjEvenIdeal.Gen Cert.FfnMath

/-- A block turned by its tables: each lane meets the lane `up` places behind or `dn` places before. -/
def spun (mask half up dn : BitVec 32) (y c s : FVec Ideal S512x128 .f32) : FVec Ideal S512x128 .f32 :=
  addf (mulf y c) (mulf (select
    (cmpi .slt (andi (iota .tc S512x128 32 [1] iota_S512x128_d1_w32) (broadcast S512x128 mask)) (broadcast S512x128 half))
    (dynamicRotate 1 up none y rotates_S512x128_d1) (dynamicRotate 1 dn none y rotates_S512x128_d1)) s)

/-- The lane test, heads of 64. -/
theorem lane64 : ∀ l : Fin 128, IntOp.cmpi CmpIPredicate.slt (IntOp.andi (BitVec.ofNat 32 l.val) 63#32) 32#32
    = if l.val % 64 < 32 then 1#1 else 0#1 := by
  decide +kernel

/-- The lane test, heads of 32. -/
theorem lane32 : ∀ l : Fin 128, IntOp.cmpi CmpIPredicate.slt (IntOp.andi (BitVec.ofNat 32 l.val) 31#32) 16#32
    = if l.val % 32 < 16 then 1#1 else 0#1 := by
  decide +kernel

variable (y c s : FVec Ideal S512x128 .f32) (i : Fin 512) (P C S : ℕ → EReal) (o : ℕ) (hy : ∀ l : Fin 128, y (ix2 i l) = P (o + l.val))

include hy in
/-- Turned columns, in heads of 64. -/
theorem spun64 (ho : o % 64 = 0) (hc : ∀ l : Fin 128, c (ix2 i l) = C (l.val % 32))
    (hs : ∀ l : Fin 128, s (ix2 i l) = if l.val % 64 < 32 then -S (l.val % 32) else S (l.val % 32)) (l : Fin 128) :
    spun 63#32 32#32 96#32 32#32 y c s (ix2 i l) = turn 32 P C S (o + l.val) := by
  have hl := l.isLt
  unfold turn
  pointwise [spun]
  rw [lane64, hc, hs]
  simp only [hy]
  by_cases h : l.val % 64 < 32
  · rw [if_pos h, if_pos h, if_pos (by omega), Scalar.select, if_pos (by decide)]
    rw [show o + (l.val + 128 - 96) % 128 = o + l.val + 32 by omega, show l.val % 32 = (o + l.val) % 32 by omega]
  · rw [if_neg h, if_neg h, if_neg (by omega), Scalar.select, if_neg (by decide)]
    congr 3 <;> omega

include hy in
/-- Turned columns, in heads of 32. -/
theorem spun32 (ho : o % 32 = 0) (hc : ∀ l : Fin 128, c (ix2 i l) = C (l.val % 16))
    (hs : ∀ l : Fin 128, s (ix2 i l) = if l.val % 32 < 16 then -S (l.val % 16) else S (l.val % 16)) (l : Fin 128) :
    spun 31#32 16#32 112#32 16#32 y c s (ix2 i l) = turn 16 P C S (o + l.val) := by
  have hl := l.isLt
  unfold turn
  pointwise [spun]
  rw [lane32, hc, hs]
  simp only [hy]
  by_cases h : l.val % 32 < 16
  · rw [if_pos h, if_pos h, if_pos (by omega), Scalar.select, if_pos (by decide)]
    rw [show o + (l.val + 128 - 112) % 128 = o + l.val + 16 by omega, show l.val % 16 = (o + l.val) % 16 by omega]
  · rw [if_neg h, if_neg h, if_neg (by omega), Scalar.select, if_neg (by decide)]
    congr 3 <;> omega

section Pieces

variable (x0 : Vec Ideal S512x1024 .f32) (x1 : Vec Ideal S1x1024 .f32) (x2 : Vec Ideal S1024x3584 .bf16)
  (x3 : Vec Ideal S4x512x128 .f32) (k q : ℕ)
  (b : ∀ a : Fin 2, (![0, k] : Fin 2 → ℕ) a + S1024x512.size a ≤ S1024x3584.size a)
  (b' : S512x512.Slices ![0, q] S512x128)

/-- The normalized row. -/
theorem normed (d : Fin 1024) :
    k0_pay55 x0 x1 x2 x3 (ix2 i d) = nrm (fun e => x0 (ix2 i e)) (fun e => x1 (ix2 0 e)) d := by
  unfold k0_pay55
  rw [View.ld_unit_lit _ x0 (by decide), View.ld_unit_lit _ x1 (by decide)]
  pointwise [k0_pay3]
  rfl

/-- The columns of the row's product with the weights. -/
abbrev cols : ℕ → EReal := colOf (nrm (fun e => x0 (ix2 i e)) (fun e => x1 (ix2 0 e))) fun k n => x2 (ix2 k n)

/-- Column block `k` of the product. -/
abbrev blk : FVec Ideal S512x512 .f32 := k0_pay16 (k0_pay55 x0 x1 x2 x3) (View.ld x2 (Rect.unit (s := S1024x3584) ![0, k] S1024x512.size b))

/-- Columns `q` to `q + 128` of that block. -/
abbrev tile : FVec Ideal S512x128 .f32 := extractStridedSlice S512x128 ![0, q] (blk x0 x1 x2 x3 k b) b'

/-- The product's columns in a block. -/
theorem blk_col (j : Fin 512) : blk x0 x1 x2 x3 k b (ix2 i j) = cols i x0 x1 x2 (k + j.val) := by
  have hb : k + 512 ≤ 3584 := b 1
  refine Eq.trans ?_ (ext_at (fun n => ∑ d, nrm (fun e => x0 (ix2 i e)) (fun e => x1 (ix2 0 e)) d * x2 (ix2 d n)) ⟨k + j.val, by omega⟩).symm
  refine Eq.trans (b := ∑ d, k0_pay55 x0 x1 x2 x3 (ix2 i d)
    * View.ld x2 (Rect.unit (s := S1024x3584) ![0, k] S1024x512.size b) (ix2 d j)) ?_
    (Finset.sum_congr rfl fun d _ => congrArg₂ _ (normed i x0 x1 x2 x3 d) ?_)
  · pointwise [k0_pay16]
  · exact View.ld_unit_apply_of _ _ _ _ _ _ fun a => match a with
      | 0 => (Nat.zero_add _).symm
      | 1 => rfl

/-- The product's columns in a tile. -/
theorem tile_col (l : Fin 128) : tile x0 x1 x2 x3 k q b b' (ix2 i l) = cols i x0 x1 x2 (k + q + l.val) := by
  have hq : q + 128 ≤ 512 := b'.2 1
  have e : tile x0 x1 x2 x3 k q b b' (ix2 i l) = blk x0 x1 x2 x3 k b (ix2 i ⟨q + l.val, by omega⟩) :=
    extractStridedSlice_apply ![0, q] _ b' (ix2 i l) (ix2 i ⟨q + l.val, by omega⟩) (fun a => match a with
      | ⟨0, _⟩ => (Nat.zero_add _).symm
      | ⟨1, _⟩ => rfl)
  rw [e, blk_col, Nat.add_assoc]

/-- The attentions' cosines. -/
theorem tab0 (l : Fin 128) : k0_pay56 x0 x1 x2 x3 (ix2 i l) = x3 (ix3 0 i l) := by
  pointwise [k0_pay56, k0_pay4]

/-- The attentions' sines. -/
theorem tab1 (l : Fin 128) : k0_pay57 x0 x1 x2 x3 (ix2 i l) = x3 (ix3 1 i l) := by
  pointwise [k0_pay57, k0_pay5]

/-- The index heads' cosines. -/
theorem tab2 (l : Fin 128) : k0_pay58 x0 x1 x2 x3 (ix2 i l) = x3 (ix3 2 i l) := by
  pointwise [k0_pay58, k0_pay6]

/-- The index heads' sines. -/
theorem tab3 (l : Fin 128) : k0_pay59 x0 x1 x2 x3 (ix2 i l) = x3 (ix3 3 i l) := by
  pointwise [k0_pay59, k0_pay7]

/-- A tile turned by the attentions' angles. -/
abbrev spunA : FVec Ideal S512x128 .f32 :=
  spun 63#32 32#32 96#32 32#32 (tile x0 x1 x2 x3 k q b b') (k0_pay56 x0 x1 x2 x3) (k0_pay57 x0 x1 x2 x3)

/-- A tile turned by the index heads' angles. -/
abbrev spunI : FVec Ideal S512x128 .f32 :=
  spun 31#32 16#32 112#32 16#32 (tile x0 x1 x2 x3 k q b b') (k0_pay58 x0 x1 x2 x3) (k0_pay59 x0 x1 x2 x3)

/-- A query's, a key's and a value's stored tile. -/
abbrev asQ : FVec Ideal S512x128 .bf16 :=
  truncf .bf16 (mulf (spunA x0 x1 x2 x3 k q b b') (broadcast S512x128 (Scalar.ofBits .f32 0x3E000000#32))) bitsLt_bf16_f32

@[inherit_doc asQ] abbrev asK : FVec Ideal S512x128 .bf16 := truncf .bf16 (spunA x0 x1 x2 x3 k q b b') bitsLt_bf16_f32

@[inherit_doc asQ] abbrev asV : FVec Ideal S512x128 .bf16 := truncf .bf16 (tile x0 x1 x2 x3 k q b b') bitsLt_bf16_f32

/-- An index tile, stored. -/
abbrev asI : FVec Ideal S512x128 .bf16 := truncf .bf16 (spunI x0 x1 x2 x3 k q b b') bitsLt_bf16_f32

variable (n : ℕ) (l : Fin 128) (hn : n = k + q + l.val)

section Attention

variable (hc : ∀ l : Fin 128, x3 (ix3 0 i l) = C (l.val % 32))
  (hs : ∀ l : Fin 128, x3 (ix3 1 i l) = if l.val % 64 < 32 then -S (l.val % 32) else S (l.val % 32))
  (ho : (k + q) % 64 = 0)

include hc hs ho in
/-- Turned columns. -/
theorem spunA_at : spunA x0 x1 x2 x3 k q b b' (ix2 i l) = turn 32 (cols i x0 x1 x2) C S (k + q + l.val) :=
  spun64 _ _ _ i _ C S (k + q) (tile_col i x0 x1 x2 x3 k q b b') ho (fun l => (tab0 i x0 x1 x2 x3 l).trans (hc l))
    (fun l => (tab1 i x0 x1 x2 x3 l).trans (hs l)) l

include hn hc hs ho in
/-- A query tile. -/
theorem asQ_at (h : n / 512 = 0 ∨ n / 512 = 3) : asQ x0 x1 x2 x3 k q b b' (ix2 i l) = qkvCol (cols i x0 x1 x2) C S n := by
  subst hn
  unfold qkvCol
  rw [if_pos h, ← spunA_at i C S x0 x1 x2 x3 k q b b' l hc hs ho]
  pointwise [asQ]

include hn hc hs ho in
/-- A key tile. -/
theorem asK_at (h : n / 512 = 1 ∨ n / 512 = 4) : asK x0 x1 x2 x3 k q b b' (ix2 i l) = qkvCol (cols i x0 x1 x2) C S n := by
  subst hn
  unfold qkvCol
  rw [if_neg (by omega), if_pos h, ← spunA_at i C S x0 x1 x2 x3 k q b b' l hc hs ho]
  pointwise [asK]

include hn in
/-- A value tile. -/
theorem asV_at (h : n / 512 = 2 ∨ n / 512 = 5) : asV x0 x1 x2 x3 k q b b' (ix2 i l) = qkvCol (cols i x0 x1 x2) C S n := by
  subst hn
  unfold qkvCol
  rw [if_neg (by omega), if_neg (by omega), ← tile_col i x0 x1 x2 x3 k q b b' l]
  pointwise [asV]

end Attention

include hn in
/-- An index tile. -/
theorem asI_at (hc : ∀ l : Fin 128, x3 (ix3 2 i l) = C (l.val % 16))
    (hs : ∀ l : Fin 128, x3 (ix3 3 i l) = if l.val % 32 < 16 then -S (l.val % 16) else S (l.val % 16)) (ho : (k + q) % 32 = 0) :
    asI x0 x1 x2 x3 k q b b' (ix2 i l) = turn 16 (cols i x0 x1 x2) C S n := by
  subst hn
  refine Eq.trans ?_ (spun32 _ _ _ i _ C S (k + q) (tile_col i x0 x1 x2 x3 k q b b') ho
    (fun l => (tab2 i x0 x1 x2 x3 l).trans (hc l)) (fun l => (tab3 i x0 x1 x2 x3 l).trans (hs l)) l)
  pointwise [asI]

end Pieces

section Bodies

variable (x0 : Vec Ideal S512x1024 .f32) (x1 : Vec Ideal S1x1024 .f32) (x2 : Vec Ideal S1024x3584 .bf16)
  (x3 : Vec Ideal S4x512x128 .f32)

/-- The attentions' queries, keys and values a grid point stores. -/
theorem body_qkv (hc : ∀ l : Fin 128, x3 (ix3 0 i l) = C (l.val % 32))
    (hs : ∀ l : Fin 128, x3 (ix3 1 i l) = if l.val % 64 < 32 then -S (l.val % 32) else S (l.val % 32)) (n : Fin 3072) :
    out0_4 x0 x1 x2 x3 (ix2 i n) = qkvCol (cols i x0 x1 x2) C S n.val := by
  have hQ (k q b b') (l : Fin 128) := asQ_at i C S x0 x1 x2 x3 k q b b' n.val l
  have hK (k q b b') (l : Fin 128) := asK_at i C S x0 x1 x2 x3 k q b b' n.val l
  have hV (k q b b') (l : Fin 128) := asV_at i C S x0 x1 x2 x3 k q b b' n.val l
  canon_tiles y h
  all_goals
    idx_vars y
    obtain rfl : i = y0 := Fin.ext h0
  case piece0 =>
    replace h1 : n.val = 2944 + y1.val := h1
    exact hV 2560 384 (by decide) slices_S512x512_o0_384_S512x128 y1 (by omega) (by omega)
  case piece1 =>
    replace h1 : n.val = 2816 + y1.val := h1
    exact hV 2560 256 (by decide) slices_S512x512_o0_256_S512x128 y1 (by omega) (by omega)
  case piece2 =>
    replace h1 : n.val = 2688 + y1.val := h1
    exact hV 2560 128 (by decide) slices_S512x512_o0_128_S512x128 y1 (by omega) (by omega)
  case piece3 =>
    replace h1 : n.val = 2560 + y1.val := h1
    exact hV 2560 0 (by decide) slices_S512x512_o0_0_S512x128 y1 (by omega) (by omega)
  case piece4 =>
    replace h1 : n.val = 2432 + y1.val := h1
    exact hK 2048 384 (by decide) slices_S512x512_o0_384_S512x128 y1 (by omega) hc hs (by decide) (by omega)
  case piece5 =>
    replace h1 : n.val = 2304 + y1.val := h1
    exact hK 2048 256 (by decide) slices_S512x512_o0_256_S512x128 y1 (by omega) hc hs (by decide) (by omega)
  case piece6 =>
    replace h1 : n.val = 2176 + y1.val := h1
    exact hK 2048 128 (by decide) slices_S512x512_o0_128_S512x128 y1 (by omega) hc hs (by decide) (by omega)
  case piece7 =>
    replace h1 : n.val = 2048 + y1.val := h1
    exact hK 2048 0 (by decide) slices_S512x512_o0_0_S512x128 y1 (by omega) hc hs (by decide) (by omega)
  case piece8 =>
    replace h1 : n.val = 1920 + y1.val := h1
    exact hQ 1536 384 (by decide) slices_S512x512_o0_384_S512x128 y1 (by omega) hc hs (by decide) (by omega)
  case piece9 =>
    replace h1 : n.val = 1792 + y1.val := h1
    exact hQ 1536 256 (by decide) slices_S512x512_o0_256_S512x128 y1 (by omega) hc hs (by decide) (by omega)
  case piece10 =>
    replace h1 : n.val = 1664 + y1.val := h1
    exact hQ 1536 128 (by decide) slices_S512x512_o0_128_S512x128 y1 (by omega) hc hs (by decide) (by omega)
  case piece11 =>
    replace h1 : n.val = 1536 + y1.val := h1
    exact hQ 1536 0 (by decide) slices_S512x512_o0_0_S512x128 y1 (by omega) hc hs (by decide) (by omega)
  case piece12 =>
    replace h1 : n.val = 1408 + y1.val := h1
    exact hV 1024 384 (by decide) slices_S512x512_o0_384_S512x128 y1 (by omega) (by omega)
  case piece13 =>
    replace h1 : n.val = 1280 + y1.val := h1
    exact hV 1024 256 (by decide) slices_S512x512_o0_256_S512x128 y1 (by omega) (by omega)
  case piece14 =>
    replace h1 : n.val = 1152 + y1.val := h1
    exact hV 1024 128 (by decide) slices_S512x512_o0_128_S512x128 y1 (by omega) (by omega)
  case piece15 =>
    replace h1 : n.val = 1024 + y1.val := h1
    exact hV 1024 0 (by decide) slices_S512x512_o0_0_S512x128 y1 (by omega) (by omega)
  case piece16 =>
    replace h1 : n.val = 896 + y1.val := h1
    exact hK 512 384 (by decide) slices_S512x512_o0_384_S512x128 y1 (by omega) hc hs (by decide) (by omega)
  case piece17 =>
    replace h1 : n.val = 768 + y1.val := h1
    exact hK 512 256 (by decide) slices_S512x512_o0_256_S512x128 y1 (by omega) hc hs (by decide) (by omega)
  case piece18 =>
    replace h1 : n.val = 640 + y1.val := h1
    exact hK 512 128 (by decide) slices_S512x512_o0_128_S512x128 y1 (by omega) hc hs (by decide) (by omega)
  case piece19 =>
    replace h1 : n.val = 512 + y1.val := h1
    exact hK 512 0 (by decide) slices_S512x512_o0_0_S512x128 y1 (by omega) hc hs (by decide) (by omega)
  case piece20 =>
    replace h1 : n.val = 384 + y1.val := h1
    exact hQ 0 384 (by decide) slices_S512x512_o0_384_S512x128 y1 (by omega) hc hs (by decide) (by omega)
  case piece21 =>
    replace h1 : n.val = 256 + y1.val := h1
    exact hQ 0 256 (by decide) slices_S512x512_o0_256_S512x128 y1 (by omega) hc hs (by decide) (by omega)
  case piece22 =>
    replace h1 : n.val = 128 + y1.val := h1
    exact hQ 0 128 (by decide) slices_S512x512_o0_128_S512x128 y1 (by omega) hc hs (by decide) (by omega)
  case piece23 =>
    replace h1 : n.val = y1.val := h1
    exact hQ 0 0 (by decide) slices_S512x512_o0_0_S512x128 y1 (by omega) hc hs (by decide) (by omega)

/-- The index queries and keys a grid point stores. -/
theorem body_idx (hc : ∀ l : Fin 128, x3 (ix3 2 i l) = C (l.val % 16))
    (hs : ∀ l : Fin 128, x3 (ix3 3 i l) = if l.val % 32 < 16 then -S (l.val % 16) else S (l.val % 16)) (n : Fin 384) :
    out0_5 x0 x1 x2 x3 (ix2 i n) = turn 16 (cols i x0 x1 x2) C S (3072 + n.val) := by
  have hI (q b b') (l : Fin 128) := asI_at i C S x0 x1 x2 x3 3072 q b b' (3072 + n.val) l
  canon_tiles y h
  all_goals
    idx_vars y
    obtain rfl : i = y0 := Fin.ext h0
  case piece0 =>
    replace h1 : n.val = 256 + y1.val := h1
    exact hI 256 (by decide) slices_S512x512_o0_256_S512x128 y1 (by omega) hc hs (by decide)
  case piece1 =>
    replace h1 : n.val = 128 + y1.val := h1
    exact hI 128 (by decide) slices_S512x512_o0_128_S512x128 y1 (by omega) hc hs (by decide)
  case piece2 =>
    replace h1 : n.val = y1.val := h1
    exact hI 0 (by decide) slices_S512x512_o0_0_S512x128 y1 (by omega) hc hs (by decide)

/-- The index weights a grid point stores. -/
theorem body_wt (n : Fin 128) :
    out0_6 x0 x1 x2 x3 (ix2 i n) = cols i x0 x1 x2 (3456 + n.val) * Ideal.ofBits .f32 1031798784#32 := by
  canon_tiles y h
  all_goals
    idx_vars y
    obtain rfl : i = y0 := Fin.ext h0
  obtain rfl : n = y1 := Fin.ext h1
  exact congrArg (· * _) (tile_col i x0 x1 x2 x3 3072 384 (by decide) slices_S512x512_o0_384_S512x128 n)

end Bodies

end Cert.ProjEvenIdeal.Value
-- ==== Proof.EvenRef.lean ====
/- The even layer's input projection, read from its reference. -/
module

public import proofs.«01_k».proof.Proof.Gen.ProjEvenRefIdeal.Read
public import proofs.«01_k».proof.Proof.EvenMath

@[expose] public section

set_option maxRecDepth 16384

noncomputable section

open Idealize.ShloMosaic Idealize.ShloMosaic.TcCoe Idealize.SL.Sem

namespace Cert.ProjEvenRefIdeal.Rows

open Cert.ProjEvenRefIdeal Cert.ProjEvenRefIdeal.Gen Cert.ProjEvenRefIdeal.Read Cert.FfnMath

/-- A row's angles' cosines or sines, from a table by position. -/
def angles {K : ℕ} (q : FVec Ideal ⟨2, ![2048, K]⟩ .f32) (r : Fin 32768) (j : ℕ) : EReal :=
  ext (fun j => q (ix2 ⟨r.val % 2048, by omega⟩ j)) j

/-- Eight heads of 64 columns, turned. -/
def rot512 (y : FVec Ideal S32768x512 .f32) (c s : FVec Ideal S2048x32 .f32) : FVec Ideal S32768x512 .f32 :=
  let v := shapeCast S16x2048x8x64 y shapeCasts_S32768x512_S16x2048x8x64
  let a := extractStridedSlice S16x2048x8x32 ![0, 0, 0, 0] v slices_S16x2048x8x64_S16x2048x8x32_0_0_0_0
  let b := extractStridedSlice S16x2048x8x32 ![0, 0, 0, 32] v slices_S16x2048x8x64_S16x2048x8x32_0_0_0_32
  let t (q : FVec Ideal S2048x32 .f32) : FVec Ideal S16x2048x8x32 .f32 :=
    broadcastInDim S16x2048x8x32 ![0, 1, 2, 3] bcast_S1x2048x1x32_S16x2048x8x32_0_1_2_3
      (broadcastInDim S1x2048x1x32 ![1, 2, 3] bcast_S2048x1x32_S1x2048x1x32_1_2_3
        (broadcastInDim S2048x1x32 ![0, 2] bcast_S2048x32_S2048x1x32_0_2 q))
  shapeCast S32768x512 (concatenate S16x2048x8x64 3 [⟨S16x2048x8x32, subf (mulf a (t c)) (mulf b (t s))⟩,
    ⟨S16x2048x8x32, addf (mulf b (t c)) (mulf a (t s))⟩] concatenates_S16x2048x8x32_S16x2048x8x32_S16x2048x8x64_d3)
    shapeCasts_S16x2048x8x64_S32768x512

/-- Its columns are turned columns. -/
theorem rot512_at (y : FVec Ideal S32768x512 .f32) (c s : FVec Ideal S2048x32 .f32) (r : Fin 32768) (o : ℕ) (ho : o % 64 = 0)
    (P : ℕ → EReal) (hy : ∀ n : Fin 512, y (ix2 r n) = P (o + n.val)) (n : Fin 512) :
    rot512 y c s (ix2 r n) = turn 32 P (angles c r) (angles s r) (o + n.val) := by
  have hc (q : FVec Ideal S2048x32 .f32) (j : Fin 32) : q (ix2 ⟨r.val % 2048, by omega⟩ j) = angles q r j.val :=
    (ext_at (fun j => q (ix2 ⟨r.val % 2048, by omega⟩ j)) j).symm
  have hn := n.isLt
  unfold turn
  pointwise [rot512]
  simp only [hy, hc]
  by_cases h : n.val % 64 < 32
  · rw [dif_pos h, if_pos (by omega), mul_neg, ← sub_eq_add_neg]
    congr 3 <;> omega
  · rw [dif_neg h, if_neg (by omega)]
    congr 3 <;> omega

/-- Eight heads of 32 columns, turned. -/
def rot256 (y : FVec Ideal S32768x256 .f32) (c s : FVec Ideal S2048x16 .f32) : FVec Ideal S32768x256 .f32 :=
  let v := shapeCast S16x2048x8x32 y shapeCasts_S32768x256_S16x2048x8x32
  let a := extractStridedSlice S16x2048x8x16 ![0, 0, 0, 0] v slices_S16x2048x8x32_S16x2048x8x16_0_0_0_0
  let b := extractStridedSlice S16x2048x8x16 ![0, 0, 0, 16] v slices_S16x2048x8x32_S16x2048x8x16_0_0_0_16
  let t (q : FVec Ideal S2048x16 .f32) : FVec Ideal S16x2048x8x16 .f32 :=
    broadcastInDim S16x2048x8x16 ![0, 1, 2, 3] bcast_S1x2048x1x16_S16x2048x8x16_0_1_2_3
      (broadcastInDim S1x2048x1x16 ![1, 2, 3] bcast_S2048x1x16_S1x2048x1x16_1_2_3
        (broadcastInDim S2048x1x16 ![0, 2] bcast_S2048x16_S2048x1x16_0_2 q))
  shapeCast S32768x256 (concatenate S16x2048x8x32 3 [⟨S16x2048x8x16, subf (mulf a (t c)) (mulf b (t s))⟩,
    ⟨S16x2048x8x16, addf (mulf b (t c)) (mulf a (t s))⟩] concatenates_S16x2048x8x16_S16x2048x8x16_S16x2048x8x32_d3)
    shapeCasts_S16x2048x8x32_S32768x256

/-- Its columns are turned columns. -/
theorem rot256_at (y : FVec Ideal S32768x256 .f32) (c s : FVec Ideal S2048x16 .f32) (r : Fin 32768) (o : ℕ) (ho : o % 32 = 0)
    (P : ℕ → EReal) (hy : ∀ n : Fin 256, y (ix2 r n) = P (o + n.val)) (n : Fin 256) :
    rot256 y c s (ix2 r n) = turn 16 P (angles c r) (angles s r) (o + n.val) := by
  have hc (q : FVec Ideal S2048x16 .f32) (j : Fin 16) : q (ix2 ⟨r.val % 2048, by omega⟩ j) = angles q r j.val :=
    (ext_at (fun j => q (ix2 ⟨r.val % 2048, by omega⟩ j)) j).symm
  have hn := n.isLt
  unfold turn
  pointwise [rot256]
  simp only [hy, hc]
  by_cases h : n.val % 32 < 16
  · rw [dif_pos h, if_pos (by omega), mul_neg, ← sub_eq_add_neg]
    congr 3 <;> omega
  · rw [dif_neg h, if_neg (by omega)]
    congr 3 <;> omega

/-- One head of 32 columns, turned. -/
def rot32 (y : FVec Ideal S32768x32 .f32) (c s : FVec Ideal S2048x16 .f32) : FVec Ideal S32768x32 .f32 :=
  let v := shapeCast S16x2048x1x32 y shapeCasts_S32768x32_S16x2048x1x32
  let a := extractStridedSlice S16x2048x1x16 ![0, 0, 0, 0] v slices_S16x2048x1x32_S16x2048x1x16_0_0_0_0
  let b := extractStridedSlice S16x2048x1x16 ![0, 0, 0, 16] v slices_S16x2048x1x32_S16x2048x1x16_0_0_0_16
  let t (q : FVec Ideal S2048x16 .f32) : FVec Ideal S16x2048x1x16 .f32 :=
    broadcastInDim S16x2048x1x16 ![0, 1, 2, 3] bcast_S1x2048x1x16_S16x2048x1x16_0_1_2_3
      (broadcastInDim S1x2048x1x16 ![1, 2, 3] bcast_S2048x1x16_S1x2048x1x16_1_2_3
        (broadcastInDim S2048x1x16 ![0, 2] bcast_S2048x16_S2048x1x16_0_2 q))
  shapeCast S32768x32 (concatenate S16x2048x1x32 3 [⟨S16x2048x1x16, subf (mulf a (t c)) (mulf b (t s))⟩,
    ⟨S16x2048x1x16, addf (mulf b (t c)) (mulf a (t s))⟩] concatenates_S16x2048x1x16_S16x2048x1x16_S16x2048x1x32_d3)
    shapeCasts_S16x2048x1x32_S32768x32

/-- Its columns are turned columns. -/
theorem rot32_at (y : FVec Ideal S32768x32 .f32) (c s : FVec Ideal S2048x16 .f32) (r : Fin 32768) (o : ℕ) (ho : o % 32 = 0)
    (P : ℕ → EReal) (hy : ∀ n : Fin 32, y (ix2 r n) = P (o + n.val)) (n : Fin 32) :
    rot32 y c s (ix2 r n) = turn 16 P (angles c r) (angles s r) (o + n.val) := by
  have hc (q : FVec Ideal S2048x16 .f32) (j : Fin 16) : q (ix2 ⟨r.val % 2048, by omega⟩ j) = angles q r j.val :=
    (ext_at (fun j => q (ix2 ⟨r.val % 2048, by omega⟩ j)) j).symm
  have hn := n.isLt
  unfold turn
  pointwise [rot32]
  simp only [hy, hc]
  by_cases h : n.val % 32 < 16
  · rw [dif_pos (by omega), if_pos (by omega), mul_neg, ← sub_eq_add_neg]
    congr 3 <;> omega
  · rw [dif_neg (by omega), if_neg (by omega)]
    congr 3 <;> omega

variable (x : FVec Ideal S32768x1024 .f32) (g : FVec Ideal S6x1024 .f32) (w : FVec Ideal S1024x3368 .f32)
  (i : Fin 32768) (d : Fin 1024) (n : Fin 3368)

/-- The normalized row. -/
theorem norm_in : val_main_v50 (F := Ideal) x g (ix2 i d) = nrm (fun e => x (ix2 i e)) (fun e => g (ix2 2 e)) d := by
  pointwise [val_main_v50, val_main_v49, val_main_v48, val_main_v47, val_main_v46, val_main_v45, val_main_v44,
    val_main_v43, val_main_v42, val_main_v41, val_main_v40, val_main_v39, val_main_v38, val_main_v37, val_main_v36,
    val_main_cst_7, val_main_cst_8, val_main_cst_9]
  rfl

/-- The product columns of a row. -/
abbrev P : ℕ → EReal := colOf (nrm (fun e => x (ix2 i e)) (fun e => g (ix2 2 e))) fun k n => w (ix2 k n)

/-- The product with the weights. -/
theorem prod : val_main_v51 (F := Ideal) x g w (ix2 i n) = P x g w i n.val := by
  refine Eq.trans (b := ∑ k, val_main_v50 (F := Ideal) x g (ix2 i k) * w (ix2 k n)) ?_
    (Eq.trans (Finset.sum_congr rfl fun k _ => by rw [norm_in]) (ext_at (fun n => ∑ k, nrm (fun e => x (ix2 i e)) (fun e => g (ix2 2 e)) k * w (ix2 k n)) n).symm)
  pointwise [val_main_v51]

/-- The cosines and sines of a row's position, for the attentions. -/
abbrev C (i : Fin 32768) : ℕ → EReal := angles (val_main_v16 (F := Ideal)) i

@[inherit_doc C] abbrev S (i : Fin 32768) : ℕ → EReal := angles (val_main_v17 (F := Ideal)) i

/-- The cosines and sines of a row's position, for the index heads. -/
abbrev C' (i : Fin 32768) : ℕ → EReal := angles (val_main_v34 (F := Ideal)) i

@[inherit_doc C'] abbrev S' (i : Fin 32768) : ℕ → EReal := angles (val_main_v35 (F := Ideal)) i

/-- The product with the weights, at the places where the parts begin. -/
theorem prod_at (o : ℕ) (a : ℕ) (h : o + a < 3368) : val_main_v51 (F := Ideal) x g w (ix2 i ⟨o + a, h⟩) = P x g w i (o + a) :=
  prod x g w i ⟨o + a, h⟩

/-- First queries. -/
theorem m81 (n : Fin 512) : val_main_v81 (F := Ideal) x g w (ix2 i n) = turn 32 (P x g w i) (C i) (S i) (0 + n.val) :=
  rot512_at (val_main_v52 (F := Ideal) x g w) _ _ i 0 rfl _ (fun n => by
    refine Eq.trans ?_ (prod_at x g w i 0 n.val (by omega))
    pointwise [val_main_v52]) n

/-- First keys. -/
theorem m102 (n : Fin 512) : val_main_v102 (F := Ideal) x g w (ix2 i n) = turn 32 (P x g w i) (C i) (S i) (512 + n.val) :=
  rot512_at (val_main_v53 (F := Ideal) x g w) _ _ i 512 rfl _ (fun n => by
    refine Eq.trans ?_ (prod_at x g w i 512 n.val (by omega))
    pointwise [val_main_v53]) n

/-- Second queries. -/
theorem m123 (n : Fin 512) : val_main_v123 (F := Ideal) x g w (ix2 i n) = turn 32 (P x g w i) (C i) (S i) (1536 + n.val) :=
  rot512_at (val_main_v55 (F := Ideal) x g w) _ _ i 1536 rfl _ (fun n => by
    refine Eq.trans ?_ (prod_at x g w i 1536 n.val (by omega))
    pointwise [val_main_v55]) n

/-- Second keys. -/
theorem m144 (n : Fin 512) : val_main_v144 (F := Ideal) x g w (ix2 i n) = turn 32 (P x g w i) (C i) (S i) (2048 + n.val) :=
  rot512_at (val_main_v56 (F := Ideal) x g w) _ _ i 2048 rfl _ (fun n => by
    refine Eq.trans ?_ (prod_at x g w i 2048 n.val (by omega))
    pointwise [val_main_v56]) n

/-- Index queries. -/
theorem m165 (n : Fin 256) : val_main_v165 (F := Ideal) x g w (ix2 i n) = turn 16 (P x g w i) (C' i) (S' i) (3072 + n.val) :=
  rot256_at (val_main_v58 (F := Ideal) x g w) _ _ i 3072 rfl _ (fun n => by
    refine Eq.trans ?_ (prod_at x g w i 3072 n.val (by omega))
    pointwise [val_main_v58]) n

/-- The index key. -/
theorem m186 (n : Fin 32) : val_main_v186 (F := Ideal) x g w (ix2 i n) = turn 16 (P x g w i) (C' i) (S' i) (3328 + n.val) :=
  rot32_at (val_main_v59 (F := Ideal) x g w) _ _ i 3328 rfl _ (fun n => by
    refine Eq.trans ?_ (prod_at x g w i 3328 n.val (by omega))
    pointwise [val_main_v59]) n

set_option maxHeartbeats 2000000 in
/-- The attentions' queries, keys and values. -/
theorem qkv (n : Fin 3072) : val_main_v195 (F := Ideal) x g w (ix2 i n) = qkvCol (P x g w i) (C i) (S i) n.val := by
  pointwise [val_main_v195, val_main_v193, val_main_v190, val_main_v189, val_main_v192, val_main_v191, val_main_v54, val_main_v57, val_main_cst_11, val_main_cst_12]
  simp only [m81, m102, m123, m144, prod]
  have hn := n.isLt
  unfold qkvCol
  generalize P x g w i = p
  generalize C i = c
  generalize S i = s
  split_ifs <;> first
    | (exfalso; omega)
    | exact congrArg (turn 32 p c s · * _) (by omega)
    | exact congrArg (turn 32 p c s) (by omega)
    | exact congrArg p (by omega)

/-- The index queries and keys. -/
theorem index (n : Fin 384) : val_main_v196 (F := Ideal) x g w (ix2 i n) = idxCol (P x g w i) (C' i) (S' i) n.val := by
  pointwise [val_main_v196, val_main_v194]
  simp only [m165, m186]
  have hn := n.isLt
  unfold idxCol
  split_ifs <;> first
    | (exfalso; omega)
    | exact congrArg (turn 16 (P x g w i) (C' i) (S' i)) (by omega)

/-- The index weights. -/
theorem weight (n : Fin 128) : val_main_v197 (F := Ideal) x g w (ix2 i n) = wtCol (P x g w i) n.val := by
  pointwise [val_main_v197, val_main_v188, val_main_v187, val_main_v60, val_main_cst_10, val_main_call0_v0, val_main_c]
  unfold wtCol
  split_ifs
  · rw [prod]
  · simp [FloatOps.sitofp]

end Cert.ProjEvenRefIdeal.Rows
-- ==== Proof.EvenTable.lean ====
/- What the even layer's input projection reads beside its rows: the gain, the weights as laid out, and the angle tables. -/
module

public import proofs.«01_k».proof.Proof.EvenBody
public import proofs.«01_k».proof.Proof.EvenRef
public import Idealize.ShloMosaic.Lib.StableHlo.RunRead

@[expose] public section

set_option maxRecDepth 16384

noncomputable section

open Idealize.ShloMosaic Idealize.ShloMosaic.TcCoe Idealize.SL.Sem

namespace Cert.ProjEvenIdeal.Value

open Cert.ProjEvenIdeal Cert.ProjEvenIdeal.Gen Cert.FfnMath

variable (m : (ℓ : Loc nD τ sig) → Buf (Elt Ideal) ℓ)

/-- The gain is row 2 of the gains. -/
theorem gain (c : Dev nD) (e : Fin 1024) :
    (V m c main_v0 : FVec Ideal S1x1024 .f32) (ix2 0 e) = (m ((c : Thread nD τ).loc main_arg1) : FVec Ideal S6x1024 .f32) (ix2 2 e) := by
  after_reads_simp
  pointwise []

/-- The weights as the host lays them out. -/
def laid (w : FVec Ideal S1024x3368 .f32) : FVec Ideal S1024x3584 .bf16 :=
  truncf .bf16 (concatenate S1024x3584 1 [⟨S1024x3072, extractStridedSlice S1024x3072 ![0, 0] w slices_S1024x3368_S1024x3072_0_0⟩,
    ⟨S1024x256, extractStridedSlice S1024x256 ![0, 3072] w slices_S1024x3368_S1024x256_0_3072⟩,
    ⟨S1024x128, shapeCast S1024x128 (broadcastInDim S1x1024x4x32 ![0, 1, 2, 3] bcast_S1x1024x1x32_S1x1024x4x32_0_1_2_3
      (shapeCast S1x1024x1x32 (extractStridedSlice S1024x32 ![0, 3328] w slices_S1024x3368_S1024x32_0_3328)
        shapeCasts_S1024x32_S1x1024x1x32)) shapeCasts_S1x1024x4x32_S1024x128⟩,
    ⟨S1024x8, extractStridedSlice S1024x8 ![0, 3360] w slices_S1024x3368_S1024x8_0_3360⟩,
    ⟨S1024x120, broadcastInDim S1024x120 ![] bcast_S_S1024x120 (constant (F := Ideal) S_ .f32 0x00000000#32)⟩]
    concatenates_S1024x3072_S1024x256_S1024x128_S1024x8_S1024x120_S1024x3584_d1) bitsLt_bf16_f32

/-- A laid out weight. -/
theorem laid_at (w : FVec Ideal S1024x3368 .f32) (k : Fin 1024) (n : Fin 3584) :
    laid w (ix2 k n) = relaid (fun k n => w (ix2 k n)) k n := by
  pointwise [laid]
  exact relaid_eq (fun k n => w (ix2 k n)) k n

/-- The weights when the kernel starts. -/
theorem weights_entry (c : Dev nD) : (V m c main_v10 : FVec Ideal S1024x3584 .bf16) = laid (m ((c : Thread nD τ).loc main_arg2)) := by
  after_reads_simp
  rfl

/-- The weights, laid out. -/
theorem weights (c : Dev nD) (k : Fin 1024) (n : Fin 3584) : (V m c main_v10 : FVec Ideal S1024x3584 .bf16) (ix2 k n)
    = relaid (fun k n => (m ((c : Thread nD τ).loc main_arg2) : FVec Ideal S1024x3368 .f32) (ix2 k n)) k n :=
  (congrFun (weights_entry m c) (ix2 k n)).trans (laid_at _ k n)

/-- Two half-head tables side by side, repeated along the lanes. -/
def wide64 (a b : FVec Ideal S2048x32 .f32) : FVec Ideal S1x2048x128 .f32 :=
  broadcastInDim S1x2048x128 ![1, 2] bcast_S2048x128_S1x2048x128_1_2 (shapeCast S2048x128
    (broadcastInDim S1x2048x2x64 ![0, 1, 2, 3] bcast_S1x2048x1x64_S1x2048x2x64_0_1_2_3
      (shapeCast S1x2048x1x64 (concatenate S2048x64 1 [⟨S2048x32, a⟩, ⟨S2048x32, b⟩] concatenates_S2048x32_S2048x32_S2048x64_d1)
        shapeCasts_S2048x64_S1x2048x1x64)) shapeCasts_S1x2048x2x64_S2048x128)

/-- Its lanes: each head's first half from the first table, its second half from the second. -/
theorem wide64_at (a b : FVec Ideal S2048x32 .f32) (s : Fin 2048) (l : Fin 128) : wide64 a b (ix3 0 s l)
    = if l.val % 64 < 32 then a (ix2 s ⟨l.val % 32, by omega⟩) else b (ix2 s ⟨l.val % 32, by omega⟩) := by
  pointwise [wide64]
  split
  · rename_i h
    rw [show (⟨l.val % 64, by omega⟩ : Fin 32) = ⟨l.val % 32, by omega⟩ from Fin.ext (show l.val % 64 = l.val % 32 by omega)]
  · rename_i h
    rw [show (⟨l.val % 64 - 32, by omega⟩ : Fin 32) = ⟨l.val % 32, by omega⟩ from Fin.ext (show l.val % 64 - 32 = l.val % 32 by omega)]

/-- Two half-head tables side by side, repeated along the lanes. -/
def wide32 (a b : FVec Ideal S2048x16 .f32) : FVec Ideal S1x2048x128 .f32 :=
  broadcastInDim S1x2048x128 ![1, 2] bcast_S2048x128_S1x2048x128_1_2 (shapeCast S2048x128
    (broadcastInDim S1x2048x4x32 ![0, 1, 2, 3] bcast_S1x2048x1x32_S1x2048x4x32_0_1_2_3
      (shapeCast S1x2048x1x32 (concatenate S2048x32 1 [⟨S2048x16, a⟩, ⟨S2048x16, b⟩] concatenates_S2048x16_S2048x16_S2048x32_d1)
        shapeCasts_S2048x32_S1x2048x1x32)) shapeCasts_S1x2048x4x32_S2048x128)

/-- Its lanes: each head's first half from the first table, its second half from the second. -/
theorem wide32_at (a b : FVec Ideal S2048x16 .f32) (s : Fin 2048) (l : Fin 128) : wide32 a b (ix3 0 s l)
    = if l.val % 32 < 16 then a (ix2 s ⟨l.val % 16, by omega⟩) else b (ix2 s ⟨l.val % 16, by omega⟩) := by
  pointwise [wide32]
  split
  · rename_i h
    rw [show (⟨l.val % 32, by omega⟩ : Fin 16) = ⟨l.val % 16, by omega⟩ from Fin.ext (show l.val % 32 = l.val % 16 by omega)]
  · rename_i h
    rw [show (⟨l.val % 32 - 16, by omega⟩ : Fin 16) = ⟨l.val % 16, by omega⟩ from Fin.ext (show l.val % 32 - 16 = l.val % 16 by omega)]

open Cert.ProjEvenRefIdeal.Read in
/-- The four tables: cosines and signed sines for the attentions, then for the index heads. -/
def table : FVec Ideal S4x2048x128 .f32 :=
  concatenate S4x2048x128 0 [⟨S1x2048x128, wide64 (val_main_v16 (F := Ideal)) (val_main_v16 (F := Ideal))⟩,
    ⟨S1x2048x128, wide64 (Host.negf (F := Ideal) (φ := .f32) (val_main_v17 (F := Ideal))) (val_main_v17 (F := Ideal))⟩,
    ⟨S1x2048x128, wide32 (val_main_v34 (F := Ideal)) (val_main_v34 (F := Ideal))⟩,
    ⟨S1x2048x128, wide32 (Host.negf (F := Ideal) (φ := .f32) (val_main_v35 (F := Ideal))) (val_main_v35 (F := Ideal))⟩]
    concatenates_S1x2048x128_S1x2048x128_S1x2048x128_S1x2048x128_S4x2048x128_d0

set_option maxHeartbeats 1000000 in
/-- The tables when the kernel starts. -/
theorem table_entry (c : Dev nD) : (V m c main_v69 : FVec Ideal S4x2048x128 .f32) = table := by
  after_reads_simp
  rfl

open Cert.ProjEvenRefIdeal.Read in
/-- The tables, read. -/
theorem table_at (s : Fin 2048) (l : Fin 128) :
    table (ix3 0 s l) = val_main_v16 (F := Ideal) (ix2 s ⟨l.val % 32, by omega⟩)
    ∧ table (ix3 1 s l) = (if l.val % 64 < 32 then -(val_main_v17 (F := Ideal) (ix2 s ⟨l.val % 32, by omega⟩) : EReal)
        else val_main_v17 (F := Ideal) (ix2 s ⟨l.val % 32, by omega⟩))
    ∧ table (ix3 2 s l) = val_main_v34 (F := Ideal) (ix2 s ⟨l.val % 16, by omega⟩)
    ∧ table (ix3 3 s l) = (if l.val % 32 < 16 then -(val_main_v35 (F := Ideal) (ix2 s ⟨l.val % 16, by omega⟩) : EReal)
        else val_main_v35 (F := Ideal) (ix2 s ⟨l.val % 16, by omega⟩)) := by
  have h0 : table (ix3 0 s l) = wide64 (val_main_v16 (F := Ideal)) (val_main_v16 (F := Ideal)) (ix3 0 s l) := by pointwise [table]
  have h1 : table (ix3 1 s l) = wide64 (Host.negf (F := Ideal) (φ := .f32) (val_main_v17 (F := Ideal))) (val_main_v17 (F := Ideal)) (ix3 0 s l) := by
    pointwise [table]
  have h2 : table (ix3 2 s l) = wide32 (val_main_v34 (F := Ideal)) (val_main_v34 (F := Ideal)) (ix3 0 s l) := by pointwise [table]
  have h3 : table (ix3 3 s l) = wide32 (Host.negf (F := Ideal) (φ := .f32) (val_main_v35 (F := Ideal))) (val_main_v35 (F := Ideal)) (ix3 0 s l) := by
    pointwise [table]
  refine ⟨h0.trans ((wide64_at _ _ s l).trans (ite_self _)), h1.trans ((wide64_at _ _ s l).trans ?_),
    h2.trans ((wide32_at _ _ s l).trans (ite_self _)), h3.trans ((wide32_at _ _ s l).trans ?_)⟩
  · rfl
  · rfl

end Cert.ProjEvenIdeal.Value
-- ==== Proof.EvenValue.lean ====
/- What the even layer's input projection leaves in its three result arrays. -/
module

public import proofs.«01_k».proof.Proof.EvenTable
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjEvenIdeal.Value

open Cert.ProjEvenIdeal Cert.ProjEvenIdeal.Gen Cert.FfnMath
open Cert.ProjEvenRefIdeal.Rows (angles)
open Cert.ProjEvenRefIdeal.Read (val_main_v16 val_main_v17 val_main_v34 val_main_v35)

variable (m : (ℓ : Loc nD τ sig) → Buf (Elt Ideal) ℓ)

/-- The index maps of the windows: row blocks move with the grid, the tables with the place in a sequence. -/
theorem idx : ∀ t : Fin cfg0.N, win0_0.index t = ![t.val, 0] ∧ win0_1.index t = ![0, 0] ∧ win0_2.index t = ![0, 0]
    ∧ win0_3.index t = ![0, t.val % 4, 0] ∧ win0_4.index t = ![t.val, 0] ∧ win0_5.index t = ![t.val, 0]
    ∧ win0_6.index t = ![t.val, 0] :=
  (by decide +kernel : ∀ t : Fin grid0.N, _)

/-- The three results of the reference over the kernel's arguments. -/
abbrev want4 (c : Dev nD) : FVec Ideal S32768x3072 .bf16 :=
  Cert.ProjEvenRefIdeal.Read.val_main_v195 (F := Ideal) (m ((c : Thread nD τ).loc main_arg0)) (m ((c : Thread nD τ).loc main_arg1))
    (m ((c : Thread nD τ).loc main_arg2))

@[inherit_doc want4] abbrev want5 (c : Dev nD) : FVec Ideal S32768x384 .bf16 :=
  Cert.ProjEvenRefIdeal.Read.val_main_v196 (F := Ideal) (m ((c : Thread nD τ).loc main_arg0)) (m ((c : Thread nD τ).loc main_arg1))
    (m ((c : Thread nD τ).loc main_arg2))

@[inherit_doc want4] abbrev want6 (c : Dev nD) : FVec Ideal S32768x128 .f32 :=
  Cert.ProjEvenRefIdeal.Read.val_main_v197 (F := Ideal) (m ((c : Thread nD τ).loc main_arg0)) (m ((c : Thread nD τ).loc main_arg1))
    (m ((c : Thread nD τ).loc main_arg2))

variable (c : Dev nD) (t : Fin cfg0.N) (i : Fin 512)

/-- The row of all rows that a block's row is. -/
abbrev at_ (t : Fin cfg0.N) (i : Fin 512) : Fin 32768 := ⟨t.val * 512 + i.val, by have : t.val < 64 := t.isLt; omega⟩

/-- A block row. -/
theorem row_at (e : Fin 1024) : iblk m c 0 t (ix2 i e)
    = (m ((c : Thread nD τ).loc main_arg0) : FVec Ideal S32768x1024 .f32) (ix2 (at_ t i) e) := by
  have hN : t.val < 64 := t.isLt
  blk_ext [iblk, V, idx t]

/-- The gain, whole at each grid point. -/
theorem gain_at (e : Fin 1024) : iblk m c 1 t (ix2 0 e) = (V m c main_v0 : FVec Ideal S1x1024 .f32) (ix2 0 e) := by
  blk_ext [iblk, idx t]

/-- The weights, whole at each grid point. -/
theorem weights_at (k : Fin 1024) (n : Fin 3584) :
    iblk m c 2 t (ix2 k n) = (V m c main_v10 : FVec Ideal S1024x3584 .bf16) (ix2 k n) := by
  blk_ext [iblk, idx t]

/-- The product columns at a grid point. -/
theorem cols_at : cols i (iblk m c 0 t) (iblk m c 1 t) (iblk m c 2 t)
    = colOf (nrm (fun e => (m ((c : Thread nD τ).loc main_arg0) : FVec Ideal S32768x1024 .f32) (ix2 (at_ t i) e))
        (fun e => (m ((c : Thread nD τ).loc main_arg1) : FVec Ideal S6x1024 .f32) (ix2 2 e)))
      (relaid fun k n => (m ((c : Thread nD τ).loc main_arg2) : FVec Ideal S1024x3368 .f32) (ix2 k n)) := by
  have h0 := funext (row_at m c t i)
  have h1 := funext fun e => (gain_at m c t e).trans (gain m c e)
  have h2 := funext fun k => funext fun n => (weights_at m c t k n).trans (weights m c k n)
  exact congrArg₂ colOf (congrArg₂ nrm h0 h1) h2

/-- The tables at a grid point: those of the block's positions. -/
theorem tabs_at (a : Fin 4) (l : Fin 128) : iblk m c 3 t (ix3 a i l) = table (ix3 a ⟨(at_ t i).val % 2048, by omega⟩ l) := by
  have hN : t.val < 64 := t.isLt
  have h : iblk m c 3 t (ix3 a i l) = (V m c main_v69 : FVec Ideal S4x2048x128 .f32) (ix3 a ⟨t.val % 4 * 512 + i.val, by omega⟩ l) := by
    blk_ext [iblk, idx t]
  rw [h, table_entry]
  exact congrArg (fun s => table (ix3 a s l)) (Fin.ext (show t.val % 4 * 512 + i.val = (t.val * 512 + i.val) % 2048 by omega))

/-- An angle by its place. -/
theorem ang {K : ℕ} (q : FVec Ideal ⟨2, ![2048, K]⟩ .f32) (r : Fin 32768) (j : Fin K) :
    q (ix2 ⟨r.val % 2048, by omega⟩ j) = angles q r j.val :=
  (ext_at (fun j => q (ix2 ⟨r.val % 2048, by omega⟩ j)) j).symm

/-- What a grid point stores of the attentions' columns. -/
theorem point4 (y) : out0_4 (iblk m c 0 t) (iblk m c 1 t) (iblk m c 2 t) (iblk m c 3 t) y = want4 m c (((cfg0.win 4).blk t).view.emb y) := by
  idx_vars y
  have hz : want4 m c (((cfg0.win 4).blk t).view.emb (ix2 y0 y1)) = want4 m c (ix2 (at_ t y0) y1) := by
    blk_ext [idx t]
  refine Eq.trans (body_qkv y0 (angles (K := 32) (val_main_v16 (F := Ideal)) (at_ t y0)) (angles (K := 32) (val_main_v17 (F := Ideal)) (at_ t y0)) _ _ _ _
    (fun l => ?_) (fun l => ?_) y1) (Eq.trans ?_ (hz.trans (Cert.ProjEvenRefIdeal.Rows.qkv _ _ _ _ _)).symm)
  · exact (tabs_at m c t y0 0 l).trans ((table_at _ l).1.trans (ang _ _ _))
  · refine (tabs_at m c t y0 1 l).trans ((table_at _ l).2.1.trans ?_)
    rw [ang (val_main_v17 (F := Ideal)) (at_ t y0)]
  · rw [cols_at]
    exact qkv_relaid _ _ _ _ _ y1.isLt

/-- What a grid point stores of the index columns. -/
theorem point5 (y) : out0_5 (iblk m c 0 t) (iblk m c 1 t) (iblk m c 2 t) (iblk m c 3 t) y = want5 m c (((cfg0.win 5).blk t).view.emb y) := by
  idx_vars y
  have hz : want5 m c (((cfg0.win 5).blk t).view.emb (ix2 y0 y1)) = want5 m c (ix2 (at_ t y0) y1) := by
    blk_ext [idx t]
  refine Eq.trans (body_idx y0 (angles (K := 16) (val_main_v34 (F := Ideal)) (at_ t y0)) (angles (K := 16) (val_main_v35 (F := Ideal)) (at_ t y0)) _ _ _ _
    (fun l => ?_) (fun l => ?_) y1) (Eq.trans ?_ (hz.trans (Cert.ProjEvenRefIdeal.Rows.index _ _ _ _ _)).symm)
  · exact (tabs_at m c t y0 2 l).trans ((table_at _ l).2.2.1.trans (ang _ _ _))
  · refine (tabs_at m c t y0 3 l).trans ((table_at _ l).2.2.2.trans ?_)
    rw [ang (val_main_v35 (F := Ideal)) (at_ t y0)]
  · rw [cols_at]
    exact idx_relaid _ _ _ _ _ y1.isLt

/-- What a grid point stores of the index weights. -/
theorem point6 (y) : out0_6 (iblk m c 0 t) (iblk m c 1 t) (iblk m c 2 t) (iblk m c 3 t) y = want6 m c (((cfg0.win 6).blk t).view.emb y) := by
  idx_vars y
  have hz : want6 m c (((cfg0.win 6).blk t).view.emb (ix2 y0 y1)) = want6 m c (ix2 (at_ t y0) y1) := by
    blk_ext [idx t]
  refine Eq.trans (body_wt y0 _ _ _ _ y1) (Eq.trans ?_ (hz.trans (Cert.ProjEvenRefIdeal.Rows.weight _ _ _ _ _)).symm)
  rw [cols_at]
  exact wt_relaid _ _ _ y1.isLt

/-- The attentions' columns after the run. -/
theorem final4 : (dats m 0 c).arrAt 4 (cfgs 0).N = want4 m c := by
  refine (dats m 0 c).arrAt_eq_of_covers 4 _ (by decide +kernel) fun t _ y => ?_
  blk_simp
  rw [after0_4]
  exact point4 m c t y

/-- The index columns after the run. -/
theorem final5 : (dats m 0 c).arrAt 5 (cfgs 0).N = want5 m c := by
  refine (dats m 0 c).arrAt_eq_of_covers 5 _ (by decide +kernel) fun t _ y => ?_
  blk_simp
  rw [after0_5]
  exact point5 m c t y

/-- The index weights after the run. -/
theorem final6 : (dats m 0 c).arrAt 6 (cfgs 0).N = want6 m c := by
  refine (dats m 0 c).arrAt_eq_of_covers 6 _ (by decide +kernel) fun t _ y => ?_
  blk_simp
  rw [after0_6]
  exact point6 m c t y

end Cert.ProjEvenIdeal.Value
-- ==== Proof.Pairs.lean ====
/- The claims about the feed-forward calls and the projection calls: kernel and reference end with equal results. -/
module

public import proofs.«01_k».proof.Defs
public import proofs.«01_k».proof.Proof.FfnValue
public import proofs.«01_k».proof.Proof.FfnOddValue
public import proofs.«01_k».proof.Proof.FfnEvenValue
public import proofs.«01_k».proof.Proof.ProjOddValue
public import proofs.«01_k».proof.Proof.EvenValue
public import proofs.«01_k».proof.Proof.Gen.FfnRefIdeal.Run
public import proofs.«01_k».proof.Proof.Gen.FfnOddRefIdeal.Run
public import proofs.«01_k».proof.Proof.Gen.FfnEvenRefIdeal.Run
public import proofs.«01_k».proof.Proof.Gen.ProjOddRefIdeal.Run
public import proofs.«01_k».proof.Proof.Gen.ProjEvenRefIdeal.Run
public import Idealize.ShloMosaic.Lib.Claim

@[expose] public section

set_option maxRecDepth 16384

noncomputable section

open Idealize.ShloMosaic Idealize.ShloMosaic.TcCoe Idealize.SL.Sem

namespace Cert.Pairs

/-- The feed-forward call with nothing mixed in: the kernel's result is the reference's. -/
theorem ffn : Cert.algebraic_FfnIdeal_FfnRefIdeal (hFfnIdeal := Cert.FfnIdeal.Gen.facts)
    (hFfnRefIdeal := Cert.FfnRefIdeal.Gen.facts) := by
  pair_intro
  · run_from Cert.FfnIdeal.Gen.run_main m g
  · have hr := Cert.FfnRefIdeal.Value.run (F := Ideal) m' g'
    simp only [Cert.FfnRefIdeal.Read.val_main_v37_eq] at hr
    run_from hr
    exact (Cert.FfnIdeal.Value.final m c).symm

/-- The feed-forward call after the band attention: the kernel's result is the reference's. -/
theorem ffnOdd : Cert.algebraic_FfnOddIdeal_FfnOddRefIdeal (hFfnOddIdeal := Cert.FfnOddIdeal.Gen.facts)
    (hFfnOddRefIdeal := Cert.FfnOddRefIdeal.Gen.facts) := by
  pair_intro
  · run_from Cert.FfnOddIdeal.Gen.run_main m g
  · have hr := Cert.FfnOddRefIdeal.Value.run (F := Ideal) m' g'
    simp only [Cert.FfnOddRefIdeal.Read.val_main_v55_eq] at hr
    run_from hr
    exact (Cert.FfnOddIdeal.Value.final m c).symm

/-- The feed-forward call after the two even-layer attentions: the kernel's result is the reference's. -/
theorem ffnEven : Cert.algebraic_FfnEvenIdeal_FfnEvenRefIdeal (hFfnEvenIdeal := Cert.FfnEvenIdeal.Gen.facts)
    (hFfnEvenRefIdeal := Cert.FfnEvenRefIdeal.Gen.facts) := by
  pair_intro
  · run_from Cert.FfnEvenIdeal.Gen.run_main m g
  · have hr := Cert.FfnEvenRefIdeal.Value.run (F := Ideal) m' g'
    simp only [Cert.FfnEvenRefIdeal.Read.val_main_v56_eq] at hr
    run_from hr
    exact (Cert.FfnEvenIdeal.Value.final m c).symm

open Cert.ProjOddRefIdeal in
/-- The projection's reference ends with the value its own lines name. -/
theorem projOdd_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v22) = Read.val_main_v22 (F := Ideal) (m ((c.tc : Thread nD τ).loc main_arg0))
        (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  θ_run_mono (Value.run (F := Ideal) m ρ) fun _ h c => ⟨(h c).1.trans (Read.val_main_v22_eq _ _ _), (h c).2⟩

/-- The odd layer's input projection: the kernel's result is the reference's. -/
theorem projOdd : Cert.algebraic_ProjOddIdeal_ProjOddRefIdeal (hProjOddIdeal := Cert.ProjOddIdeal.Gen.facts)
    (hProjOddRefIdeal := Cert.ProjOddRefIdeal.Gen.facts) := by
  pair_intro
  · run_from Cert.ProjOddIdeal.Gen.run_main m g
  · run_from projOdd_run m' g'
    exact (Cert.ProjOddIdeal.Value.final m c).symm

open Cert.ProjEvenRefIdeal in
/-- The even projection's reference ends with the three values its own lines name. -/
theorem projEven_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v195) = Read.val_main_v195 (F := Ideal) (m ((c.tc : Thread nD τ).loc main_arg0))
        (m ((c.tc : Thread nD τ).loc main_arg1)) (m ((c.tc : Thread nD τ).loc main_arg2))
      ∧ r.2.mem ((c.tc : Thread nD τ).loc main_v196) = Read.val_main_v196 (F := Ideal) (m ((c.tc : Thread nD τ).loc main_arg0))
        (m ((c.tc : Thread nD τ).loc main_arg1)) (m ((c.tc : Thread nD τ).loc main_arg2))
      ∧ r.2.mem ((c.tc : Thread nD τ).loc main_v197) = Read.val_main_v197 (F := Ideal) (m ((c.tc : Thread nD τ).loc main_arg0))
        (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  θ_run_mono (Value.run (F := Ideal) m ρ) fun _ h c => ⟨(h c).1.trans (Read.val_main_v195_eq _),
    (h c).2.1.trans (Read.val_main_v196_eq _), (h c).2.2.1.trans (Read.val_main_v197_eq _), (h c).2.2.2⟩

set_option maxHeartbeats 2000000 in
/-- The even layer's input projection: the kernel's three results are the reference's. -/
theorem projEven : Cert.algebraic_ProjEvenIdeal_ProjEvenRefIdeal (hProjEvenIdeal := Cert.ProjEvenIdeal.Gen.facts)
    (hProjEvenRefIdeal := Cert.ProjEvenRefIdeal.Gen.facts) := by
  pair_intro
  · run_from Cert.ProjEvenIdeal.Gen.run_main m g
  · run_from projEven_run m' g'
    · exact (Cert.ProjEvenIdeal.Value.final4 m c).symm
    · exact (Cert.ProjEvenIdeal.Value.final5 m c).symm
    · exact (Cert.ProjEvenIdeal.Value.final6 m c).symm

end Cert.Pairs
-- ==== Proof.BandMath.lean ====
/- The band attention's row arithmetic, over the extended reals: a softmax over all keys whose scores are minus infinity
   outside a window equals the quotient of two sums over the window. -/
module

public import Idealize.ShloMosaic.Lib.Pipeline.ValueKit
public import Idealize.ShloMosaic.Lib.Pointwise

@[expose] public section

noncomputable section

open Idealize.ShloMosaic

namespace Cert.BandMath

/-- The literal minus infinity is the least extended real. -/
theorem negInf : Ideal.ofBits .f32 4286578688#32 = ⊥ := by simp [Ideal.ofBits, Ideal.ieee]

/-- The largest of finitely many values. -/
def top {n : ℕ} (s : Fin n → EReal) : EReal := Finset.univ.sup s

/-- A running maximum started at minus infinity is the largest value. -/
theorem fold_top {n : ℕ} (s : Fin n → EReal) :
    Finset.fold max (Ideal.ofBits .f32 4286578688#32) s Finset.univ = top s := by
  rw [negInf]; rfl

/-- Each value is at most the largest. -/
theorem le_top {n : ℕ} (s : Fin n → EReal) (j : Fin n) : s j ≤ top s := Finset.le_sup (f := s) (Finset.mem_univ j)

/-- The largest value is at most any bound of all of them. -/
theorem top_le {n : ℕ} {s : Fin n → EReal} {x : EReal} (h : ∀ j, s j ≤ x) : top s ≤ x := Finset.sup_le fun j _ => h j

/-- Softmax of the scores `s` against the values `v`: every weight divided by the sum of the weights. -/
def soft {n : ℕ} (s v : Fin n → EReal) : EReal :=
  ∑ j, v j * Ideal.div (Ideal.exp (s j - top s)) (∑ k, Ideal.exp (s k - top s))

/-- The same with one division at the end. -/
def quot {n : ℕ} (s v : Fin n → EReal) : EReal :=
  Ideal.div (∑ j, Ideal.exp (s j - top s) * v j) (∑ j, Ideal.exp (s j - top s))

/-- The exponential of minus infinity less anything is zero. -/
theorem exp_bot (x : EReal) : Ideal.exp (⊥ - x) = 0 := by rw [EReal.bot_sub]; rfl

/-- A nonnegative real factor distributes over a sum. -/
theorem sum_mul_coe {n : ℕ} (f : Fin n → EReal) {c : ℝ} (hc : 0 ≤ c) : (∑ j, f j) * (c : EReal) = ∑ j, f j * (c : EReal) := by
  induction n with
  | zero => simp
  | succ n ih =>
    rw [Fin.sum_univ_succ, Fin.sum_univ_succ,
      EReal.right_distrib_of_nonneg_of_ne_top (by exact_mod_cast hc) (EReal.coe_ne_top c), ih]

/-- A sum of reals, as an extended real, is the sum of the extended reals. -/
theorem coe_sum {n : ℕ} (p : Fin n → ℝ) : ((∑ j, p j : ℝ) : EReal) = ∑ j, (p j : EReal) := by
  induction n with
  | zero => simp
  | succ n ih => rw [Fin.sum_univ_succ, Fin.sum_univ_succ, EReal.coe_add, ih]

/-- Where no score is plus infinity and one is finite, dividing each weight or the whole sum is the same. -/
theorem soft_eq_quot {n : ℕ} (s v : Fin n → EReal) (h1 : ∀ j, s j ≠ ⊤) (h2 : ∃ j, s j ≠ ⊥) : soft s v = quot s v := by
  obtain ⟨j0, hj0⟩ := h2
  have hle (j) : s j ≤ top s := Finset.le_sup (f := s) (Finset.mem_univ j)
  have hb : top s ≠ ⊥ := fun h => hj0 (le_bot_iff.1 (h ▸ hle j0))
  have ht : top s ≠ ⊤ := by
    have : top s < ⊤ := (Finset.sup_lt_iff (by exact bot_lt_top)).2 fun j _ => lt_top_iff_ne_top.2 (h1 j)
    exact this.ne
  obtain ⟨M, hM⟩ : ∃ M : ℝ, top s = M := ⟨(top s).toReal, (EReal.coe_toReal ht hb).symm⟩
  have hp (j) : ∃ p : ℝ, 0 ≤ p ∧ Ideal.exp (s j - top s) = p ∧ (s j ≠ ⊥ → 0 < p) := by
    by_cases hj : s j = ⊥
    · exact ⟨0, le_rfl, by rw [hj, exp_bot]; rfl, fun h => absurd hj h⟩
    · obtain ⟨x, hx⟩ : ∃ x : ℝ, s j = x := ⟨(s j).toReal, (EReal.coe_toReal (h1 j) hj).symm⟩
      refine ⟨Real.exp (x - M), (Real.exp_pos _).le, ?_, fun _ => Real.exp_pos _⟩
      rw [hx, hM, ← EReal.coe_sub]; rfl
  choose p hp0 hpe hpp using hp
  have hL : (∑ j, Ideal.exp (s j - top s)) = ((∑ j, p j : ℝ) : EReal) := by
    rw [coe_sum]; exact Finset.sum_congr rfl fun j _ => hpe j
  have hpos : 0 < ∑ j, p j := Finset.sum_pos' (fun j _ => hp0 j) ⟨j0, Finset.mem_univ _, hpp j0 hj0⟩
  unfold soft quot
  rw [hL, Ideal.div_coe hpos.ne', sum_mul_coe _ (by positivity)]
  refine Finset.sum_congr rfl fun j _ => ?_
  rw [Ideal.div_coe hpos.ne', ← mul_assoc, mul_comm (v j)]

/-- Key `k` of block `J` of 256 keys. -/
def key (J : Fin 8) (k : Fin 256) : Fin 2048 := ⟨J.val * 256 + k.val, by omega⟩

/-- A sum over all keys, block by block. -/
theorem sum_key (f : Fin 2048 → EReal) : ∑ j, f j = ∑ J, ∑ k, f (key J k) := Fin.sum_univ_tiles 8 256 rfl f

/-- The largest over all keys, block by block. -/
theorem top_key (s : Fin 2048 → EReal) : top s = top fun J : Fin 8 => top fun k : Fin 256 => s (key J k) := by
  refine le_antisymm (top_le fun j => ?_) (top_le fun J => top_le fun k => le_top s (key J k))
  have hj := j.isLt
  obtain ⟨J, k, e⟩ : ∃ J k, j = key J k := ⟨⟨j.val / 256, by omega⟩, ⟨j.val % 256, by omega⟩,
    Fin.ext (show j.val = j.val / 256 * 256 + j.val % 256 by omega)⟩
  rw [e]
  exact le_trans (le_top (fun k => s (key J k)) k) (le_top (fun J : Fin 8 => top fun k : Fin 256 => s (key J k)) J)

/-- Whether block `J` is one of the three blocks that end with block `i`. -/
abbrev near (i J : Fin 8) : Prop := J.val ≤ i.val ∧ i.val ≤ J.val + 2

/-- Where the terms of all other blocks are zero, a sum over the blocks has three terms, fewer near the start. -/
theorem sum_near (i : Fin 8) (T : Fin 8 → EReal) (h : ∀ J, ¬ near i J → T J = 0) :
    ∑ J, T J = (if g : 2 ≤ i.val then T ⟨i.val - 2, by omega⟩ else 0)
      + (if g : 1 ≤ i.val then T ⟨i.val - 1, by omega⟩ else 0) + T i := by
  have h' (J) : T J = if near i J then T J else 0 := by
    split
    · rfl
    · exact h J ‹_›
  rw [Finset.sum_congr rfl fun J _ => h' J, Fin.sum_univ_eight]
  fin_cases i <;> simp [near, add_assoc]

/-- The same for the largest of the blocks. -/
theorem top_near (i : Fin 8) (T : Fin 8 → EReal) (h : ∀ J, ¬ near i J → T J = ⊥) :
    top T = max (max (if g : 2 ≤ i.val then T ⟨i.val - 2, by omega⟩ else ⊥)
      (if g : 1 ≤ i.val then T ⟨i.val - 1, by omega⟩ else ⊥)) (T i) := by
  have h' (J) : T J = if near i J then T J else ⊥ := by
    split
    · rfl
    · exact h J ‹_›
  rw [show T = fun J => if near i J then T J else ⊥ from funext h']
  refine le_antisymm (Finset.sup_le fun J _ => ?_) (max_le (max_le ?_ ?_) (Finset.le_sup (f := fun J => if near i J then T J else ⊥) (Finset.mem_univ i)))
  · by_cases hJ : near i J
    · have hc : J.val + 2 = i.val ∨ J.val + 1 = i.val ∨ J.val = i.val := by have := hJ.1; have := hJ.2; omega
      rcases hc with hc | hc | hc
      · refine le_trans ?_ (le_trans (le_max_left _ _) (le_max_left _ _))
        rw [dif_pos (by omega)]
        have e : (⟨i.val - 2, by omega⟩ : Fin 8) = J := Fin.ext (show i.val - 2 = J.val by omega)
        rw [e]
      · refine le_trans ?_ (le_trans (le_max_right _ _) (le_max_left _ _))
        rw [dif_pos (by omega)]
        have e : (⟨i.val - 1, by omega⟩ : Fin 8) = J := Fin.ext (show i.val - 1 = J.val by omega)
        rw [e]
      · obtain rfl : J = i := Fin.ext hc
        exact le_max_right _ _
    · rw [if_neg hJ]; exact bot_le
  · split
    · exact Finset.le_sup (f := fun J => if near i J then T J else ⊥) (Finset.mem_univ _)
    · exact bot_le
  · split
    · exact Finset.le_sup (f := fun J => if near i J then T J else ⊥) (Finset.mem_univ _)
    · exact bot_le

/-- The largest score of three blocks. -/
def top3 (a b d : Fin 256 → EReal) : EReal := max (max (top a) (top b)) (top d)

/-- The weighted values of three blocks divided by their weights. -/
def quot3 (a b d u v w : Fin 256 → EReal) : EReal :=
  Ideal.div (∑ k, Ideal.exp (a k - top3 a b d) * u k + ∑ k, Ideal.exp (b k - top3 a b d) * v k + ∑ k, Ideal.exp (d k - top3 a b d) * w k)
    (∑ k, Ideal.exp (a k - top3 a b d) + ∑ k, Ideal.exp (b k - top3 a b d) + ∑ k, Ideal.exp (d k - top3 a b d))

/-- The largest of scores that are all minus infinity is minus infinity. -/
theorem top_bot {n : ℕ} (s : Fin n → EReal) (h : ∀ k, s k = ⊥) : top s = ⊥ := by
  refine le_bot_iff.1 (Finset.sup_le fun k _ => (h k).le)

/-- Where the scores are minus infinity in every other block, the quotient over all keys is the one over the three blocks
    that end with block `i`; a block before the first key counts as minus infinity whatever its values. -/
theorem quot_window (i : Fin 8) (s v : Fin 2048 → EReal) (a b d u w z : Fin 256 → EReal)
    (hs : ∀ J, ¬ near i J → ∀ k, s (key J k) = ⊥)
    (ha : ∀ k, a k = if g : 2 ≤ i.val then s (key ⟨i.val - 2, by omega⟩ k) else ⊥)
    (hb : ∀ k, b k = if g : 1 ≤ i.val then s (key ⟨i.val - 1, by omega⟩ k) else ⊥)
    (hd : ∀ k, d k = s (key i k))
    (hu : ∀ (g : 2 ≤ i.val) k, u k = v (key ⟨i.val - 2, by omega⟩ k))
    (hw : ∀ (g : 1 ≤ i.val) k, w k = v (key ⟨i.val - 1, by omega⟩ k))
    (hz : ∀ k, z k = v (key i k)) : quot3 a b d u w z = quot s v := by
  have hM : top3 a b d = top s := by
    rw [top_key, top_near i _ fun J hJ => top_bot _ (hs J hJ)]
    unfold top3
    congr 1
    · congr 1
      · split
        · exact congrArg top (funext fun k => by rw [ha, dif_pos ‹_›])
        · exact top_bot _ fun k => by rw [ha, dif_neg ‹_›]
      · split
        · exact congrArg top (funext fun k => by rw [hb, dif_pos ‹_›])
        · exact top_bot _ fun k => by rw [hb, dif_neg ‹_›]
    · exact congrArg top (funext hd)
  unfold quot3 quot
  rw [hM, sum_key, sum_key, sum_near i _ fun J hJ => Finset.sum_eq_zero fun k _ => by rw [hs J hJ, exp_bot, zero_mul],
    sum_near i (fun J => ∑ k, Ideal.exp (s (key J k) - top s)) fun J hJ => Finset.sum_eq_zero fun k _ => by rw [hs J hJ, exp_bot]]
  congr 1
  · congr 1
    · congr 1
      · split
        · exact Finset.sum_congr rfl fun k _ => by rw [ha, dif_pos ‹_›, hu ‹_›]
        · exact Finset.sum_eq_zero fun k _ => by rw [ha, dif_neg ‹_›, exp_bot, zero_mul]
      · split
        · exact Finset.sum_congr rfl fun k _ => by rw [hb, dif_pos ‹_›, hw ‹_›]
        · exact Finset.sum_eq_zero fun k _ => by rw [hb, dif_neg ‹_›, exp_bot, zero_mul]
    · exact Finset.sum_congr rfl fun k _ => by rw [hd, hz]
  · congr 1
    · congr 1
      · split
        · exact Finset.sum_congr rfl fun k _ => by rw [ha, dif_pos ‹_›]
        · exact Finset.sum_eq_zero fun k _ => by rw [ha, dif_neg ‹_›, exp_bot]
      · split
        · exact Finset.sum_congr rfl fun k _ => by rw [hb, dif_pos ‹_›]
        · exact Finset.sum_eq_zero fun k _ => by rw [hb, dif_neg ‹_›, exp_bot]
    · exact Finset.sum_congr rfl fun k _ => by rw [hd]

/-- A sum over 128 lanes kept on one half only is the sum over that half's 64 lanes. -/
theorem sum_half (hh : Fin 2) (f : Fin 128 → EReal) (c : Fin 128 → BitVec 1)
    (hc : ∀ x : Fin 128, c x = if x.val / 64 = hh.val then 1#1 else 0#1) :
    ∑ x, Scalar.select (c x) (f x) 0 = ∑ e : Fin 64, f ⟨hh.val * 64 + e.val, by omega⟩ := by
  rw [Fin.sum_univ_tiles 2 64 rfl, Fin.sum_univ_two]
  fin_cases hh
  · refine (congrArg₂ (· + ·) (Finset.sum_congr rfl fun e _ => ?_) (Finset.sum_eq_zero fun e _ => ?_)).trans (add_zero _)
    · rw [hc]
      have : ((0 : Fin 2).val * 64 + e.val) / 64 = 0 := by simp only [Fin.val_zero]; omega
      rw [if_pos (by simpa using this)]
      rfl
    · rw [hc, if_neg (by simp <;> omega)]
      rfl
  · refine (congrArg₂ (· + ·) (Finset.sum_eq_zero fun e _ => ?_) (Finset.sum_congr rfl fun e _ => ?_)).trans (zero_add _)
    · rw [hc, if_neg (by simp <;> omega)]
      rfl
    · rw [hc, if_pos (by simp <;> omega)]
      rfl

end Cert.BandMath
-- ==== Proof.BandWord.lean ====
/- The integer words of the band attention: positions of the bias, chunk numbers and the band. -/
module

public import Idealize.ShloMosaic.Lib.Pipeline.ValueKit
public import Idealize.ShloMosaic.Lib.Pointwise

@[expose] public section

set_option maxRecDepth 16384

noncomputable section

open Idealize.ShloMosaic

namespace Cert.BandWord

/-- Where the bias table is read for a distance, in words: clipped to `[-63, 256]`, moved up by 63, wrapped if negative. -/
def posWord (x : BitVec 32) : BitVec 32 :=
  Scalar.select
    (IntOp.cmpi .slt (IntOp.addi (IntOp.minsi 256#32 (IntOp.maxsi 4294967233#32 x)) 63#32) 0#32)
    (IntOp.addi (IntOp.addi (IntOp.minsi 256#32 (IntOp.maxsi 4294967233#32 x)) 63#32) 320#32)
    (IntOp.addi (IntOp.minsi 256#32 (IntOp.maxsi 4294967233#32 x)) 63#32)

/-- The same place as a number, for query position `p` and key position `q`. -/
def pos (p q : ℕ) : Fin 320 := ⟨(min 256 (max (-63) ((p : ℤ) - q)) + 63).toNat, by omega⟩

/-- For every difference of two positions of the window, the word of the place reads as the clipped and shifted difference. -/
theorem posWord_table : ∀ d : Fin 4096, (posWord (BitVec.ofNat 32 d.val - 2048#32)).toInt = min 256 (max (-63) ((d.val : ℤ) - 2048)) + 63 := by
  decide +kernel

/-- The word of the place is the place. -/
theorem posWord_eq (p q : ℕ) (hp : p < 2048) (hq : q < 2048) :
    (posWord (IntOp.subi (BitVec.ofNat 32 p) (BitVec.ofNat 32 q))).toInt = (pos p q).val := by
  have e : IntOp.subi (BitVec.ofNat 32 p) (BitVec.ofNat 32 q) = BitVec.ofNat 32 (p + 2048 - q) - 2048#32 := by
    apply BitVec.eq_of_toNat_eq
    simp only [IntOp.subi, BitVec.toNat_sub, BitVec.toNat_ofNat]
    omega
  rw [e, posWord_table ⟨p + 2048 - q, by omega⟩]
  simp only [pos]
  omega

/-- The floor division of a word by 64, in words. -/
def chunkWord (x : BitVec 32) : BitVec 32 :=
  Scalar.select
    (IntOp.andi
      (IntOp.cmpi (w := 32) .ne (if x = 0 then 0 else if x.msb = true then -1 else 1)
        (if (64#32 : BitVec 32) = 0 then 0 else if BitVec.msb (64#32 : BitVec 32) = true then -1 else 1))
      (IntOp.cmpi .ne (IntOp.remsi ArithUnit.host x 64#32) 0#32))
    (IntOp.subi (IntOp.divsi ArithUnit.host x 64#32) 1#32)
    (IntOp.divsi ArithUnit.host x 64#32)

/-- The word of a chunk number is the chunk number. -/
theorem chunkWord_eq (n : ℕ) (hn : n < 2048) : chunkWord (BitVec.ofNat 32 n) = BitVec.ofNat 32 (n / 64) :=
  (by decide +kernel : ∀ n : Fin 2048, chunkWord (BitVec.ofNat 32 n.val) = BitVec.ofNat 32 (n.val / 64)) ⟨n, hn⟩

/-- The band in words: the key's chunk is at most the query's and at least the query's less eight. -/
def bandWord (x y : BitVec 32) : BitVec 1 :=
  IntOp.andi (IntOp.cmpi .sle y x) (IntOp.cmpi .sge y (IntOp.subi x 8#32))

/-- The band: the key's chunk is the query's or one of the eight before it. -/
abbrev band (p q : ℕ) : Prop := q / 64 ≤ p / 64 ∧ p / 64 ≤ q / 64 + 8

/-- The word of the band is the band. -/
theorem bandWord_eq (p q : ℕ) (hp : p < 2048) (hq : q < 2048) :
    bandWord (BitVec.ofNat 32 (p / 64)) (BitVec.ofNat 32 (q / 64)) = if band p q then 1#1 else 0#1 :=
  (by decide +kernel : ∀ a b : Fin 32, bandWord (BitVec.ofNat 32 a.val) (BitVec.ofNat 32 b.val)
    = if b.val ≤ a.val ∧ a.val ≤ b.val + 8 then 1#1 else 0#1) ⟨p / 64, by omega⟩ ⟨q / 64, by omega⟩

/-- The place depends on the distance alone. -/
theorem pos_shift (p q p' q' : ℕ) (h : (p : ℤ) - q = (p' : ℤ) - q') : pos p q = pos p' q' := by
  apply Fin.ext; simp only [pos, h]

end Cert.BandWord
-- ==== Proof.BandGather.lean ====
/- A gather along the second axis of a table, read at one element. -/
module

public import Idealize.ShloMosaic.Lib.Pipeline.ValueKit
public import Idealize.ShloMosaic.Lib.Pointwise

@[expose] public section

noncomputable section

open Idealize.ShloMosaic

namespace Cert.BandGather

/-- The dimension numbers of `table[:, idx]`: a table `[H, N]`, positions `[R, C, 1]`, a result `[H, R, C]`. -/
abbrev colDims (H N R C : Nat)
    (wf : GatherDims.WF ⟨2, ![H, N]⟩ ⟨3, ![R, C, 1]⟩ ⟨3, ![H, R, C]⟩ [0] [1] [] [1] [] 2 ![H, 1]) :
    GatherDims ⟨2, ![H, N]⟩ ⟨3, ![R, C, 1]⟩ ⟨3, ![H, R, C]⟩ where
  offsetDims := [0]
  collapsedSliceDims := [1]
  operandBatchingDims := []
  startIndicesBatchingDims := []
  startIndexMap := [1]
  indexVectorDim := 2
  sliceSizes := ![H, 1]
  wf := wf

/-- Element `(h, r, c)` of `table[:, idx]` is the table's row `h` at the position `idx[r, c]`. -/
theorem gather_col {α : Type} {H N R C : Nat}
    (wf : GatherDims.WF ⟨2, ![H, N]⟩ ⟨3, ![R, C, 1]⟩ ⟨3, ![H, R, C]⟩ [0] [1] [] [1] [] 2 ![H, 1])
    (x : (⟨2, ![H, N]⟩ : Shape).Idx → α) (idx : IVec ⟨3, ![R, C, 1]⟩ 32) (h : Fin H) (r : Fin R) (c : Fin C) (n : Fin N)
    (hn : (idx (ix3 r c 0)).toInt = n.val) :
    Host.gather (colDims H N R C wf) x idx (ix3 h r c) = x (ix2 h n) := by
  unfold Host.gather
  refine congrArg x (funext fun a => Fin.ext ?_)
  show (colDims H N R C wf).start (ix3 h r c) idx a + (colDims H N R C wf).batchCoord (ix3 h r c) a
    + (colDims H N R C wf).offCoord (ix3 h r c) a = _
  have h01 : a = 0 ∨ a = 1 := by
    match a with
    | ⟨0, _⟩ => exact Or.inl rfl
    | ⟨1, _⟩ => exact Or.inr rfl
  rw [GatherDims.batchCoord_eq_zero _ _ _ List.not_mem_nil]
  rcases h01 with rfl | rfl
  · unfold GatherDims.start
    rw [dif_neg (show ¬ (0 : Fin 2) ∈ ([1] : List (Fin 2)) by decide)]
    simp only [Nat.zero_add]
    rfl
  · rw [GatherDims.offCoord_eq_zero _ _ _
      (fun hh => ((GatherDims.mem_sKept _ _).mp hh).1 (List.mem_singleton.mpr rfl))]
    simp only [Nat.add_zero]
    unfold GatherDims.start
    rw [dif_pos (show (1 : Fin 2) ∈ (colDims H N R C wf).startIndexMap from List.mem_singleton.mpr rfl)]
    have hsi : (colDims H N R C wf).siIdx (ix3 h r c) ⟨List.idxOf (1 : Fin 2) (colDims H N R C wf).startIndexMap,
        List.idxOf_lt_length_iff.2 (List.mem_singleton.mpr rfl)⟩ = ix3 r c 0 := by
      funext b; refine Fin.ext ?_
      match b with
      | ⟨0, _⟩ => rfl
      | ⟨1, _⟩ => rfl
      | ⟨2, _⟩ => rfl
    rw [hsi, hn]
    show min ((n.val : Int)).toNat (N - 1) = n.val
    have := n.isLt
    omega

end Cert.BandGather
-- ==== Proof.BandRef.lean ====
/- The band attention's reference, element by element. -/
module

public import proofs.«01_k».proof.Proof.Gen.ReferenceIdeal.Read
public import proofs.«01_k».proof.Proof.BandMath
public import proofs.«01_k».proof.Proof.BandWord
public import proofs.«01_k».proof.Proof.BandGather

@[expose] public section

set_option maxRecDepth 16384

noncomputable section

open Idealize.ShloMosaic Idealize.ShloMosaic.TcCoe Idealize.SL.Sem

namespace Cert.BandMath

open Cert.BandWord

/-- Row `r` of sequence `b` among all the rows. -/
abbrev row (b : Fin 16) (r : Fin 2048) : Fin 32768 := ⟨b.val * 2048 + r.val, by omega⟩

/-- Column `e` of head `h` in part `p` (queries, keys, values) of a row. -/
abbrev col (p : Fin 3) (h : Fin 16) (e : Fin 64) : Fin 3072 := ⟨p.val * 1024 + (h.val * 64 + e.val), by omega⟩

/-- A query's score against a key, before the mask. -/
def raw (X : Fin 32768 → Fin 3072 → EReal) (T : Fin 16 → Fin 320 → EReal) (b h : Fin 16) (r j : Fin 2048) : EReal :=
  ∑ e, X (row b r) (col 0 h e) * X (row b j) (col 1 h e) + T h (pos r.val j.val)

/-- The masked score: minus infinity outside the band. -/
def score (X : Fin 32768 → Fin 3072 → EReal) (T : Fin 16 → Fin 320 → EReal) (b h : Fin 16) (r j : Fin 2048) : EReal :=
  if band r.val j.val then raw X T b h r j else ⊥

/-- The band attention at one row of one sequence, one head and one of its lanes. -/
def attend (X : Fin 32768 → Fin 3072 → EReal) (T : Fin 16 → Fin 320 → EReal) (b h : Fin 16) (r : Fin 2048) (e : Fin 64) : EReal :=
  soft (score X T b h r) fun j => X (row b j) (col 2 h e)

end Cert.BandMath

namespace Cert.ReferenceIdeal.Rows

open Cert.ReferenceIdeal Cert.ReferenceIdeal.Gen Cert.ReferenceIdeal.Read Cert.BandMath Cert.BandWord Cert.BandGather

variable (x : FVec Ideal S32768x3072 .bf16) (t : FVec Ideal S16x320 .f32) (b h : Fin 16) (r j : Fin 2048)

/-- The row maxima do not change along the keys. -/
theorem m46 : val_main_v46 (F := Ideal) x t (ix4 b h r j) = val_main_v44 (F := Ideal) x t (ix3 b h r) := by
  pointwise [val_main_v46, val_main_v45]

/-- The row sums do not change along the keys. -/
theorem m51 : val_main_v51 (F := Ideal) x t (ix4 b h r j) = val_main_v49 (F := Ideal) x t (ix3 b h r) := by
  pointwise [val_main_v51, val_main_v50]

/-- A weight is the quotient of its exponential by the row's sum. -/
theorem m52 : val_main_v52 (F := Ideal) x t (ix4 b h r j)
    = Ideal.div (val_main_v48 (F := Ideal) x t (ix4 b h r j)) (val_main_v51 (F := Ideal) x t (ix4 b h r j)) := by
  rw [val_main_v52_apply]; rfl

/-- The exponential of a score less the row's maximum. -/
theorem m48 : val_main_v48 (F := Ideal) x t (ix4 b h r j)
    = Ideal.exp (val_main_v41 (F := Ideal) x t (ix4 b h r j) - val_main_v46 (F := Ideal) x t (ix4 b h r j)) := by
  rw [val_main_v48_apply, val_main_v47_apply]; rfl

/-- The row's maximum, once more against minus infinity. -/
theorem m44 : val_main_v44 (F := Ideal) x t (ix3 b h r)
    = max (Ideal.ofBits FTy.f32 4286578688#32) (val_main_v42 (F := Ideal) x t (ix3 b h r)) := by
  rw [val_main_v44_apply, val_main_v43_apply]; rfl

/-- The row's maximum. -/
theorem m42 : val_main_v42 (F := Ideal) x t (ix3 b h r) = top fun j => val_main_v41 (F := Ideal) x t (ix4 b h r j) := by
  rw [← fold_top]
  pointwise [val_main_v42, val_main_cst_6]

/-- The row's sum. -/
theorem m49 : val_main_v49 (F := Ideal) x t (ix3 b h r) = ∑ k : Fin 2048, val_main_v48 (F := Ideal) x t (ix4 b h r k) := by
  rw [val_main_v49_apply]
  refine (congrArg₂ (· + ·) (show val_main_cst_8 (F := Ideal) (Shape.Idx.first h_S_) = 0 from ?_)
    (Finset.sum_congr rfl fun k _ => congrArg _ ?_)).trans (zero_add _)
  · pointwise [val_main_cst_8]
  · funext a
    match a with
    | ⟨0, _⟩ => rfl
    | ⟨1, _⟩ => rfl
    | ⟨2, _⟩ => rfl
    | ⟨3, _⟩ => rfl

/-- The values, head by head. -/
theorem vals (e : Fin 64) : val_main_v6 (F := Ideal) x (ix4 b j h e) = x (ix2 (row b j) (col 2 h e)) := by
  pointwise [val_main_v6, val_main_v3, val_main_v0]
  rfl

/-- The queries, head by head. -/
theorem queries (e : Fin 64) : val_main_v4 (F := Ideal) x (ix4 b r h e) = x (ix2 (row b r) (col 0 h e)) := by
  pointwise [val_main_v4, val_main_v1, val_main_v0]
  exact congrArg x (congrArg (ix2 _) (Fin.ext (show h.val * 64 + e.val = 0 * 1024 + (h.val * 64 + e.val) by omega)))

/-- The keys, head by head. -/
theorem keys (e : Fin 64) : val_main_v5 (F := Ideal) x (ix4 b j h e) = x (ix2 (row b j) (col 1 h e)) := by
  pointwise [val_main_v5, val_main_v2, val_main_v0]
  rfl

/-- The chunk number of a position. -/
theorem chunk : val_main_v23 (F := Ideal) (ix1 r) = BitVec.ofNat 32 (r.val / 64) := by
  rw [← chunkWord_eq r.val r.isLt]
  pointwise [val_main_v23, val_main_call1_v0, val_main_call1_v1, val_main_call1_v2, val_main_call1_v3, val_main_call1_v4,
    val_main_call1_v5, val_main_call1_v6, val_main_call1_v7, val_main_call1_v8, val_main_call1_v9, val_main_call1_v10,
    val_main_call1_v11, val_main_call1_v12, val_main_call1_v13, val_main_call1_c, val_main_call1_c_0, val_main_c_4, val_main_v7]
  rfl

/-- The band mask. -/
theorem mask : val_main_v36 (F := Ideal) (ix2 r j) = if band r.val j.val then 1#1 else 0#1 := by
  rw [← bandWord_eq r.val j.val r.isLt j.isLt, ← chunk, ← chunk]
  pointwise [val_main_v36, val_main_v35, val_main_v34, val_main_v33, val_main_v32, val_main_v31, val_main_v30,
    val_main_v29, val_main_v28, val_main_v27, val_main_v26, val_main_v25, val_main_v24, val_main_c_5]
  rfl

/-- Where the bias is read. -/
theorem place : (val_main_v21 (F := Ideal) (ix3 r j 0)).toInt = (pos r.val j.val).val := by
  rw [← posWord_eq r.val j.val r.isLt j.isLt]
  pointwise [val_main_v21, val_main_v20, val_main_v19, val_main_v18, val_main_v17, val_main_v16, val_main_v15,
    val_main_v14, val_main_v13, val_main_call0_v0, val_main_call0_v1, val_main_call0_v2, val_main_call0_v3,
    val_main_call0_v4, val_main_c, val_main_c_0, val_main_c_1, val_main_c_2, val_main_c_3, val_main_v12, val_main_v11,
    val_main_v10, val_main_v9, val_main_v8, val_main_v7]
  rfl

/-- The bias of a pair of positions. -/
theorem bias : val_main_v22 (F := Ideal) t (ix3 h r j) = t (ix2 h (pos r.val j.val)) := by
  unfold val_main_v22
  exact gather_col _ t _ h r j (pos r.val j.val) (place r j)

/-- The masked scores. -/
theorem scores : val_main_v41 (F := Ideal) x t (ix4 b h r j) = score (fun n c => x (ix2 n c)) (fun g p => t (ix2 g p)) b h r j := by
  have e : val_main_v41 (F := Ideal) x t (ix4 b h r j) = Scalar.select (val_main_v36 (F := Ideal) (ix2 r j))
      (∑ e : Fin 64, val_main_v4 (F := Ideal) x (ix4 b r h e) * val_main_v5 (F := Ideal) x (ix4 b j h e)
        + val_main_v22 (F := Ideal) t (ix3 h r j)) (Ideal.ofBits .f32 4286578688#32) := by
    pointwise [val_main_v41, val_main_call2_v1, val_main_call2_v2, val_main_call2_v0, val_main_cst, val_main_v40,
      val_main_v39, val_main_v38, val_main_v37]
    rfl
  rw [e, mask, bias, negInf]
  simp only [queries, keys]
  unfold score raw
  split <;> rfl

/-- The result, at a row and a column: attention of the row's sequence at the column's head. -/
theorem result (e : Fin 64) (n : Fin 32768) (c : Fin 1024) (hn : n.val = b.val * 2048 + r.val) (hc : c.val = h.val * 64 + e.val) :
    val_main_v56 (F := Ideal) x t (ix2 n c) = attend (fun n c => x (ix2 n c)) (fun g p => t (ix2 g p)) b h r e := by
  have hr := r.isLt
  have he := e.isLt
  have e1 : val_main_v56 (F := Ideal) x t (ix2 n c) = ∑ j, val_main_v6 (F := Ideal) x (ix4 b j h e)
      * val_main_v52 (F := Ideal) x t (ix4 b h r j) := by
    pointwise [val_main_v56, val_main_v55, val_main_v54, val_main_v53]
    rw [show (⟨n.val / 2048, by omega⟩ : Fin 16) = b from Fin.ext (show n.val / 2048 = b.val by omega),
      show (⟨n.val % 2048, by omega⟩ : Fin 2048) = r from Fin.ext (show n.val % 2048 = r.val by omega),
      show (⟨c.val / 64, by omega⟩ : Fin 16) = h from Fin.ext (show c.val / 64 = h.val by omega),
      show (⟨c.val % 64, by omega⟩ : Fin 64) = e from Fin.ext (show c.val % 64 = e.val by omega)]
  rw [e1]
  unfold attend soft
  refine Finset.sum_congr rfl fun j _ => ?_
  rw [vals, m52, m51, m49]
  simp only [m48, m46, m44, m42, negInf, scores, bot_le, max_eq_right]

end Cert.ReferenceIdeal.Rows
-- ==== Proof.BandBody.lean ====
/- What one grid point of the band attention stores. -/
module

public import Idealize.ShloMosaic.Lib.Pipeline.ValueKit
public import Idealize.ShloMosaic.Lib.Pointwise
public import proofs.«01_k».proof.Proof.Gen.KernelIdeal.Frame
public import proofs.«01_k».proof.Proof.BandMath

@[expose] public section

set_option maxRecDepth 16384

noncomputable section

open Idealize.ShloMosaic Idealize.ShloMosaic.TcCoe Idealize.SL.Sem

namespace Cert.KernelIdeal.Body

open Cert.KernelIdeal Cert.KernelIdeal.Gen Cert.BandMath

/-- Lane `e` of half `hh` of a block's 128 columns. -/
abbrev lane (hh : Fin 2) (e : Fin 64) : Fin 128 := ⟨hh.val * 64 + e.val, by omega⟩

/-- The product of a query row and a key row over one half of the columns. -/
def half (hh : Fin 2) (q k : Vec Ideal S256x128 .bf16) (r c : Fin 256) : EReal :=
  ∑ e : Fin 64, (q (ix2 r (lane hh e)) : EReal) * (k (ix2 c (lane hh e)) : EReal)

/-- The guard of the block two before. -/
theorem guard2 : ∀ n : Fin 8, Scalar.cmpi .sge (Scalar.addi (BitVec.ofNat 32 n.val) 0#32) 2#32 = if 2 ≤ n.val then 1#1 else 0#1 := by
  decide

/-- The guard of the block one before. -/
theorem guard1 : ∀ n : Fin 8, Scalar.cmpi .sge (Scalar.addi (BitVec.ofNat 32 n.val) 1#32) 2#32 = if 1 ≤ n.val then 1#1 else 0#1 := by
  decide

/-- The mask of the first half. -/
theorem first : ∀ x : Fin 128, IntOp.cmpi .slt (BitVec.ofNat 32 x.val) 64#32 = if x.val / 64 = (0 : Fin 2).val then 1#1 else 0#1 := by
  decide

/-- The mask of the second half. -/
theorem second : ∀ x : Fin 128, IntOp.xori (IntOp.cmpi .slt (BitVec.ofNat 32 x.val) 64#32) 1#1
    = if x.val / 64 = (1 : Fin 2).val then 1#1 else 0#1 := by
  decide

/-- The half mask, lane by lane. -/
theorem p2 (r : Fin 256) (x : Fin 128) : k0_pay2 (ix2 r x) = IntOp.cmpi .slt (BitVec.ofNat 32 x.val) 64#32 := by
  pointwise [k0_pay2]

/-- The named mask value is minus infinity. -/
theorem named : (Named.named κ "mask" 4048155338#32 : Ideal .f32) = ⊥ :=
  IdealRules.named_const.ideal_named_scalar _ _ _ _ rfl

variable (i : grid0.Coords) (q k : Vec Ideal S256x128 .bf16) (t : Vec Ideal S1x256x256 .f32) (r c : Fin 256)

/-- First half, scores against the block two before. -/
theorem p4 : k0_pay4 (F := Ideal) i q k t (ix2 r c) = if 2 ≤ (i 2).val then half 0 q k r c + t (ix3 0 r c) else ⊥ := by
  have e : k0_pay4 (F := Ideal) i q k t (ix2 r c)
      = Scalar.select (Scalar.cmpi .sge (Scalar.addi (BitVec.ofNat 32 (i 2).val) 0#32) 2#32)
        (∑ x : Fin 128, Scalar.select (IntOp.cmpi .slt (BitVec.ofNat 32 x.val) 64#32)
          ((q (ix2 r x) : EReal) * (k (ix2 c x) : EReal)) 0 + t (ix3 0 r c)) (Named.named κ "mask" 4048155338#32 : Ideal .f32) := by
    pointwise [k0_pay4, k0_pay3, k0_pay2]
  rw [e, guard2 (i 2), named, sum_half 0 _ _ first]
  unfold half
  split <;> rfl

/-- First half, scores against the block one before. -/
theorem p5 : k0_pay5 (F := Ideal) i q k t (ix2 r c) = if 1 ≤ (i 2).val then half 0 q k r c + t (ix3 0 r c) else ⊥ := by
  have e : k0_pay5 (F := Ideal) i q k t (ix2 r c)
      = Scalar.select (Scalar.cmpi .sge (Scalar.addi (BitVec.ofNat 32 (i 2).val) 1#32) 2#32)
        (∑ x : Fin 128, Scalar.select (IntOp.cmpi .slt (BitVec.ofNat 32 x.val) 64#32)
          ((q (ix2 r x) : EReal) * (k (ix2 c x) : EReal)) 0 + t (ix3 0 r c)) (Named.named κ "mask" 4048155338#32 : Ideal .f32) := by
    pointwise [k0_pay5, k0_pay3, k0_pay2]
  rw [e, guard1 (i 2), named, sum_half 0 _ _ first]
  unfold half
  split <;> rfl

/-- First half, scores against the block itself. -/
theorem p6 : k0_pay6 (F := Ideal) q k t (ix2 r c) = half 0 q k r c + t (ix3 0 r c) := by
  have e : k0_pay6 (F := Ideal) q k t (ix2 r c)
      = ∑ x : Fin 128, Scalar.select (IntOp.cmpi .slt (BitVec.ofNat 32 x.val) 64#32)
          ((q (ix2 r x) : EReal) * (k (ix2 c x) : EReal)) 0 + t (ix3 0 r c) := by
    pointwise [k0_pay6, k0_pay3, k0_pay2]
  rw [e, sum_half 0 _ _ first]
  rfl

/-- Second half, scores against the block two before. -/
theorem p9 : k0_pay9 (F := Ideal) (BitVec.ofNat 32 (i 2).val) q k0_pay2 (constantI S256x128 1 1#1) k t (ix2 r c)
    = if 2 ≤ (i 2).val then half 1 q k r c + t (ix3 0 r c) else ⊥ := by
  have e : k0_pay9 (F := Ideal) (BitVec.ofNat 32 (i 2).val) q k0_pay2 (constantI S256x128 1 1#1) k t (ix2 r c)
      = Scalar.select (Scalar.cmpi .sge (Scalar.addi (BitVec.ofNat 32 (i 2).val) 0#32) 2#32)
        (∑ x : Fin 128, Scalar.select (IntOp.xori (IntOp.cmpi .slt (BitVec.ofNat 32 x.val) 64#32) 1#1)
          ((q (ix2 r x) : EReal) * (k (ix2 c x) : EReal)) 0 + t (ix3 0 r c)) (Named.named κ "mask" 4048155338#32 : Ideal .f32) := by
    pointwise [k0_pay9, k0_pay8, k0_pay2]
  rw [e, guard2 (i 2), named, sum_half 1 _ _ second]
  unfold half
  split <;> rfl

/-- Second half, scores against the block one before. -/
theorem p10 : k0_pay10 (F := Ideal) (BitVec.ofNat 32 (i 2).val) q k0_pay2 (constantI S256x128 1 1#1) k t (ix2 r c)
    = if 1 ≤ (i 2).val then half 1 q k r c + t (ix3 0 r c) else ⊥ := by
  have e : k0_pay10 (F := Ideal) (BitVec.ofNat 32 (i 2).val) q k0_pay2 (constantI S256x128 1 1#1) k t (ix2 r c)
      = Scalar.select (Scalar.cmpi .sge (Scalar.addi (BitVec.ofNat 32 (i 2).val) 1#32) 2#32)
        (∑ x : Fin 128, Scalar.select (IntOp.xori (IntOp.cmpi .slt (BitVec.ofNat 32 x.val) 64#32) 1#1)
          ((q (ix2 r x) : EReal) * (k (ix2 c x) : EReal)) 0 + t (ix3 0 r c)) (Named.named κ "mask" 4048155338#32 : Ideal .f32) := by
    pointwise [k0_pay10, k0_pay8, k0_pay2]
  rw [e, guard1 (i 2), named, sum_half 1 _ _ second]
  unfold half
  split <;> rfl

/-- Second half, scores against the block itself. -/
theorem p11 : k0_pay11 (F := Ideal) q k0_pay2 (constantI S256x128 1 1#1) k t (ix2 r c) = half 1 q k r c + t (ix3 0 r c) := by
  have e : k0_pay11 (F := Ideal) q k0_pay2 (constantI S256x128 1 1#1) k t (ix2 r c)
      = ∑ x : Fin 128, Scalar.select (IntOp.xori (IntOp.cmpi .slt (BitVec.ofNat 32 x.val) 64#32) 1#1)
          ((q (ix2 r x) : EReal) * (k (ix2 c x) : EReal)) 0 + t (ix3 0 r c) := by
    pointwise [k0_pay11, k0_pay8, k0_pay2]
  rw [e, sum_half 1 _ _ second]
  rfl

variable (g : BitVec 32) (v3 cst : IVec S256x128 1)

/-- Second half, the maxima over the block two before. -/
theorem p12 : k0_pay12 (F := Ideal) g q v3 cst k t (ix2 r 0) = top fun c => k0_pay9 (F := Ideal) g q v3 cst k t (ix2 r c) := by
  rw [← fold_top]
  pointwise [k0_pay12]

/-- Second half, the maxima over the block one before. -/
theorem p13 : k0_pay13 (F := Ideal) g q v3 cst k t (ix2 r 0) = top fun c => k0_pay10 (F := Ideal) g q v3 cst k t (ix2 r c) := by
  rw [← fold_top]
  pointwise [k0_pay13]

/-- Second half, the maxima over the block itself. -/
theorem p14 : k0_pay14 (F := Ideal) q v3 cst k t (ix2 r 0) = top fun c => k0_pay11 (F := Ideal) q v3 cst k t (ix2 r c) := by
  rw [← fold_top]
  pointwise [k0_pay14]

variable (a b d : FVec Ideal S256x256 .f32) (ma mb md : FVec Ideal S256x1 .f32) (u v w : Vec Ideal S256x128 .bf16)

/-- First half, the quotient. -/
theorem p7 (e : Fin 128) : k0_pay7 (F := Ideal) a b d u v w (ix2 r e)
    = quot3 (fun c => a (ix2 r c)) (fun c => b (ix2 r c)) (fun c => d (ix2 r c)) (fun c => u (ix2 c e)) (fun c => v (ix2 c e))
      (fun c => w (ix2 c e)) := by
  unfold quot3 top3
  simp only [← fold_top]
  pointwise [k0_pay7]

/-- Second half, the quotient, chosen at the second half's lanes. -/
theorem p1 (v70 : FVec Ideal S256x128 .f32) (e : Fin 128)
    (ha : ma (ix2 r 0) = top fun c => a (ix2 r c)) (hb : mb (ix2 r 0) = top fun c => b (ix2 r c))
    (hd : md (ix2 r 0) = top fun c => d (ix2 r c)) :
    k0_pay1 (F := Ideal) v3 v70 a b d ma mb md u v w (ix2 r e) = Scalar.select (v3 (ix2 r e)) (v70 (ix2 r e))
    (quot3 (fun c => a (ix2 r c)) (fun c => b (ix2 r c)) (fun c => d (ix2 r c)) (fun c => u (ix2 c e)) (fun c => v (ix2 c e))
      (fun c => w (ix2 c e))) := by
  unfold quot3 top3
  rw [← ha, ← hb, ← hd]
  pointwise [k0_pay1]

/-- The scores of a row of a block against the keys two blocks before, one before and in the block itself. -/
def s2 (hh : Fin 2) (i : grid0.Coords) (x0 x1 : Vec Ideal S256x128 .bf16) (x7 : Vec Ideal S2x256x768 .f32) (r c : Fin 256) : EReal :=
  if 2 ≤ (i 2).val then half hh x0 x1 r c + x7 (ix3 hh r ⟨c.val, by omega⟩) else ⊥

/-- The scores against the block one before. -/
def s1 (hh : Fin 2) (i : grid0.Coords) (x0 x2 : Vec Ideal S256x128 .bf16) (x7 : Vec Ideal S2x256x768 .f32) (r c : Fin 256) : EReal :=
  if 1 ≤ (i 2).val then half hh x0 x2 r c + x7 (ix3 hh r ⟨256 + c.val, by omega⟩) else ⊥

/-- The scores against the block itself. -/
def s0 (hh : Fin 2) (x0 x3 : Vec Ideal S256x128 .bf16) (x7 : Vec Ideal S2x256x768 .f32) (r c : Fin 256) : EReal :=
  half hh x0 x3 r c + x7 (ix3 hh r ⟨512 + c.val, by omega⟩)

/-- What a grid point stores, from its input blocks. -/
theorem body (x0 x1 x2 x3 x4 x5 x6 : Vec Ideal S256x128 .bf16) (x7 : Vec Ideal S2x256x768 .f32) (hh : Fin 2) (e : Fin 64) :
    out0_8 i x0 x1 x2 x3 x4 x5 x6 x7 (ix2 r (lane hh e)) = quot3 (s2 hh i x0 x1 x7 r) (s1 hh i x0 x2 x7 r) (s0 hh x0 x3 x7 r)
      (fun c => x4 (ix2 c (lane hh e))) (fun c => x5 (ix2 c (lane hh e))) (fun c => x6 (ix2 c (lane hh e))) := by
  have ht (h o : ℕ) (hh : Fin 2) (r c : Fin 256) (w : Fin 768) (h1 : h = hh.val) (h2 : o + c.val = w.val) (wf) :
      View.ld x7 (Rect.unit (s := S2x256x768) ![h, 0, o] S1x256x256.size wf) (ix3 0 r c) = x7 (ix3 hh r w) :=
    View.ld_unit_apply_of _ _ _ _ _ _ fun a => match a with
      | 0 => h1.symm
      | 1 => (Nat.zero_add _).symm
      | 2 => h2.symm
  frame_out
  unfold k0_pay15 k0_pay16
  rw [p1 r _ _ _ _ _ _ _ _ _ _ _ _ (p12 _ _ _ _ _ _ _) (p13 _ _ _ _ _ _ _) (p14 _ _ _ _ _ _), p2, p7]
  have hc (c : Fin 256) : (0 + c.val : ℕ) = c.val := Nat.zero_add _
  fin_cases hh
  · have h1 : IntOp.cmpi .slt (BitVec.ofNat 32 (lane 0 e).val) 64#32 = 1#1 :=
      (first _).trans (if_pos (show (0 * 64 + e.val) / 64 = 0 by omega))
    have e4 (c : Fin 256) : k0_pay4 (F := Ideal) i x0 x1 (View.ld x7 r0_1) (ix2 r c) = s2 0 i x0 x1 x7 r c := by
      rw [p4, ht 0 0 0 r c ⟨c.val, by omega⟩ rfl (hc c)]
      rfl
    have e5 (c : Fin 256) : k0_pay5 (F := Ideal) i x0 x2 (View.ld x7 r0_2) (ix2 r c) = s1 0 i x0 x2 x7 r c := by
      rw [p5, ht 0 256 0 r c ⟨256 + c.val, by omega⟩ rfl rfl]
      rfl
    have e6 (c : Fin 256) : k0_pay6 (F := Ideal) x0 x3 (View.ld x7 r0_3) (ix2 r c) = s0 0 x0 x3 x7 r c := by
      rw [p6, ht 0 512 0 r c ⟨512 + c.val, by omega⟩ rfl rfl]
      rfl
    refine (congrArg (fun z => Scalar.select z _ _) h1).trans ?_
    simp only [e4, e5, e6]
    rfl
  · have h1 : IntOp.cmpi .slt (BitVec.ofNat 32 (lane 1 e).val) 64#32 = 0#1 :=
      (first _).trans (if_neg (show ¬ (1 * 64 + e.val) / 64 = 0 by omega))
    have e9 (c : Fin 256) : k0_pay9 (F := Ideal) (BitVec.ofNat 32 (i 2).val) x0 k0_pay2 (constantI S256x128 1 1#1) x1 (View.ld x7 r0_4)
        (ix2 r c) = s2 1 i x0 x1 x7 r c := by
      rw [p9, ht 1 0 1 r c ⟨c.val, by omega⟩ rfl (hc c)]
      rfl
    have e10 (c : Fin 256) : k0_pay10 (F := Ideal) (BitVec.ofNat 32 (i 2).val) x0 k0_pay2 (constantI S256x128 1 1#1) x2 (View.ld x7 r0_5)
        (ix2 r c) = s1 1 i x0 x2 x7 r c := by
      rw [p10, ht 1 256 1 r c ⟨256 + c.val, by omega⟩ rfl rfl]
      rfl
    have e11 (c : Fin 256) : k0_pay11 (F := Ideal) x0 k0_pay2 (constantI S256x128 1 1#1) x3 (View.ld x7 r0_6)
        (ix2 r c) = s0 1 x0 x3 x7 r c := by
      rw [p11, ht 1 512 1 r c ⟨512 + c.val, by omega⟩ rfl rfl]
      rfl
    refine (congrArg (fun z => Scalar.select z _ _) h1).trans ?_
    simp only [e9, e10, e11]
    rfl

end Cert.KernelIdeal.Body
-- ==== Proof.BandTable.lean ====
/- The table of band biases that the host builds before the launch, entry by entry. -/
module

public import Idealize.ShloMosaic.Lib.Pipeline.ValueKit
public import Idealize.ShloMosaic.Lib.Pointwise
public import proofs.«01_k».proof.Proof.Gen.KernelIdeal.Frame
public import proofs.«01_k».proof.Proof.BandMath
public import proofs.«01_k».proof.Proof.BandWord
public import proofs.«01_k».proof.Proof.BandGather

@[expose] public section

set_option maxRecDepth 16384

noncomputable section

open Idealize.ShloMosaic Idealize.ShloMosaic.TcCoe Idealize.SL.Sem

namespace Cert.KernelIdeal.Table

open Cert.KernelIdeal Cert.KernelIdeal.Gen Cert.BandMath Cert.BandWord Cert.BandGather

/-- The rows of a block, as words. -/
def rows : IVec S256x1 32 := broadcastInDim S256x1 ![0] bcast_S256_S256x1_0 (iotaInDim S256 32 0)

/-- The keys of a window, as words. -/
def cols : IVec S1x768 32 := broadcastInDim S1x768 ![1] bcast_S768_S1x768_1 (iotaInDim S768 32 0)

/-- The place of a block's row in its window. -/
def here : IVec S256x1 32 := addi (broadcastInDim S256x1 ![] bcast_S_S256x1 (constantI S_ 32 512#32)) rows

/-- How far a key lies before a row. -/
def dist : IVec S256x768 32 :=
  subi (broadcastInDim S256x768 ![0, 1] bcast_S256x1_S256x768_0_1 here)
    (broadcastInDim S256x768 ![0, 1] bcast_S1x768_S256x768_0_1 cols)

/-- The clipped distance, made a place in the bias row. -/
def place : IVec S256x768 32 :=
  addi (minsi (broadcastInDim S256x768 ![] bcast_S_S256x768 (id (constantI S_ 32 256#32)))
    (maxsi (broadcastInDim S256x768 ![] bcast_S_S256x768 (id (constantI S_ 32 4294967233#32))) dist))
    (broadcastInDim S256x768 ![] bcast_S_S256x768 (constantI S_ 32 63#32))

/-- The place as an index: a negative one would count from the end. -/
def index : IVec S256x768x1 32 :=
  broadcastInDim S256x768x1 ![0, 1] bcast_S256x768_S256x768x1_0_1
    (select (cmpi .slt place (broadcastInDim S256x768 ![] bcast_S_S256x768 (constantI S_ 32 0#32)))
      (addi place (broadcastInDim S256x768 ![] bcast_S_S256x768 (constantI S_ 32 320#32))) place)

/-- The chunk of a row. -/
def rowChunk : IVec S256x1 32 :=
  select
    (andi
      (cmpi .ne (signi here) (broadcastInDim S256x1 ![] bcast_S_S256x1 (signi (id (constantI S_ 32 64#32)))))
      (cmpi .ne (Host.remsi here (broadcastInDim S256x1 ![] bcast_S_S256x1 (id (constantI S_ 32 64#32))))
        (broadcastInDim S256x1 ![] bcast_S_S256x1 (constantI S_ 32 0#32))))
    (subi (Host.divsi here (broadcastInDim S256x1 ![] bcast_S_S256x1 (id (constantI S_ 32 64#32))))
      (broadcastInDim S256x1 ![] bcast_S_S256x1 (constantI S_ 32 1#32)))
    (Host.divsi here (broadcastInDim S256x1 ![] bcast_S_S256x1 (id (constantI S_ 32 64#32))))

/-- The chunk of a key. -/
def colChunk : IVec S1x768 32 :=
  select
    (andi
      (cmpi .ne (signi cols) (broadcastInDim S1x768 ![] bcast_S_S1x768 (signi (id (constantI S_ 32 64#32)))))
      (cmpi .ne (Host.remsi cols (broadcastInDim S1x768 ![] bcast_S_S1x768 (id (constantI S_ 32 64#32))))
        (broadcastInDim S1x768 ![] bcast_S_S1x768 (constantI S_ 32 0#32))))
    (subi (Host.divsi cols (broadcastInDim S1x768 ![] bcast_S_S1x768 (id (constantI S_ 32 64#32))))
      (broadcastInDim S1x768 ![] bcast_S_S1x768 (constantI S_ 32 1#32)))
    (Host.divsi cols (broadcastInDim S1x768 ![] bcast_S_S1x768 (id (constantI S_ 32 64#32))))

/-- The band. -/
def mask : IVec S256x768 1 :=
  andi
    (cmpi .sle (broadcastInDim S256x768 ![0, 1] bcast_S1x768_S256x768_0_1 colChunk)
      (broadcastInDim S256x768 ![0, 1] bcast_S256x1_S256x768_0_1 rowChunk))
    (cmpi .sge (broadcastInDim S256x768 ![0, 1] bcast_S1x768_S256x768_0_1 colChunk)
      (broadcastInDim S256x768 ![0, 1] bcast_S256x1_S256x768_0_1
        (subi rowChunk (broadcastInDim S256x1 ![] bcast_S_S256x1 (constantI S_ 32 8#32)))))

/-- The table made from a bias array. -/
def table (t : FVec Ideal S16x320 .f32) : FVec Ideal S16x256x768 .f32 :=
  select
    (broadcastInDim S16x256x768 ![0, 1, 2] bcast_S1x256x768_S16x256x768_0_1_2
      (broadcastInDim S1x256x768 ![1, 2] bcast_S256x768_S1x256x768_1_2 mask))
    (Host.gather gather_S16x320_S256x768x1_S16x256x768_0_1_n_n_1_2_161 t index)
    (broadcastInDim S16x256x768 ![] bcast_S_S16x256x768 (id (constant S_ .f32 0xFF800000#32)))

/-- The kernel finds the table made from the bias array it was launched with. -/
theorem entry (m : (ℓ : Loc nD τ sig) → Buf (Elt Ideal) ℓ) (c : Dev nD) :
    (V m c main_v33 : FVec Ideal S16x256x768 .f32) = table (m ((c : Thread nD τ).loc main_arg1)) := by
  unfold V
  simp only [hostOps0, hostOps0_1, hostOps0_2, hostOps0_3, hostOps0_4, hostOps0_5, hostOps0_6, hostOps0_7, List.flatten_cons,
    List.flatten_nil, List.append_nil, List.cons_append, List.nil_append, StableHlo.TRef.binary, StableHlo.TRef.nullary,
    StableHlo.TRef.ternary, StableHlo.TRef.unary, StableHlo.TRef.toBuf, StableHlo.TRef.ofBuf, cast_eq]
  after_results_simp
  rfl

variable (q : Fin 256) (w : Fin 768)

/-- The place of a row in its window is `512` past its place in the block. -/
theorem here_eq : here (ix2 q 0) = BitVec.ofNat 32 (512 + q.val) := by
  have e : here (ix2 q 0) = IntOp.addi 512#32 (BitVec.ofNat 32 q.val) := by
    pointwise [here, rows]
  rw [e]
  exact (BitVec.ofNat_add 512 q.val).symm

/-- A key's place is its number. -/
theorem cols_eq : cols (ix2 0 w) = BitVec.ofNat 32 w.val := by
  pointwise [cols]

/-- The distance of a row and a key. -/
theorem dist_eq : dist (ix2 q w) = IntOp.subi (BitVec.ofNat 32 (512 + q.val)) (BitVec.ofNat 32 w.val) := by
  rw [← here_eq, ← cols_eq]
  pointwise [dist]

/-- The clipped and shifted distance. -/
theorem place_eq : place (ix2 q w) = IntOp.addi (IntOp.minsi 256#32 (IntOp.maxsi 4294967233#32 (dist (ix2 q w)))) 63#32 := by
  pointwise [place]
  rfl

/-- The index of a row and a key is their place in the bias row. -/
theorem index_eq : (index (ix3 q w 0)).toInt = (pos (512 + q.val) w.val).val := by
  rw [← posWord_eq (512 + q.val) w.val (by omega) (by omega), ← dist_eq]
  unfold posWord
  rw [← place_eq]
  pointwise [index]

/-- The chunk of a row. -/
theorem rowChunk_eq : rowChunk (ix2 q 0) = BitVec.ofNat 32 ((512 + q.val) / 64) := by
  rw [← chunkWord_eq (512 + q.val) (by omega), ← here_eq]
  pointwise [rowChunk]
  rfl

/-- The chunk of a key. -/
theorem colChunk_eq : colChunk (ix2 0 w) = BitVec.ofNat 32 (w.val / 64) := by
  rw [← chunkWord_eq w.val (by omega), ← cols_eq]
  pointwise [colChunk]
  rfl

/-- The band of a row and a key. -/
theorem mask_eq : mask (ix2 q w) = if band (512 + q.val) w.val then 1#1 else 0#1 := by
  rw [← bandWord_eq (512 + q.val) w.val (by omega) (by omega), ← rowChunk_eq, ← colChunk_eq]
  pointwise [mask]
  rfl

/-- An entry of the table: the bias of the row's and the key's distance inside the band, minus infinity outside. -/
theorem table_eq (t : FVec Ideal S16x320 .f32) (h : Fin 16) :
    table t (ix3 h q w) = if band (512 + q.val) w.val then t (ix2 h (pos (512 + q.val) w.val)) else ⊥ := by
  have e : table t (ix3 h q w) = Scalar.select (mask (ix2 q w))
      (Host.gather gather_S16x320_S256x768x1_S16x256x768_0_1_n_n_1_2_161 t index (ix3 h q w)) (Ideal.ofBits .f32 4286578688#32) := by
    pointwise [table]
    rfl
  rw [e, mask_eq, negInf, show Host.gather gather_S16x320_S256x768x1_S16x256x768_0_1_n_n_1_2_161 t index (ix3 h q w)
    = t (ix2 h (pos (512 + q.val) w.val)) from gather_col _ t _ h q w _ (index_eq q w)]
  split <;> rfl

end Cert.KernelIdeal.Table
-- ==== Proof.BandValue.lean ====
/- The band attention kernel's result is the reference's. -/
module

public import proofs.«01_k».proof.Proof.BandRef
public import proofs.«01_k».proof.Proof.BandBody
public import proofs.«01_k».proof.Proof.BandTable

@[expose] public section

set_option maxRecDepth 16384

noncomputable section

open Idealize.ShloMosaic Idealize.ShloMosaic.TcCoe Idealize.SL.Sem
open Idealize.ShloMosaic.Pipeline (Dat)

namespace Cert.BandMath

open Cert.BandWord

/-- A product score of real queries, keys and biases is a real number. -/
theorem raw_real (X : Fin 32768 → Fin 3072 → EReal) (T : Fin 16 → Fin 320 → EReal)
    (hX : ∀ n (c : Fin 3072), c.val < 2048 → ∃ ρ : ℝ, X n c = ρ) (hT : ∀ g p, ∃ ρ : ℝ, T g p = ρ) (b h : Fin 16) (r j : Fin 2048) :
    ∃ ρ : ℝ, raw X T b h r j = ρ := by
  obtain ⟨τ, hτ⟩ := hT h (pos r.val j.val)
  choose f hf using fun e : Fin 64 => hX (row b r) (col 0 h e) (by show 0 * 1024 + (h.val * 64 + e.val) < 2048; omega)
  choose g hg using fun e : Fin 64 => hX (row b j) (col 1 h e) (by show 1 * 1024 + (h.val * 64 + e.val) < 2048; omega)
  refine ⟨∑ e, f e * g e + τ, ?_⟩
  unfold raw
  rw [hτ, EReal.coe_add, coe_sum]
  simp only [hf, hg, EReal.coe_mul]

/-- With real scores the attention is the quotient of the weighted values by the weights. -/
theorem attend_eq (X : Fin 32768 → Fin 3072 → EReal) (T : Fin 16 → Fin 320 → EReal)
    (hX : ∀ n (c : Fin 3072), c.val < 2048 → ∃ ρ : ℝ, X n c = ρ) (hT : ∀ g p, ∃ ρ : ℝ, T g p = ρ) (b h : Fin 16) (r : Fin 2048) (e : Fin 64) :
    attend X T b h r e = quot (score X T b h r) fun j => X (row b j) (col 2 h e) := by
  unfold attend
  refine soft_eq_quot _ _ (fun j => ?_) ⟨r, ?_⟩
  · obtain ⟨ρ, hρ⟩ := raw_real X T hX hT b h r j
    unfold score
    rw [hρ]
    split
    · exact EReal.coe_ne_top ρ
    · exact bot_ne_top
  · obtain ⟨ρ, hρ⟩ := raw_real X T hX hT b h r r
    unfold score
    rw [hρ, if_pos ⟨le_rfl, by omega⟩]
    exact EReal.coe_ne_bot ρ

/-- The scores of a window's row, from the table's entry: positions count from the window's first key. -/
theorem score_window (X : Fin 32768 → Fin 3072 → EReal) (T : Fin 16 → Fin 320 → EReal) (b h : Fin 16) (r j : Fin 2048) (p q : ℕ)
    (hm : r.val % 64 = p % 64) (hd : (r.val : ℤ) - j.val = (p : ℤ) - q) :
    ∑ e, X (row b r) (col 0 h e) * X (row b j) (col 1 h e) + (if band p q then T h (pos p q) else ⊥) = score X T b h r j := by
  have hb : band p q ↔ band r.val j.val := by
    unfold band
    omega
  unfold score raw
  rw [← pos_shift _ _ _ _ hd]
  by_cases g : band r.val j.val
  · rw [if_pos g, if_pos (hb.2 g)]
  · rw [if_neg g, if_neg fun k => g (hb.1 k), EReal.add_bot]

end Cert.BandMath

namespace Cert.KernelIdeal.Value

open Cert.KernelIdeal Cert.KernelIdeal.Gen Cert.KernelIdeal.Body Cert.BandMath Cert.BandWord

variable (m : (ℓ : Loc nD τ sig) → Buf (Elt Ideal) ℓ)

/-- The index maps of the windows: a grid point is a pair of heads, a sequence and a block of its rows. -/
theorem idx : ∀ t : Fin cfg0.N, (grid0.coords t 2).val = t.val % 8
    ∧ win0_0.index t = ![t.val / 8 % 16 * 8 + t.val % 8, t.val / 128]
    ∧ win0_1.index t = ![t.val / 8 % 16 * 8 + (t.val % 8 - 2), 8 + t.val / 128]
    ∧ win0_2.index t = ![t.val / 8 % 16 * 8 + (t.val % 8 - 1), 8 + t.val / 128]
    ∧ win0_3.index t = ![t.val / 8 % 16 * 8 + t.val % 8, 8 + t.val / 128]
    ∧ win0_4.index t = ![t.val / 8 % 16 * 8 + (t.val % 8 - 2), 16 + t.val / 128]
    ∧ win0_5.index t = ![t.val / 8 % 16 * 8 + (t.val % 8 - 1), 16 + t.val / 128]
    ∧ win0_6.index t = ![t.val / 8 % 16 * 8 + t.val % 8, 16 + t.val / 128]
    ∧ win0_7.index t = ![t.val / 128, 0, 0]
    ∧ win0_8.index t = ![t.val / 8 % 16 * 8 + t.val % 8, t.val / 128] :=
  (by decide +kernel : ∀ t : Fin grid0.N, _)

/-- The reference's result over the kernel's arguments. -/
abbrev want (c : Dev nD) : FVec Ideal S32768x1024 .bf16 :=
  Cert.ReferenceIdeal.Read.val_main_v56 (F := Ideal) (m ((c : Thread nD τ).loc main_arg0)) (m ((c : Thread nD τ).loc main_arg1))

/-- The fused queries, keys and values as a function of row and column. -/
abbrev X (c : Dev nD) (n : Fin 32768) (k : Fin 3072) : EReal := (m ((c : Thread nD τ).loc main_arg0) : FVec Ideal S32768x3072 .bf16) (ix2 n k)

/-- The biases as a function of head and place. -/
abbrev T (c : Dev nD) (g : Fin 16) (p : Fin 320) : EReal := (m ((c : Thread nD τ).loc main_arg1) : FVec Ideal S16x320 .f32) (ix2 g p)

set_option maxHeartbeats 2000000 in
/-- What a grid point stores is the reference's result at the place it stores it. -/
theorem point (c : Dev nD) (hX : ∀ n (k : Fin 3072), k.val < 2048 → ∃ ρ : ℝ, X m c n k = ρ) (hT : ∀ g p, ∃ ρ : ℝ, T m c g p = ρ)
    (t : Fin cfg0.N) (y) :
    out0_8 (grid0.coords t) (iblk m c 0 t) (iblk m c 1 t) (iblk m c 2 t) (iblk m c 3 t) (iblk m c 4 t) (iblk m c 5 t) (iblk m c 6 t) (iblk m c 7 t) y
      = want m c (((cfg0.win 8).blk t).view.emb y) := by
  idx_vars y
  have hN : t.val < 1024 := t.isLt
  have h0 (r : Fin 256) (x : Fin 128) : iblk m c 0 t (ix2 r x) = X m c ⟨(t.val / 8 % 16 * 8 + t.val % 8) * 256 + r.val, by omega⟩ ⟨t.val / 128 * 128 + x.val, by omega⟩ := by
    refine Eq.trans ?_ (congrFun (V_main_arg0 m c) _)
    blk_ext [iblk, idx t]
  have h1 (r : Fin 256) (x : Fin 128) : iblk m c 1 t (ix2 r x) = X m c ⟨(t.val / 8 % 16 * 8 + (t.val % 8 - 2)) * 256 + r.val, by omega⟩ ⟨(8 + t.val / 128) * 128 + x.val, by omega⟩ := by
    refine Eq.trans ?_ (congrFun (V_main_arg0 m c) _)
    blk_ext [iblk, idx t]
  have h2 (r : Fin 256) (x : Fin 128) : iblk m c 2 t (ix2 r x) = X m c ⟨(t.val / 8 % 16 * 8 + (t.val % 8 - 1)) * 256 + r.val, by omega⟩ ⟨(8 + t.val / 128) * 128 + x.val, by omega⟩ := by
    refine Eq.trans ?_ (congrFun (V_main_arg0 m c) _)
    blk_ext [iblk, idx t]
  have h3 (r : Fin 256) (x : Fin 128) : iblk m c 3 t (ix2 r x) = X m c ⟨(t.val / 8 % 16 * 8 + t.val % 8) * 256 + r.val, by omega⟩ ⟨(8 + t.val / 128) * 128 + x.val, by omega⟩ := by
    refine Eq.trans ?_ (congrFun (V_main_arg0 m c) _)
    blk_ext [iblk, idx t]
  have h4 (r : Fin 256) (x : Fin 128) : iblk m c 4 t (ix2 r x) = X m c ⟨(t.val / 8 % 16 * 8 + (t.val % 8 - 2)) * 256 + r.val, by omega⟩ ⟨(16 + t.val / 128) * 128 + x.val, by omega⟩ := by
    refine Eq.trans ?_ (congrFun (V_main_arg0 m c) _)
    blk_ext [iblk, idx t]
  have h5 (r : Fin 256) (x : Fin 128) : iblk m c 5 t (ix2 r x) = X m c ⟨(t.val / 8 % 16 * 8 + (t.val % 8 - 1)) * 256 + r.val, by omega⟩ ⟨(16 + t.val / 128) * 128 + x.val, by omega⟩ := by
    refine Eq.trans ?_ (congrFun (V_main_arg0 m c) _)
    blk_ext [iblk, idx t]
  have h6 (r : Fin 256) (x : Fin 128) : iblk m c 6 t (ix2 r x) = X m c ⟨(t.val / 8 % 16 * 8 + t.val % 8) * 256 + r.val, by omega⟩ ⟨(16 + t.val / 128) * 128 + x.val, by omega⟩ := by
    refine Eq.trans ?_ (congrFun (V_main_arg0 m c) _)
    blk_ext [iblk, idx t]
  have h7 (hh : Fin 2) (r : Fin 256) (w : Fin 768) : iblk m c 7 t (ix3 hh r w)
      = (V m c main_v33 : FVec Ideal S16x256x768 .f32) (ix3 ⟨t.val / 128 * 2 + hh.val, by omega⟩ r w) := by
    blk_ext [iblk, idx t]
  have hz : want m c (((cfg0.win 8).blk t).view.emb (ix2 y0 y1))
      = want m c (ix2 ⟨(t.val / 8 % 16 * 8 + t.val % 8) * 256 + y0.val, by omega⟩ ⟨t.val / 128 * 128 + y1.val, by omega⟩) := by
    blk_ext [idx t]
  obtain ⟨hh, e, he⟩ : ∃ (hh : Fin 2) (e : Fin 64), y1 = lane hh e :=
    ⟨⟨y1.val / 64, by omega⟩, ⟨y1.val % 64, by omega⟩, Fin.ext (show y1.val = y1.val / 64 * 64 + y1.val % 64 by omega)⟩
  obtain ⟨i, hi⟩ : ∃ i : Fin 8, i.val = t.val % 8 := ⟨⟨t.val % 8, by omega⟩, rfl⟩
  obtain ⟨b, hb⟩ : ∃ b : Fin 16, b.val = t.val / 8 % 16 := ⟨⟨t.val / 8 % 16, by omega⟩, rfl⟩
  obtain ⟨h, hh'⟩ : ∃ h : Fin 16, h.val = t.val / 128 * 2 + hh.val := ⟨⟨t.val / 128 * 2 + hh.val, by omega⟩, rfl⟩
  have hg : (grid0.coords t 2).val = i.val := (idx t).1.trans hi.symm
  have k0 (e : Fin 64) : iblk m c 0 t (ix2 y0 (lane hh e)) = X m c (row b (key i y0)) (col 0 h e) := (h0 _ _).trans
    (congrArg₂ (X m c) (Fin.ext (by simp only [row, key]; omega)) (Fin.ext (by simp only [col, lane, Fin.val_zero]; omega)))
  have k1 (g : 2 ≤ i.val) (k : Fin 256) (e : Fin 64) : iblk m c 1 t (ix2 k (lane hh e)) = X m c (row b (key ⟨i.val - 2, by omega⟩ k)) (col 1 h e) := (h1 _ _).trans
    (congrArg₂ (X m c) (Fin.ext (by simp only [row, key]; omega)) (Fin.ext (by simp only [col, lane, Fin.val_one]; omega)))
  have k2 (g : 1 ≤ i.val) (k : Fin 256) (e : Fin 64) : iblk m c 2 t (ix2 k (lane hh e)) = X m c (row b (key ⟨i.val - 1, by omega⟩ k)) (col 1 h e) := (h2 _ _).trans
    (congrArg₂ (X m c) (Fin.ext (by simp only [row, key]; omega)) (Fin.ext (by simp only [col, lane, Fin.val_one]; omega)))
  have k3 (k : Fin 256) (e : Fin 64) : iblk m c 3 t (ix2 k (lane hh e)) = X m c (row b (key i k)) (col 1 h e) := (h3 _ _).trans
    (congrArg₂ (X m c) (Fin.ext (by simp only [row, key]; omega)) (Fin.ext (by simp only [col, lane, Fin.val_one]; omega)))
  have k4 (g : 2 ≤ i.val) (k : Fin 256) (e : Fin 64) : iblk m c 4 t (ix2 k (lane hh e)) = X m c (row b (key ⟨i.val - 2, by omega⟩ k)) (col 2 h e) := (h4 _ _).trans
    (congrArg₂ (X m c) (Fin.ext (by simp only [row, key]; omega)) (Fin.ext (by simp only [col, lane, Fin.val_two]; omega)))
  have k5 (g : 1 ≤ i.val) (k : Fin 256) (e : Fin 64) : iblk m c 5 t (ix2 k (lane hh e)) = X m c (row b (key ⟨i.val - 1, by omega⟩ k)) (col 2 h e) := (h5 _ _).trans
    (congrArg₂ (X m c) (Fin.ext (by simp only [row, key]; omega)) (Fin.ext (by simp only [col, lane, Fin.val_two]; omega)))
  have k6 (k : Fin 256) (e : Fin 64) : iblk m c 6 t (ix2 k (lane hh e)) = X m c (row b (key i k)) (col 2 h e) := (h6 _ _).trans
    (congrArg₂ (X m c) (Fin.ext (by simp only [row, key]; omega)) (Fin.ext (by simp only [col, lane, Fin.val_two]; omega)))
  have k7 (w : Fin 768) : iblk m c 7 t (ix3 hh y0 w) = if band (512 + y0.val) w.val then T m c h (pos (512 + y0.val) w.val) else ⊥ := by
    refine (h7 hh y0 w).trans ((congrFun (Table.entry m c) _).trans ((Table.table_eq y0 w _ _).trans ?_))
    rw [show (⟨t.val / 128 * 2 + hh.val, by omega⟩ : Fin 16) = h from Fin.ext hh'.symm]
  rw [hz, he]
  refine (body _ _ _ _ _ _ _ _ _ _ hh e).trans (Eq.trans ?_ (Cert.ReferenceIdeal.Rows.result _ _ b h (key i y0) e _ _
    (by simp only [key]; omega) (by simp only [lane]; omega)).symm)
  refine Eq.trans ?_ (attend_eq (X m c) (T m c) hX hT b h (key i y0) e).symm
  refine quot_window i _ _ _ _ _ _ _ _ ?_ ?_ ?_ ?_ ?_ ?_ ?_
  · intro J hJ k
    unfold score
    rw [if_neg]
    unfold near at hJ
    simp only [key, band]
    omega
  · intro k
    unfold s2 half
    rw [hg]
    split
    · rename_i g
      simp only [k0, k1 g, k7]
      exact score_window _ _ b h _ _ _ _ (by simp only [key]; omega) (by simp only [key]; omega)
    · rfl
  · intro k
    unfold s1 half
    rw [hg]
    split
    · rename_i g
      simp only [k0, k2 g, k7]
      exact score_window _ _ b h _ _ _ _ (by simp only [key]; omega) (by simp only [key]; omega)
    · rfl
  · intro k
    unfold s0 half
    simp only [k0, k3, k7]
    exact score_window _ _ b h _ _ _ _ (by simp only [key]; omega) (by simp only [key]; omega)
  · exact fun g k => k4 g k e
  · exact fun g k => k5 g k e
  · exact fun k => k6 k e

/-- The result array after the run. -/
theorem final (c : Dev nD) (hX : ∀ n (k : Fin 3072), k.val < 2048 → ∃ ρ : ℝ, X m c n k = ρ) (hT : ∀ g p, ∃ ρ : ℝ, T m c g p = ρ) :
    (dats m 0 c).arrAt 8 (cfgs 0).N = want m c := by
  refine (dats m 0 c).arrAt_eq_of_covers 8 _ (by decide +kernel) fun t _ y => ?_
  blk_simp
  rw [after0_8]
  exact point m c hX hT t y

end Cert.KernelIdeal.Value
-- ==== Proof.BandPre.lean ====
/- What the precondition of the band attention says: the queries, the keys and the biases are finite. -/
module

public import Idealize.ShloMosaic.Lib.Pipeline.ValueKit
public import Idealize.ShloMosaic.Lib.Pointwise
public import Idealize.ShloMosaic.Lib.Affine
public import Idealize.ShloMosaic.Lib.ReduceAll
public import proofs.«01_k».proof.Pre_finite_scores

@[expose] public section

set_option maxRecDepth 16384

noncomputable section

open Idealize.ShloMosaic

namespace Cert.Pre_finite_scores

/-- The shape relations that the precondition's operations take. -/
instance facts : Facts where
  slices_S32768x3072_S32768x2048_0_0 := by decide
  bitsLt_bf16_f32 := by decide
  bcast_S_S32768x2048 := by decide
  reducesTo_S32768x2048_S_d0_1 := by decide
  h_S_ := by decide
  bcast_S_S16x320 := by decide
  reducesTo_S16x320_S_d0_1 := by decide

/-- An absolute value below plus infinity is a real number's. -/
theorem fin_of_abs (x : EReal) (h : max x (-x) < ⊤) : ∃ ρ : ℝ, x = ρ := by
  have h1 : x ≠ ⊤ := fun e => absurd (max_lt_iff.1 h).1 (by rw [e]; exact lt_irrefl _)
  have h2 : x ≠ ⊥ := fun e => absurd (max_lt_iff.1 h).2 (by rw [e]; exact lt_irrefl _)
  exact ⟨x.toReal, (EReal.coe_toReal h1 h2).symm⟩

/-- The word of plus infinity. -/
theorem inf_bits : Ideal.ofBits .f32 2139095040#32 = ⊤ := by
  simp [Ideal.ofBits, Ideal.ieee]

/-- A comparison's bit is set only where the comparison holds. -/
theorem lt_of_bit {x : EReal} (h : BitVec.ofBool (decide (max x (-x) < ⊤)) = 1#1) : max x (-x) < ⊤ := by
  by_contra g
  rw [decide_eq_false g] at h
  exact absurd h (by decide)

/-- Where the precondition holds, every query, every key and every bias is a real number. -/
theorem finite (x : FVec Ideal S32768x3072 .bf16) (t : FVec Ideal S16x320 .f32) (h : fn (F := Ideal) x t = fun _ => 1#1) :
    (∀ (n : Fin 32768) (c : Fin 3072), c.val < 2048 → ∃ ρ : ℝ, x (ix2 n c) = ρ) ∧ ∀ (g : Fin 16) (p : Fin 320), ∃ ρ : ℝ, t (ix2 g p) = ρ := by
  have hj := congrFun h (fun a => a.elim0)
  obtain ⟨h1, h2⟩ := IntOp.andi_eq_one.1 hj
  refine ⟨fun n c hc => fin_of_abs _ ?_, fun g p => fin_of_abs _ ?_⟩
  · have := Host.reduce_andi_all _ _ _ _ _ h1 (ix2 n ⟨c.val, hc⟩)
    revert this
    pointwise []
    rw [inf_bits]
    exact lt_of_bit
  · have := Host.reduce_andi_all _ _ _ _ _ h2 (ix2 g p)
    revert this
    pointwise []
    rw [inf_bits]
    exact lt_of_bit

end Cert.Pre_finite_scores
-- ==== Proof.BandPair.lean ====
/- The claim about the band attention call: kernel and reference end with equal results. -/
module

public import proofs.«01_k».proof.Defs
public import proofs.«01_k».proof.Proof.BandValue
public import proofs.«01_k».proof.Proof.BandPre
public import proofs.«01_k».proof.Proof.Gen.ReferenceIdeal.Run
public import Idealize.ShloMosaic.Lib.Claim

@[expose] public section

set_option maxRecDepth 16384

noncomputable section

open Idealize.ShloMosaic Idealize.ShloMosaic.TcCoe Idealize.SL.Sem

namespace Cert.Pairs

/-- The band attention call: where queries, keys and biases are finite, the kernel's result is the reference's. -/
theorem band : Cert.algebraic_KernelIdeal_ReferenceIdeal_pre_finite_scores (hKernelIdeal := Cert.KernelIdeal.Gen.facts)
    (hReferenceIdeal := Cert.ReferenceIdeal.Gen.facts) (hPre_finite_scores := Cert.Pre_finite_scores.facts) := by
  pair_intro
  · run_from Cert.KernelIdeal.Gen.run_main m g
    exact Cert.KernelIdeal.Gen.V_main_arg1 m c
  · have hr := Cert.ReferenceIdeal.Value.run (F := Ideal) m' g'
    simp only [Cert.ReferenceIdeal.Read.val_main_v56_eq] at hr
    run_from hr
    obtain ⟨hX, hT⟩ := Cert.Pre_finite_scores.finite _ _ (hpre c)
    exact (Cert.KernelIdeal.Value.final m c hX hT).symm

end Cert.Pairs
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.FfnOdd
public import proofs.«01_k».proof.Proof.Gen.FfnOdd.Skeleton
public import proofs.«01_k».proof.Proof.Gen.FfnOdd.Launch
public import proofs.«01_k».proof.Proof.Gen.FfnOdd.Points
public import proofs.«01_k».proof.Proof.Gen.FfnOdd.Frame
public import proofs.«01_k».proof.Proof.Gen.FfnOddIdeal
public import proofs.«01_k».proof.Proof.Gen.FfnOddIdeal.Skeleton
public import proofs.«01_k».proof.Proof.Gen.FfnOddIdeal.Launch
public import proofs.«01_k».proof.Proof.Gen.FfnOddIdeal.Points
public import proofs.«01_k».proof.Proof.Gen.FfnOddIdeal.Frame
public import proofs.«01_k».proof.Proof.Gen.FfnOddRefIdeal
public import proofs.«01_k».proof.Proof.Gen.FfnOddRefIdeal.Run
public import proofs.«01_k».proof.Proof.Gen.FfnOddRefIdeal.Read
public import proofs.«01_k».proof.Proof.Gen.FfnEvenRefIdeal.Run
public import proofs.«01_k».proof.Proof.Gen.FfnEvenRefIdeal.Read
public import proofs.«01_k».proof.Proof.Gen.FfnEven
public import proofs.«01_k».proof.Proof.Gen.FfnEven.Skeleton
public import proofs.«01_k».proof.Proof.Gen.FfnEven.Launch
public import proofs.«01_k».proof.Proof.Gen.FfnEven.Points
public import proofs.«01_k».proof.Proof.Gen.FfnEven.Frame
public import proofs.«01_k».proof.Proof.Gen.FfnEvenIdeal
public import proofs.«01_k».proof.Proof.Gen.FfnEvenIdeal.Skeleton
public import proofs.«01_k».proof.Proof.Gen.FfnEvenIdeal.Launch
public import proofs.«01_k».proof.Proof.Gen.FfnEvenIdeal.Points
public import proofs.«01_k».proof.Proof.Gen.FfnEvenIdeal.Frame
public import proofs.«01_k».proof.Proof.Gen.FfnEvenRefIdeal
public import proofs.«01_k».proof.Proof.Gen.ProjOddRefIdeal.Run
public import proofs.«01_k».proof.Proof.Gen.ProjOddRefIdeal.Read
public import proofs.«01_k».proof.Proof.Gen.ProjOdd
public import proofs.«01_k».proof.Proof.Gen.ProjOdd.Skeleton
public import proofs.«01_k».proof.Proof.Gen.ProjOdd.Launch
public import proofs.«01_k».proof.Proof.Gen.ProjOdd.Points
public import proofs.«01_k».proof.Proof.Gen.ProjOdd.Frame
public import proofs.«01_k».proof.Proof.Gen.ProjOddIdeal
public import proofs.«01_k».proof.Proof.Gen.ProjOddIdeal.Skeleton
public import proofs.«01_k».proof.Proof.Gen.ProjOddIdeal.Launch
public import proofs.«01_k».proof.Proof.Gen.ProjOddIdeal.Points
public import proofs.«01_k».proof.Proof.Gen.ProjOddIdeal.Frame
public import proofs.«01_k».proof.Proof.Gen.ProjOddRefIdeal
public import proofs.«01_k».proof.Proof.Gen.ProjEvenRefIdeal.Run
public import proofs.«01_k».proof.Proof.Gen.ProjEvenRefIdeal.Read
public import proofs.«01_k».proof.Proof.Gen.ProjEven
public import proofs.«01_k».proof.Proof.Gen.ProjEven.Skeleton
public import proofs.«01_k».proof.Proof.Gen.ProjEven.Launch
public import proofs.«01_k».proof.Proof.Gen.ProjEven.Points
public import proofs.«01_k».proof.Proof.Gen.ProjEven.Frame
public import proofs.«01_k».proof.Proof.Gen.ProjEvenIdeal
public import proofs.«01_k».proof.Proof.Gen.ProjEvenIdeal.Skeleton
public import proofs.«01_k».proof.Proof.Gen.ProjEvenIdeal.Launch
public import proofs.«01_k».proof.Proof.Gen.ProjEvenIdeal.Points
public import proofs.«01_k».proof.Proof.Gen.ProjEvenIdeal.Frame
public import proofs.«01_k».proof.Proof.Gen.ProjEvenRefIdeal
public import proofs.«01_k».proof.Proof.Pairs
public import proofs.«01_k».proof.Proof.BandPair
public import Idealize.ShloMosaic.Adequacy
public import Idealize.ShloMosaic.Lib.Quiescent
public import Idealize.ShloMosaic.Init

@[expose] public section

set_option maxRecDepth 16384

noncomputable section

-- The claims also say that every semaphore counter ends at zero; the generated frames and host runs show it.

namespace Cert.Proof

open Idealize.ShloMosaic Idealize.SL.Sem

/-- The reference of this pair runs and leaves its arguments as they were. -/
theorem reference_quiet : Cert.quiescent_ReferenceIdeal (hReferenceIdeal := Cert.ReferenceIdeal.Gen.facts) := by
  intro m g _
  hlo_run
  · intro _; repeat (first | exact trivial | constructor)
  · exact sem_eq_zero_of_no_sems (sig := Cert.ReferenceIdeal.sig) rfl _

/-- The reference of this pair runs and leaves its arguments as they were. -/
theorem ffnRef_quiet : Cert.quiescent_FfnRefIdeal (hFfnRefIdeal := Cert.FfnRefIdeal.Gen.facts) := by
  intro m g _
  hlo_run
  · intro _; repeat (first | exact trivial | constructor)
  · exact sem_eq_zero_of_no_sems (sig := Cert.FfnRefIdeal.sig) rfl _

/-- The reference of this pair runs and leaves its arguments as they were. -/
theorem ffnOddRef_quiet : Cert.quiescent_FfnOddRefIdeal (hFfnOddRefIdeal := Cert.FfnOddRefIdeal.Gen.facts) := by
  intro m g _
  hlo_run
  · intro _; repeat (first | exact trivial | constructor)
  · exact sem_eq_zero_of_no_sems (sig := Cert.FfnOddRefIdeal.sig) rfl _

/-- The reference of this pair runs and leaves its arguments as they were. -/
theorem ffnEvenRef_quiet : Cert.quiescent_FfnEvenRefIdeal (hFfnEvenRefIdeal := Cert.FfnEvenRefIdeal.Gen.facts) := by
  intro m g _
  hlo_run
  · intro _; repeat (first | exact trivial | constructor)
  · exact sem_eq_zero_of_no_sems (sig := Cert.FfnEvenRefIdeal.sig) rfl _

/-- The reference of this pair runs and leaves its arguments as they were. -/
theorem projOddRef_quiet : Cert.quiescent_ProjOddRefIdeal (hProjOddRefIdeal := Cert.ProjOddRefIdeal.Gen.facts) := by
  intro m g _
  hlo_run
  · intro _; repeat (first | exact trivial | constructor)
  · exact sem_eq_zero_of_no_sems (sig := Cert.ProjOddRefIdeal.sig) rfl _

/-- The reference of this pair runs and leaves its arguments as they were. -/
theorem projEvenRef_quiet : Cert.quiescent_ProjEvenRefIdeal (hProjEvenRefIdeal := Cert.ProjEvenRefIdeal.Gen.facts) := by
  intro m g _
  hlo_run
  · intro _; repeat (first | exact trivial | constructor)
  · exact sem_eq_zero_of_no_sems (sig := Cert.ProjEvenRefIdeal.sig) rfl _

/-- The band-attention reference, under the precondition. -/
theorem reference_quiet_pre : Cert.quiescent_ReferenceIdeal_pre_finite_scores (hReferenceIdeal := Cert.ReferenceIdeal.Gen.facts)
    (hPre_finite_scores := Cert.Pre_finite_scores.facts) :=
  fun m g _ => reference_quiet m g trivial

/-- The certificate's claim. -/
theorem claim : Cert.Claim := ⟨Cert.Kernel.Gen.facts, Cert.KernelIdeal.Gen.facts, Cert.ReferenceIdeal.Gen.facts, Cert.Ffn.Gen.facts, Cert.FfnIdeal.Gen.facts, Cert.FfnRefIdeal.Gen.facts, Cert.FfnOdd.Gen.facts, Cert.FfnOddIdeal.Gen.facts, Cert.FfnOddRefIdeal.Gen.facts, Cert.FfnEven.Gen.facts, Cert.FfnEvenIdeal.Gen.facts, Cert.FfnEvenRefIdeal.Gen.facts, Cert.ProjOdd.Gen.facts, Cert.ProjOddIdeal.Gen.facts, Cert.ProjOddRefIdeal.Gen.facts, Cert.ProjEven.Gen.facts, Cert.ProjEvenIdeal.Gen.facts, Cert.ProjEvenRefIdeal.Gen.facts, Cert.Pre_finite_scores.facts,
  fun m g _ => Cert.Kernel.Gen.frame m g,
  fun m g _ => Cert.KernelIdeal.Gen.frame m g,
  fun m g _ => Cert.KernelIdeal.Gen.frame m g,
  reference_quiet, reference_quiet_pre,
  fun m g _ => Cert.Ffn.Gen.frame m g, fun m g _ => Cert.FfnIdeal.Gen.frame m g, ffnRef_quiet,
  fun m g _ => Cert.FfnOdd.Gen.frame m g, fun m g _ => Cert.FfnOddIdeal.Gen.frame m g, ffnOddRef_quiet,
  fun m g _ => Cert.FfnEven.Gen.frame m g, fun m g _ => Cert.FfnEvenIdeal.Gen.frame m g, ffnEvenRef_quiet,
  fun m g _ => Cert.ProjOdd.Gen.frame m g, fun m g _ => Cert.ProjOddIdeal.Gen.frame m g, projOddRef_quiet,
  fun m g _ => Cert.ProjEven.Gen.frame m g, fun m g _ => Cert.ProjEvenIdeal.Gen.frame m g, projEvenRef_quiet,
  IdealRules.named_const.statement Cert.KernelIdeal.κ "mask" .f32 0xF149F2CA#32 ⊥ rfl,
  Cert.Pairs.band,
  trivial, Cert.Pairs.ffn, trivial, Cert.Pairs.ffnOdd, trivial, Cert.Pairs.ffnEven, trivial, Cert.Pairs.projOdd, trivial, Cert.Pairs.projEven⟩

end Cert.Proof

end
